-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_whole_gate [hPre_whole_gate : Cert.Pre_whole_gate.Facts] (m : (ℓ : Loc Cert.KernelIdeal.nD Cert.KernelIdeal.τ Cert.KernelIdeal.sig) → Buf (Elt Ideal) ℓ) : Prop :=
  ∀ c : Dev Cert.KernelIdeal.nD,
    (Cert.Pre_whole_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_whole_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_whole_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_whole_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_whole_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_whole_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_whole_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_whole_gate [hPre_whole_gate : Cert.Pre_whole_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_whole_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_whole_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_whole_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_whole_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_whole_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_whole_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_whole_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_whole_loss [hPre_whole_loss : Cert.Pre_whole_loss.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_whole_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_whole_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_whole_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_whole_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.1 = (fun _ => 1#1)
    ∧ (Cert.Pre_whole_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_whole_loss [hPre_whole_loss : Cert.Pre_whole_loss.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_whole_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_whole_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_whole_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_whole_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.1 = (fun _ => 1#1)
    ∧ (Cert.Pre_whole_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_whole_ffn [hPre_whole_ffn : Cert.Pre_whole_ffn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_whole_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_whole_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_whole_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_whole_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_whole_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_whole_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_whole_ffn [hPre_whole_ffn : Cert.Pre_whole_ffn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_whole_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_whole_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_whole_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_whole_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_whole_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_whole_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_whole_in [hPre_whole_in : Cert.Pre_whole_in.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.1 = (fun _ => 1#1)
    ∧ (Cert.Pre_whole_in.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))).2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_whole_in [hPre_whole_in : Cert.Pre_whole_in.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.1 = (fun _ => 1#1)
    ∧ (Cert.Pre_whole_in.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_whole_gate [hKernelIdeal : Cert.KernelIdeal.Facts] [hPre_whole_gate : Cert.Pre_whole_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_whole_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_whole_gate [hReferenceIdeal : Cert.ReferenceIdeal.Facts] [hPre_whole_gate : Cert.Pre_whole_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_whole_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_whole_loss [hKernel3Ideal : Cert.Kernel3Ideal.Facts] [hPre_whole_loss : Cert.Pre_whole_loss.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_whole_loss m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_whole_loss [hReference3Ideal : Cert.Reference3Ideal.Facts] [hPre_whole_loss : Cert.Pre_whole_loss.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_whole_loss m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_whole_ffn [hKernel4Ideal : Cert.Kernel4Ideal.Facts] [hPre_whole_ffn : Cert.Pre_whole_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_whole_ffn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_whole_ffn [hReference4Ideal : Cert.Reference4Ideal.Facts] [hPre_whole_ffn : Cert.Pre_whole_ffn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_whole_ffn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_whole_in [hKernel5Ideal : Cert.Kernel5Ideal.Facts] [hPre_whole_in : Cert.Pre_whole_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_whole_in m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_whole_in [hReference5Ideal : Cert.Reference5Ideal.Facts] [hPre_whole_in : Cert.Pre_whole_in.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_whole_in m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def preserves_Kernel_KernelIdeal : Prop :=
  IdealRules.named_const.Statement Cert.KernelIdeal.κ "gelu_a" .bf16 0x3D37#16 ((12003091 / 268435456 : ℝ) : EReal)
  ∧ IdealRules.named_const.Statement Cert.KernelIdeal.κ "gelu_c" .bf16 0x3F4C#16 ((6693141 / 8388608 : ℝ) : EReal)
  ∧ IdealRules.named_const.Statement Cert.KernelIdeal.κ "gelu_3a" .bf16 0x3E09#16 ((36009273 / 268435456 : ℝ) : EReal)

def algebraic_KernelIdeal_ReferenceIdeal_pre_whole_gate [hKernelIdeal : Cert.KernelIdeal.Facts] [hReferenceIdeal : Cert.ReferenceIdeal.Facts] [hPre_whole_gate : Cert.Pre_whole_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_whole_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v64) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal_pre_whole_loss [hKernel3Ideal : Cert.Kernel3Ideal.Facts] [hReference3Ideal : Cert.Reference3Ideal.Facts] [hPre_whole_loss : Cert.Pre_whole_loss.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_whole_loss m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v64) = v2 c
          ∧ r.2.mem ((c.tc : Thread Cert.Reference3Ideal.nD Cert.Reference3Ideal.τ).loc Cert.Reference3Ideal.main_v65) = v3 c
          ∧ r.2.mem ((c.tc : Thread Cert.Reference3Ideal.nD Cert.Reference3Ideal.τ).loc Cert.Reference3Ideal.main_v40) = v4 c
          ∧ r.2.mem ((c.tc : Thread Cert.Reference3Ideal.nD Cert.Reference3Ideal.τ).loc Cert.Reference3Ideal.main_v66) = v5 c
          ∧ r.2.mem ((c.tc : Thread Cert.Reference3Ideal.nD Cert.Reference3Ideal.τ).loc Cert.Reference3Ideal.main_v67) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_whole_ffn [hKernel4Ideal : Cert.Kernel4Ideal.Facts] [hReference4Ideal : Cert.Reference4Ideal.Facts] [hPre_whole_ffn : Cert.Pre_whole_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_whole_ffn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v24) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_whole_in [hKernel5Ideal : Cert.Kernel5Ideal.Facts] [hReference5Ideal : Cert.Reference5Ideal.Facts] [hPre_whole_in : Cert.Pre_whole_in.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_whole_in m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v44) = v0 c
          ∧ r.2.mem ((c.tc : Thread Cert.Reference5Ideal.nD Cert.Reference5Ideal.τ).loc Cert.Reference5Ideal.main_v46) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel12_Kernel12Ideal : Prop :=
  IdealRules.named_const.Statement Cert.Kernel12Ideal.κ "gelu_a" .bf16 0x3D37#16 ((12003091 / 268435456 : ℝ) : EReal)
  ∧ IdealRules.named_const.Statement Cert.Kernel12Ideal.κ "gelu_c" .bf16 0x3F4C#16 ((6693141 / 8388608 : ℝ) : EReal)

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_v40) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_v16) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v33) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v26) = v1 c
          ∧ r.2.mem ((c.tc : Thread Cert.Reference20Ideal.nD Cert.Reference20Ideal.τ).loc Cert.Reference20Ideal.main_v7) = v2 c
          ∧ r.2.mem ((c.tc : Thread Cert.Reference20Ideal.nD Cert.Reference20Ideal.τ).loc Cert.Reference20Ideal.main_v13) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_v26) = v1 c
          ∧ r.2.mem ((c.tc : Thread Cert.Reference21Ideal.nD Cert.Reference21Ideal.τ).loc Cert.Reference21Ideal.main_v7) = v2 c
          ∧ r.2.mem ((c.tc : Thread Cert.Reference21Ideal.nD Cert.Reference21Ideal.τ).loc Cert.Reference21Ideal.main_v13) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_v26) = v1 c
          ∧ r.2.mem ((c.tc : Thread Cert.Reference22Ideal.nD Cert.Reference22Ideal.τ).loc Cert.Reference22Ideal.main_v7) = v2 c
          ∧ r.2.mem ((c.tc : Thread Cert.Reference22Ideal.nD Cert.Reference22Ideal.τ).loc Cert.Reference22Ideal.main_v13) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_v26) = v1 c
          ∧ r.2.mem ((c.tc : Thread Cert.Reference23Ideal.nD Cert.Reference23Ideal.τ).loc Cert.Reference23Ideal.main_v7) = v2 c
          ∧ r.2.mem ((c.tc : Thread Cert.Reference23Ideal.nD Cert.Reference23Ideal.τ).loc Cert.Reference23Ideal.main_v13) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg0) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel11 : Cert.Kernel11.Facts) (hKernel11Ideal : Cert.Kernel11Ideal.Facts) (hReference11Ideal : Cert.Reference11Ideal.Facts) (hKernel2 : Cert.Kernel2.Facts) (hKernel2Ideal : Cert.Kernel2Ideal.Facts) (hReference2Ideal : Cert.Reference2Ideal.Facts) (hKernel13 : Cert.Kernel13.Facts) (hKernel13Ideal : Cert.Kernel13Ideal.Facts) (hReference13Ideal : Cert.Reference13Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_whole_gate : Cert.Pre_whole_gate.Facts) (hPre_whole_loss : Cert.Pre_whole_loss.Facts) (hPre_whole_ffn : Cert.Pre_whole_ffn.Facts) (hPre_whole_in : Cert.Pre_whole_in.Facts),
    quiescent_Kernel (hKernel := hKernel)
    ∧ quiescent_KernelIdeal (hKernelIdeal := hKernelIdeal)
    ∧ quiescent_KernelIdeal_pre_whole_gate (hKernelIdeal := hKernelIdeal) (hPre_whole_gate := hPre_whole_gate)
    ∧ quiescent_ReferenceIdeal (hReferenceIdeal := hReferenceIdeal)
    ∧ quiescent_ReferenceIdeal_pre_whole_gate (hReferenceIdeal := hReferenceIdeal) (hPre_whole_gate := hPre_whole_gate)
    ∧ quiescent_Kernel3 (hKernel3 := hKernel3)
    ∧ quiescent_Kernel3Ideal (hKernel3Ideal := hKernel3Ideal)
    ∧ quiescent_Kernel3Ideal_pre_whole_loss (hKernel3Ideal := hKernel3Ideal) (hPre_whole_loss := hPre_whole_loss)
    ∧ quiescent_Reference3Ideal (hReference3Ideal := hReference3Ideal)
    ∧ quiescent_Reference3Ideal_pre_whole_loss (hReference3Ideal := hReference3Ideal) (hPre_whole_loss := hPre_whole_loss)
    ∧ quiescent_Kernel4 (hKernel4 := hKernel4)
    ∧ quiescent_Kernel4Ideal (hKernel4Ideal := hKernel4Ideal)
    ∧ quiescent_Kernel4Ideal_pre_whole_ffn (hKernel4Ideal := hKernel4Ideal) (hPre_whole_ffn := hPre_whole_ffn)
    ∧ quiescent_Reference4Ideal (hReference4Ideal := hReference4Ideal)
    ∧ quiescent_Reference4Ideal_pre_whole_ffn (hReference4Ideal := hReference4Ideal) (hPre_whole_ffn := hPre_whole_ffn)
    ∧ quiescent_Kernel5 (hKernel5 := hKernel5)
    ∧ quiescent_Kernel5Ideal (hKernel5Ideal := hKernel5Ideal)
    ∧ quiescent_Kernel5Ideal_pre_whole_in (hKernel5Ideal := hKernel5Ideal) (hPre_whole_in := hPre_whole_in)
    ∧ quiescent_Reference5Ideal (hReference5Ideal := hReference5Ideal)
    ∧ quiescent_Reference5Ideal_pre_whole_in (hReference5Ideal := hReference5Ideal) (hPre_whole_in := hPre_whole_in)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_whole_gate (hKernelIdeal := hKernelIdeal) (hReferenceIdeal := hReferenceIdeal) (hPre_whole_gate := hPre_whole_gate)
    ∧ preserves_Kernel3_Kernel3Ideal
    ∧ algebraic_Kernel3Ideal_Reference3Ideal_pre_whole_loss (hKernel3Ideal := hKernel3Ideal) (hReference3Ideal := hReference3Ideal) (hPre_whole_loss := hPre_whole_loss)
    ∧ preserves_Kernel4_Kernel4Ideal
    ∧ algebraic_Kernel4Ideal_Reference4Ideal_pre_whole_ffn (hKernel4Ideal := hKernel4Ideal) (hReference4Ideal := hReference4Ideal) (hPre_whole_ffn := hPre_whole_ffn)
    ∧ preserves_Kernel5_Kernel5Ideal
    ∧ algebraic_Kernel5Ideal_Reference5Ideal_pre_whole_in (hKernel5Ideal := hKernel5Ideal) (hReference5Ideal := hReference5Ideal) (hPre_whole_in := hPre_whole_in)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel11_Kernel11Ideal
    ∧ algebraic_Kernel11Ideal_Reference11Ideal (hKernel11Ideal := hKernel11Ideal) (hReference11Ideal := hReference11Ideal)
    ∧ preserves_Kernel2_Kernel2Ideal
    ∧ algebraic_Kernel2Ideal_Reference2Ideal (hKernel2Ideal := hKernel2Ideal) (hReference2Ideal := hReference2Ideal)
    ∧ preserves_Kernel13_Kernel13Ideal
    ∧ algebraic_Kernel13Ideal_Reference13Ideal (hKernel13Ideal := hKernel13Ideal) (hReference13Ideal := hReference13Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_whole_ffn.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S5632x1024 : S_.BroadcastsInDim S5632x1024 (![] : Fin 0 → Fin S5632x1024.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part1 {F : FTy → Type} [FloatOps F] (main_v3 : IVec S8192x2816 1) (main_v7 : IVec S8192x2816 1) (main_v11 : IVec S5632x1024 1) (main_v14 : IVec S8192x1024 1) (main_v17 : IVec S1x1024 1) (main_v18 : FVec F S8192x1024 .f32) : IVec S8192x2816 1 × IVec S8192x2816 1 × IVec S5632x1024 1 × IVec S8192x1024 1 × IVec S1x1024 1 × IVec S8192x1024 1 :=
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  (main_v3, main_v7, main_v11, main_v14, main_v17, main_v20)

def fn {F : FTy → Type} [FloatOps F] (main_arg0 : FVec F S8192x2816 .bf16) (main_arg1 : FVec F S8192x2816 .bf16) (main_arg2 : FVec F S5632x1024 .bf16) (main_arg3 : FVec F S8192x1024 .f32) (main_arg4 : FVec F S1x1024 .f32) (main_arg5 : FVec F S8192x1024 .f32) : IVec S8192x2816 1 × IVec S8192x2816 1 × IVec S5632x1024 1 × IVec S8192x1024 1 × IVec S1x1024 1 × IVec S8192x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S5632x1024 .f32 := (extf .f32 · bitsLt_bf16_f32) main_arg2
  let main_v9 : FVec F S5632x1024 .f32 := Host.absf main_v8
  let main_cst_1 : FVec F S_ .f32 := constant S_ .f32 0x7F800000#32
  let main_v10 : FVec F S5632x1024 .f32 := broadcastInDim S5632x1024 ![] bcast_S_S5632x1024 main_cst_1
  let main_v11 : IVec S5632x1024 1 := cmpf .olt main_v9 main_v10
  let main_v12 : FVec F S8192x1024 .f32 := Host.absf main_arg3
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_v15 : FVec F S1x1024 .f32 := Host.absf main_arg4
  let main_cst_3 : FVec F S_ .f32 := constant S_ .f32 0x7F800000#32
  let main_v16 : FVec F S1x1024 .f32 := broadcastInDim S1x1024 ![] bcast_S_S1x1024 main_cst_3
  let main_v17 : IVec S1x1024 1 := cmpf .olt main_v15 main_v16
  let main_v18 : FVec F S8192x1024 .f32 := Host.absf main_arg5
  fn_part1 (F := F) main_v3 main_v7 main_v11 main_v14 main_v17 main_v18
-- ==== Pre_whole_gate.lean ====
abbrev S8192x1024 : Shape := ⟨2, ![8192, 1024]⟩
abbrev S1024x1024 : Shape := ⟨2, ![1024, 1024]⟩
abbrev S8192x5632 : Shape := ⟨2, ![8192, 5632]⟩
abbrev S1x2048 : Shape := ⟨2, ![1, 2048]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x5632 : S_.BroadcastsInDim S8192x5632 (![] : Fin 0 → Fin S8192x5632.rank)
  bcast_S_S1x2048 : S_.BroadcastsInDim S1x2048 (![] : Fin 0 → Fin S1x2048.rank)

variable [Facts]

def fn_part1 {F : FTy → Type} [FloatOps F] (main_arg5 : FVec F S8192x1024 .bf16) (main_arg6 : FVec F S1x2048 .f32) (main_v3 : IVec S8192x1024 1) (main_v7 : IVec S1024x1024 1) (main_v11 : IVec S8192x1024 1) (main_v15 : IVec S8192x1024 1) (main_v17 : FVec F S8192x5632 .f32) (main_v18 : FVec F S8192x5632 .f32) : IVec S8192x1024 1 × IVec S1024x1024 1 × IVec S8192x1024 1 × IVec S8192x1024 1 × IVec S8192x5632 1 × IVec S8192x1024 1 × IVec S1x2048 1 :=
  let main_v19 : IVec S8192x5632 1 := cmpf .olt main_v17 main_v18
  let main_v20 : FVec F S8192x1024 .f32 := (extf .f32 · bitsLt_bf16_f32) main_arg5
  let main_v21 : FVec F S8192x1024 .f32 := Host.absf main_v20
  let main_cst_4 : FVec F S_ .f32 := constant S_ .f32 0x7F800000#32
  let main_v22 : FVec F S8192x1024 .f32 := broadcastInDim S8192x1024 ![] bcast_S_S8192x1024 main_cst_4
  let main_v23 : IVec S8192x1024 1 := cmpf .olt main_v21 main_v22
  let main_v24 : FVec F S1x2048 .f32 := Host.absf main_arg6
  let main_cst_5 : FVec F S_ .f32 := constant S_ .f32 0x7F800000#32
  let main_v25 : FVec F S1x2048 .f32 := broadcastInDim S1x2048 ![] bcast_S_S1x2048 main_cst_5
  let main_v26 : IVec S1x2048 1 := cmpf .olt main_v24 main_v25
  (main_v3, main_v7, main_v11, main_v15, main_v19, main_v23, main_v26)

def fn {F : FTy → Type} [FloatOps F] (main_arg0 : FVec F S8192x1024 .bf16) (main_arg1 : FVec F S1024x1024 .bf16) (main_arg2 : FVec F S8192x1024 .bf16) (main_arg3 : FVec F S8192x1024 .bf16) (main_arg4 : FVec F S8192x5632 .bf16) (main_arg5 : FVec F S8192x1024 .bf16) (main_arg6 : FVec F S1x2048 .f32) : IVec S8192x1024 1 × IVec S1024x1024 1 × IVec S8192x1024 1 × IVec S8192x1024 1 × IVec S8192x5632 1 × IVec S8192x1024 1 × IVec S1x2048 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x1024 .f32 := (extf .f32 · bitsLt_bf16_f32) main_arg3
  let main_v13 : FVec F S8192x1024 .f32 := Host.absf main_v12
  let main_cst_2 : FVec F S_ .f32 := constant S_ .f32 0x7F800000#32
  let main_v14 : FVec F S8192x1024 .f32 := broadcastInDim S8192x1024 ![] bcast_S_S8192x1024 main_cst_2
  let main_v15 : IVec S8192x1024 1 := cmpf .olt main_v13 main_v14
  let main_v16 : FVec F S8192x5632 .f32 := (extf .f32 · bitsLt_bf16_f32) main_arg4
  let main_v17 : FVec F S8192x5632 .f32 := Host.absf main_v16
  let main_cst_3 : FVec F S_ .f32 := constant S_ .f32 0x7F800000#32
  let main_v18 : FVec F S8192x5632 .f32 := broadcastInDim S8192x5632 ![] bcast_S_S8192x5632 main_cst_3
  fn_part1 (F := F) main_arg5 main_arg6 main_v3 main_v7 main_v11 main_v15 main_v17 main_v18
-- ==== Pre_whole_in.lean ====
abbrev S8192x1024 : Shape := ⟨2, ![8192, 1024]⟩
abbrev S8192x512 : Shape := ⟨2, ![8192, 512]⟩
abbrev S8192x2048 : Shape := ⟨2, ![8192, 2048]⟩
abbrev S5632x1024 : Shape := ⟨2, ![5632, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x512 : S_.BroadcastsInDim S8192x512 (![] : Fin 0 → Fin S8192x512.rank)
  bcast_S_S8192x2048 : S_.BroadcastsInDim S8192x2048 (![] : Fin 0 → Fin S8192x2048.rank)
  bcast_S_S5632x1024 : S_.BroadcastsInDim S5632x1024 (![] : Fin 0 → Fin S5632x1024.rank)
  bcast_S_S1x1024 : S_.BroadcastsInDim S1x1024 (![] : Fin 0 → Fin S1x1024.rank)

variable [Facts]

def fn_part1 {F : FTy → Type} [FloatOps F] (main_arg5 : FVec F S5632x1024 .bf16) (main_arg6 : FVec F S8192x1024 .f32) (main_arg7 : FVec F S1x1024 .f32) (main_arg8 : FVec F S8192x1024 .f32) (main_v3 : IVec S8192x1024 1) (main_v7 : IVec S8192x1024 1) (main_v11 : IVec S8192x1024 1) (main_v15 : IVec S8192x512 1) (main_v17 : FVec F S8192x2048 .f32) (main_v18 : FVec F S8192x2048 .f32) : IVec S8192x1024 1 × IVec S8192x1024 1 × IVec S8192x1024 1 × IVec S8192x512 1 × IVec S8192x2048 1 × IVec S5632x1024 1 × IVec S8192x1024 1 × IVec S1x1024 1 × IVec S8192x1024 1 :=
  let main_v19 : IVec S8192x2048 1 := cmpf .olt main_v17 main_v18
  let main_v20 : FVec F S5632x1024 .f32 := (extf .f32 · bitsLt_bf16_f32) main_arg5
  let main_v21 : FVec F S5632x1024 .f32 := Host.absf main_v20
  let main_cst_4 : FVec F S_ .f32 := constant S_ .f32 0x7F800000#32
  let main_v22 : FVec F S5632x1024 .f32 := broadcastInDim S5632x1024 ![] bcast_S_S5632x1024 main_cst_4
  let main_v23 : IVec S5632x1024 1 := cmpf .olt main_v21 main_v22
  let main_v24 : FVec F S8192x1024 .f32 := Host.absf main_arg6
  let main_cst_5 : FVec F S_ .f32 := constant S_ .f32 0x7F800000#32
  let main_v25 : FVec F S8192x1024 .f32 := broadcastInDim S8192x1024 ![] bcast_S_S8192x1024 main_cst_5
  let main_v26 : IVec S8192x1024 1 := cmpf .olt main_v24 main_v25
  let main_v27 : FVec F S1x1024 .f32 := Host.absf main_arg7
  let main_cst_6 : FVec F S_ .f32 := constant S_ .f32 0x7F800000#32
  let main_v28 : FVec F S1x1024 .f32 := broadcastInDim S1x1024 ![] bcast_S_S1x1024 main_cst_6
  let main_v29 : IVec S1x1024 1 := cmpf .olt main_v27 main_v28
  let main_v30 : FVec F S8192x1024 .f32 := Host.absf main_arg8
  let main_cst_7 : FVec F S_ .f32 := constant S_ .f32 0x7F800000#32
  let main_v31 : FVec F S8192x1024 .f32 := broadcastInDim S8192x1024 ![] bcast_S_S8192x1024 main_cst_7
  let main_v32 : IVec S8192x1024 1 := cmpf .olt main_v30 main_v31
  (main_v3, main_v7, main_v11, main_v15, main_v19, main_v23, main_v26, main_v29, main_v32)

def fn {F : FTy → Type} [FloatOps F] (main_arg0 : FVec F S8192x1024 .bf16) (main_arg1 : FVec F S8192x1024 .bf16) (main_arg2 : FVec F S8192x1024 .bf16) (main_arg3 : FVec F S8192x512 .bf16) (main_arg4 : FVec F S8192x2048 .bf16) (main_arg5 : FVec F S5632x1024 .bf16) (main_arg6 : FVec F S8192x1024 .f32) (main_arg7 : FVec F S1x1024 .f32) (main_arg8 : FVec F S8192x1024 .f32) : IVec S8192x1024 1 × IVec S8192x1024 1 × IVec S8192x1024 1 × IVec S8192x512 1 × IVec S8192x2048 1 × IVec S5632x1024 1 × IVec S8192x1024 1 × IVec S1x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_v16 : FVec F S8192x2048 .f32 := (extf .f32 · bitsLt_bf16_f32) main_arg4
  let main_v17 : FVec F S8192x2048 .f32 := Host.absf main_v16
  let main_cst_3 : FVec F S_ .f32 := constant S_ .f32 0x7F800000#32
  let main_v18 : FVec F S8192x2048 .f32 := broadcastInDim S8192x2048 ![] bcast_S_S8192x2048 main_cst_3
  fn_part1 (F := F) main_arg5 main_arg6 main_arg7 main_arg8 main_v3 main_v7 main_v11 main_v15 main_v17 main_v18
-- ==== Pre_whole_loss.lean ====
abbrev S8192x5632 : Shape := ⟨2, ![8192, 5632]⟩
abbrev S8192x1024 : Shape := ⟨2, ![8192, 1024]⟩
abbrev S2816x1024 : Shape := ⟨2, ![2816, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S8192x5632 .bf16) (main_arg1 : FVec F S8192x1024 .f32) (main_arg2 : FVec F S2816x1024 .bf16) (main_arg3 : FVec F S1x1024 .f32) (main_arg4 : FVec F S8192x1024 .f32) : IVec S8192x5632 1 × IVec S8192x1024 1 × IVec S2816x1024 1 × IVec S1x1024 1 × IVec S8192x1024 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S2816x1024 .f32 := (extf .f32 · bitsLt_bf16_f32) main_arg2
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S8192x1024 .f32 := Host.absf main_arg4
  let main_cst_3 : FVec F S_ .f32 := constant S_ .f32 0x7F800000#32
  let main_v15 : FVec F S8192x1024 .f32 := broadcastInDim S8192x1024 ![] bcast_S_S8192x1024 main_cst_3
  let main_v16 : IVec S8192x1024 1 := cmpf .olt main_v14 main_v15
  (main_v3, main_v6, main_v10, main_v13, main_v16)
-- ==== Kernel.lean ====
abbrev S8192x1024 : Shape := ⟨2, ![8192, 1024]⟩
abbrev S1024x1024 : Shape := ⟨2, ![1024, 1024]⟩
abbrev S8192x5632 : Shape := ⟨2, ![8192, 5632]⟩
abbrev S1x2048 : Shape := ⟨2, ![1, 2048]⟩
abbrev S8192x2048 : Shape := ⟨2, ![8192, 2048]⟩
abbrev S1024x2048 : Shape := ⟨2, ![1024, 2048]⟩
abbrev S1x1024 : Shape := ⟨2, ![1, 1024]⟩
abbrev S2048 : Shape := ⟨1, ![2048]⟩

abbrev nBuf : Space → Nat
  | .hbm => 12
  | .vmem => 25
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x5632, .bf16⟩
  | .hbm, ⟨5, _⟩ => ⟨S8192x1024, .bf16⟩
  | .hbm, ⟨6, _⟩ => ⟨S1x2048, .f32⟩
  | .hbm, ⟨7, _⟩ => ⟨S8192x1024, .bf16⟩
  | .hbm, ⟨8, _⟩ => ⟨S8192x1024, .bf16⟩
  | .hbm, ⟨9, _⟩ => ⟨S8192x2048, .bf16⟩
  | .hbm, ⟨10, _⟩ => ⟨S8192x1024, .bf16⟩
  | .hbm, ⟨11, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x2048, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x2048, .bf16⟩
  | .local _ .vmem, ⟨21, _⟩ => ⟨S1024x2048, .bf16⟩
  | .local _ .vmem, ⟨22, _⟩ => ⟨S1024x1024, .bf16⟩
  | .local _ .vmem, ⟨23, _⟩ => ⟨S1024x1024, .bf16⟩
  | .local _ .vmem, ⟨24, _⟩ => ⟨S1x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "gelu_3a" => some ((36009273 / 268435456 : ℝ) : EReal)
  | "gelu_a" => some ((12003091 / 268435456 : ℝ) : EReal)
  | "gelu_c" => some ((6693141 / 8388608 : ℝ) : EReal)
  | _ => none
-- ==== ReferenceIdeal.lean ====
abbrev S8192x1024 : Shape := ⟨2, ![8192, 1024]⟩
abbrev S1024x1024 : Shape := ⟨2, ![1024, 1024]⟩
abbrev S8192x5632 : Shape := ⟨2, ![8192, 5632]⟩
abbrev S1x2048 : Shape := ⟨2, ![1, 2048]⟩
abbrev S8192x2048 : Shape := ⟨2, ![8192, 2048]⟩
abbrev S_ : Shape := ⟨0, ![]⟩
abbrev S8192x2x1024 : Shape := ⟨3, ![8192, 2, 1024]⟩
abbrev S8192x1x1024 : Shape := ⟨3, ![8192, 1, 1024]⟩
abbrev S2048 : Shape := ⟨1, ![2048]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .hbm, ⟨3, _⟩ => ⟨S8192x1024, .bf16⟩
  | .hbm, ⟨4, _⟩ => ⟨S8192x5632, .bf16⟩
  | .hbm, ⟨5, _⟩ => ⟨S8192x1024, .bf16⟩
  | .hbm, ⟨6, _⟩ => ⟨S1x2048, .f32⟩
  | .hbm, ⟨7, _⟩ => ⟨S8192x1024, .f32⟩
  | .hbm, ⟨8, _⟩ => ⟨S1024x1024, .f32⟩
  | .hbm, ⟨9, _⟩ => ⟨S8192x1024, .f32⟩
  | .hbm, ⟨10, _⟩ => ⟨S8192x1024, .f32⟩
  | .hbm, ⟨11, _⟩ => ⟨S8192x5632, .f32⟩
  | .hbm, ⟨12, _⟩ => ⟨S8192x1024, .f32⟩
  | .hbm, ⟨13, _⟩ => ⟨S8192x1024, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2x1024, .f32⟩
  | .hbm, ⟨60, _⟩ => ⟨S8192x1x1024, .f32⟩
  | .hbm, ⟨61, _⟩ => ⟨S8192x1024, .f32⟩
  | .hbm, ⟨62, _⟩ => ⟨S8192x1024, .f32⟩
  | .hbm, ⟨63, _⟩ => ⟨S8192x1x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1x1024, .f32⟩
  | .hbm, ⟨72, _⟩ => ⟨S_, .f32⟩
  | .hbm, ⟨73, _⟩ => ⟨S8192x2x1024, .f32⟩
  | .hbm, ⟨74, _⟩ => ⟨S8192x1024, .f32⟩
  | .hbm, ⟨75, _⟩ => ⟨S8192x1024, .f32⟩
  | .hbm, ⟨76, _⟩ => ⟨S8192x1x1024, .f32⟩
  | .hbm, ⟨77, _⟩ => ⟨S_, .f32⟩
  | .hbm, ⟨78, _⟩ => ⟨S8192x2x1024, .f32⟩
  | .hbm, ⟨79, _⟩ => ⟨S8192x2x1024, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .bf16⟩
  | .hbm, ⟨103, _⟩ => ⟨S8192x1024, .bf16⟩
  | .hbm, ⟨104, _⟩ => ⟨S8192x2048, .bf16⟩
  | .hbm, ⟨105, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_12 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_13 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== Kernel3.lean ====
abbrev S8192x5632 : Shape := ⟨2, ![8192, 5632]⟩
abbrev S8192x1024 : Shape := ⟨2, ![8192, 1024]⟩
abbrev S2816x1024 : Shape := ⟨2, ![2816, 1024]⟩
abbrev S1x1024 : Shape := ⟨2, ![1, 1024]⟩
abbrev S8192x2816 : Shape := ⟨2, ![8192, 2816]⟩
abbrev S1x128 : Shape := ⟨2, ![1, 128]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 12
  | .vmem => 22
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S2816x1024, .bf16⟩
  | .hbm, ⟨3, _⟩ => ⟨S1x1024, .f32⟩
  | .hbm, ⟨4, _⟩ => ⟨S8192x1024, .f32⟩
  | .hbm, ⟨5, _⟩ => ⟨S8192x2816, .bf16⟩
  | .hbm, ⟨6, _⟩ => ⟨S8192x1024, .f32⟩
  | .hbm, ⟨7, _⟩ => ⟨S8192x1024, .bf16⟩
  | .hbm, ⟨8, _⟩ => ⟨S1x128, .f32⟩
  | .hbm, ⟨9, _⟩ => ⟨S1x1024, .f32⟩
  | .hbm, ⟨10, _⟩ => ⟨S8192x2816, .bf16⟩
  | .hbm, ⟨11, _⟩ => ⟨S8192x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .f32⟩
  | .local _ .vmem, ⟨5, _⟩ => ⟨S256x1024, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x2816, .bf16⟩
  | .local _ .vmem, ⟨11, _⟩ => ⟨S256x2816, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x128, .f32⟩
  | .local _ .vmem, ⟨17, _⟩ => ⟨S1x1024, .f32⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8192x5632 : Shape := ⟨2, ![8192, 5632]⟩
abbrev S8192x1024 : Shape := ⟨2, ![8192, 1024]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 112
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S2816x1024, .bf16⟩
  | .hbm, ⟨3, _⟩ => ⟨S1x1024, .f32⟩
  | .hbm, ⟨4, _⟩ => ⟨S8192x1024, .f32⟩
  | .hbm, ⟨5, _⟩ => ⟨S8192x5632, .f32⟩
  | .hbm, ⟨6, _⟩ => ⟨S2816x1024, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x2816, .f32⟩
  | .hbm, ⟨91, _⟩ => ⟨S8192x2816, .f32⟩
  | .hbm, ⟨92, _⟩ => ⟨S8192x2816, .f32⟩
  | .hbm, ⟨93, _⟩ => ⟨S8192x2816, .f32⟩
  | .hbm, ⟨94, _⟩ => ⟨S8192x2816, .f32⟩
  | .hbm, ⟨95, _⟩ => ⟨S8192x2816, .f32⟩
  | .hbm, ⟨96, _⟩ => ⟨S8192x2816, .f32⟩
  | .hbm, ⟨97, _⟩ => ⟨S8192x2816, .f32⟩
  | .hbm, ⟨98, _⟩ => ⟨S8192x2816, .f32⟩
  | .hbm, ⟨99, _⟩ => ⟨S_, .f32⟩
  | .hbm, ⟨100, _⟩ => ⟨S8192x2816, .f32⟩
  | .hbm, ⟨101, _⟩ => ⟨S8192x2816, .f32⟩
  | .hbm, ⟨102, _⟩ => ⟨S_, .f32⟩
  | .hbm, ⟨103, _⟩ => ⟨S8192x2816, .f32⟩
  | .hbm, ⟨104, _⟩ => ⟨S8192x2816, .f32⟩
  | .hbm, ⟨105, _⟩ => ⟨S8192x2816, .f32⟩
  | .hbm, ⟨106, _⟩ => ⟨S8192x2816, .f32⟩
  | .hbm, ⟨107, _⟩ => ⟨S8192x2816, .bf16⟩
  | .hbm, ⟨108, _⟩ => ⟨S8192x1024, .bf16⟩
  | .hbm, ⟨109, _⟩ => ⟨S1x128, .f32⟩
  | .hbm, ⟨110, _⟩ => ⟨S8192x2816, .bf16⟩
  | .hbm, ⟨111, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_cst_8 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_cst_10 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_11 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_12 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_13 : Ref sig .tc := ⟨.hbm, 80, rfl⟩
abbrev main_v49 : Ref sig .tc := ⟨.hbm, 81, rfl⟩
abbrev main_v50 : Ref sig .tc := ⟨.hbm, 82, rfl⟩
abbrev main_cst_14 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v60 : Ref sig .tc := ⟨.hbm, 96, rfl⟩
abbrev main_call2_v0 : Ref sig .tc := ⟨.hbm, 97, rfl⟩
abbrev main_call2_v1 : Ref sig .tc := ⟨.hbm, 98, rfl⟩
abbrev main_call2_cst : Ref sig .tc := ⟨.hbm, 99, rfl⟩
abbrev main_call2_v2 : Ref sig .tc := ⟨.hbm, 100, rfl⟩
abbrev main_call2_v3 : Ref sig .tc := ⟨.hbm, 101, rfl⟩
abbrev main_call2_cst_0 : Ref sig .tc := ⟨.hbm, 102, rfl⟩
abbrev main_call2_v4 : Ref sig .tc := ⟨.hbm, 103, rfl⟩
abbrev main_call2_v5 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩

abbrev nD : Nat := 1
abbrev τ : Topo := Topo.v7x

variable {F : FTy → Type} [FloatOps F]
-- ==== Kernel4.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S512x2816 : Shape := ⟨2, ![512, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S8192x2816 : Shape := ⟨2, ![8192, 2816]⟩
abbrev S5632x1024 : Shape := ⟨2, ![5632, 1024]⟩
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S5632x1024, .bf16⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S5632x1024, .f32⟩
  | .hbm, ⟨7, _⟩ => ⟨S1024x5632, .f32⟩
  | .hbm, ⟨8, _⟩ => ⟨S8192x2816, .f32⟩
  | .hbm, ⟨9, _⟩ => ⟨S8192x2816, .f32⟩
  | .hbm, ⟨10, _⟩ => ⟨S8192x5632, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x5632, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel5.lean ====
abbrev S8192x1024 : Shape := ⟨2, ![8192, 1024]⟩
abbrev S8192x512 : Shape := ⟨2, ![8192, 512]⟩
abbrev S8192x2048 : Shape := ⟨2, ![8192, 2048]⟩
abbrev S5632x1024 : Shape := ⟨2, ![5632, 1024]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 34
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x2048, .bf16⟩
  | .hbm, ⟨5, _⟩ => ⟨S5632x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .hbm, ⟨11, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S1x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_10 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_11 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_12 (i : grid0.Coords) : Fin 2 → Nat :=
  let arg0 : BitVec 32 := BitVec.ofNat 32 (i 0).val
  let c7_i32 : BitVec 32 := 7#32
  let c0_i32 : BitVec 32 := 0#32
  let c0_i32_0 : BitVec 32 := 0#32
  ![c7_i32.toNat, c0_i32.toNat]

def cc0_transform_13 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_14 (i : grid0.Coords) : Fin 2 → Nat :=
  let arg0 : BitVec 32 := BitVec.ofNat 32 (i 0).val
  let c9_i32 : BitVec 32 := 9#32
  let c0_i32 : BitVec 32 := 0#32
  let c0_i32_0 : BitVec 32 := 0#32
  ![c9_i32.toNat, c0_i32.toNat]

def cc0_transform_15 (i : grid0.Coords) : Fin 2 → Nat :=
  let arg0 : BitVec 32 := BitVec.ofNat 32 (i 0).val
  let c10_i32 : BitVec 32 := 10#32
  let c0_i32 : BitVec 32 := 0#32
  let c0_i32_0 : BitVec 32 := 0#32
  ![c10_i32.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Reference5Ideal.lean ====
abbrev S8192x1024 : Shape := ⟨2, ![8192, 1024]⟩
abbrev S8192x512 : Shape := ⟨2, ![8192, 512]⟩
abbrev S8192x2048 : Shape := ⟨2, ![8192, 2048]⟩
abbrev S5632x1024 : Shape := ⟨2, ![5632, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x512, .bf16⟩
  | .hbm, ⟨4, _⟩ => ⟨S8192x2048, .bf16⟩
  | .hbm, ⟨5, _⟩ => ⟨S5632x1024, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S5632x1024, .f32⟩
  | .hbm, ⟨10, _⟩ => ⟨S1024x5632, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x512, .f32⟩
  | .hbm, ⟨15, _⟩ => ⟨S8192x2048, .f32⟩
  | .hbm, ⟨16, _⟩ => ⟨S8192x5632, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x5632, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2816 : Shape := ⟨2, ![8192, 2816]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2816 : Shape := ⟨2, ![8192, 2816]⟩
abbrev S8192x1024 : Shape := ⟨2, ![8192, 1024]⟩
abbrev S5632x1024 : Shape := ⟨2, ![5632, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 13
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S5632x1024, .bf16⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S2816x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S5632x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x1024 : Shape := ⟨2, ![8192, 1024]⟩
abbrev S5632x1024 : Shape := ⟨2, ![5632, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S5632x1024 : Shape := ⟨2, ![5632, 1024]⟩
abbrev S_ : Shape := ⟨0, ![]⟩
abbrev S1024x1024 : Shape := ⟨2, ![1024, 1024]⟩
abbrev S3584x1024 : Shape := ⟨2, ![3584, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S5632x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S3584x1024, .bf16⟩
  | .hbm, ⟨13, _⟩ => ⟨S5632x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel17.lean ====
abbrev S8192x1024 : Shape := ⟨2, ![8192, 1024]⟩
abbrev S5632x1024 : Shape := ⟨2, ![5632, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S5632x1024 : Shape := ⟨2, ![5632, 1024]⟩
abbrev S_ : Shape := ⟨0, ![]⟩
abbrev S1024x1024 : Shape := ⟨2, ![1024, 1024]⟩
abbrev S2048x1024 : Shape := ⟨2, ![2048, 1024]⟩
abbrev S2560x1024 : Shape := ⟨2, ![2560, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S5632x1024, .bf16⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S2048x1024, .bf16⟩
  | .hbm, ⟨12, _⟩ => ⟨S2560x1024, .bf16⟩
  | .hbm, ⟨13, _⟩ => ⟨S5632x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel18.lean ====
abbrev S8192x512 : Shape := ⟨2, ![8192, 512]⟩
abbrev S8192x1024 : Shape := ⟨2, ![8192, 1024]⟩
abbrev S5632x1024 : Shape := ⟨2, ![5632, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg0 c6_i32
  let c0_i32 : BitVec 32 := 0#32
  ![v0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S8192x1024 : Shape := ⟨2, ![8192, 1024]⟩
abbrev S5632x1024 : Shape := ⟨2, ![5632, 1024]⟩
abbrev S_ : Shape := ⟨0, ![]⟩
abbrev S512x1024 : Shape := ⟨2, ![512, 1024]⟩
abbrev S1024x512 : Shape := ⟨2, ![1024, 512]⟩
abbrev S3072x1024 : Shape := ⟨2, ![3072, 1024]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S5632x1024, .bf16⟩
  | .hbm, ⟨3, _⟩ => ⟨S8192x512, .f32⟩
  | .hbm, ⟨4, _⟩ => ⟨S8192x1024, .f32⟩
  | .hbm, ⟨5, _⟩ => ⟨S_, .f32⟩
  | .hbm, ⟨6, _⟩ => ⟨S512x1024, .f32⟩
  | .hbm, ⟨7, _⟩ => ⟨S8192x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S3072x1024, .bf16⟩
  | .hbm, ⟨12, _⟩ => ⟨S2048x1024, .bf16⟩
  | .hbm, ⟨13, _⟩ => ⟨S5632x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel19.lean ====
abbrev S8192x2048 : Shape := ⟨2, ![8192, 2048]⟩
abbrev S8192x1024 : Shape := ⟨2, ![8192, 1024]⟩
abbrev S5632x1024 : Shape := ⟨2, ![5632, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S5632x1024, .bf16⟩
  | .hbm, ⟨3, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi arg0 c7_i32
  let c0_i32 : BitVec 32 := 0#32
  ![v0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S8192x1024 : Shape := ⟨2, ![8192, 1024]⟩
abbrev S5632x1024 : Shape := ⟨2, ![5632, 1024]⟩
abbrev S_ : Shape := ⟨0, ![]⟩
abbrev S2048x1024 : Shape := ⟨2, ![2048, 1024]⟩
abbrev S1024x2048 : Shape := ⟨2, ![1024, 2048]⟩
abbrev S3584x1024 : Shape := ⟨2, ![3584, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S5632x1024, .bf16⟩
  | .hbm, ⟨3, _⟩ => ⟨S8192x2048, .f32⟩
  | .hbm, ⟨4, _⟩ => ⟨S8192x1024, .f32⟩
  | .hbm, ⟨5, _⟩ => ⟨S_, .f32⟩
  | .hbm, ⟨6, _⟩ => ⟨S2048x1024, .f32⟩
  | .hbm, ⟨7, _⟩ => ⟨S8192x1024, .f32⟩
  | .hbm, ⟨8, _⟩ => ⟨S1024x2048, .f32⟩
  | .hbm, ⟨9, _⟩ => ⟨S2048x1024, .f32⟩
  | .hbm, ⟨10, _⟩ => ⟨S2048x1024, .bf16⟩
  | .hbm, ⟨11, _⟩ => ⟨S3584x1024, .bf16⟩
  | .hbm, ⟨12, _⟩ => ⟨S5632x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel10.lean ====
abbrev S8192x1024 : Shape := ⟨2, ![8192, 1024]⟩
abbrev S5632x1024 : Shape := ⟨2, ![5632, 1024]⟩
abbrev S8192x5632 : Shape := ⟨2, ![8192, 5632]⟩
abbrev S4096x1024 : Shape := ⟨2, ![4096, 1024]⟩
abbrev S512x1024 : Shape := ⟨2, ![512, 1024]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S4096x1024, .bf16⟩
  | .local _ .vmem, ⟨1, _⟩ => ⟨S4096x1024, .bf16⟩
  | .local _ .vmem, ⟨2, _⟩ => ⟨S512x1024, .bf16⟩
  | .local _ .vmem, ⟨3, _⟩ => ⟨S512x1024, .bf16⟩
  | .local _ .vmem, ⟨4, _⟩ => ⟨S4096x512, .bf16⟩
  | .local _ .vmem, ⟨5, _⟩ => ⟨S4096x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg1 c6_i32
  let c10_i32 : BitVec 32 := 10#32
  let v1 : BitVec 1 := Scalar.cmpi .slt arg1 c10_i32
  let c1_i32 : BitVec 32 := 1#32
  let v2 : BitVec 32 := Scalar.addi arg1 c1_i32
  let c6_i32_0 : BitVec 32 := 6#32
  let v3 : BitVec 32 := Scalar.select v1 v2 c6_i32_0
  let v4 : BitVec 32 := Scalar.select v0 arg1 v3
  let c0_i32 : BitVec 32 := 0#32
  let c0_i32_1 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x3072 : Shape := ⟨2, ![8192, 3072]⟩
abbrev S8192x512 : Shape := ⟨2, ![8192, 512]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x3072, .f32⟩
  | .hbm, ⟨7, _⟩ => ⟨S8192x512, .f32⟩
  | .hbm, ⟨8, _⟩ => ⟨S8192x2048, .f32⟩
  | .hbm, ⟨9, _⟩ => ⟨S8192x5632, .f32⟩
  | .hbm, ⟨10, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel12.lean ====
abbrev S8192x1024 : Shape := ⟨2, ![8192, 1024]⟩
abbrev S8192x5632 : Shape := ⟨2, ![8192, 5632]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 9
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x5632, .bf16⟩
  | .hbm, ⟨4, _⟩ => ⟨S8192x1024, .bf16⟩
  | .hbm, ⟨5, _⟩ => ⟨S1x2048, .f32⟩
  | .hbm, ⟨6, _⟩ => ⟨S1024x1024, .bf16⟩
  | .hbm, ⟨7, _⟩ => ⟨S8192x1024, .bf16⟩
  | .hbm, ⟨8, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x2048, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | .local _ .vmem, ⟨19, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel12Ideal.lean ====
variable {F : FTy → Type} [FloatOps F] [Named F]
def κ : String → Option EReal := fun
  | "gelu_a" => some ((12003091 / 268435456 : ℝ) : EReal)
  | "gelu_c" => some ((6693141 / 8388608 : ℝ) : EReal)
  | _ => none
-- ==== Reference12Ideal.lean ====
abbrev S8192x1024 : Shape := ⟨2, ![8192, 1024]⟩
abbrev S8192x5632 : Shape := ⟨2, ![8192, 5632]⟩
abbrev S1x2048 : Shape := ⟨2, ![1, 2048]⟩
abbrev S1024x1024 : Shape := ⟨2, ![1024, 1024]⟩
abbrev S_ : Shape := ⟨0, ![]⟩
abbrev S8192x2048 : Shape := ⟨2, ![8192, 2048]⟩
abbrev S8192x2x1024 : Shape := ⟨3, ![8192, 2, 1024]⟩
abbrev S8192x1x1024 : Shape := ⟨3, ![8192, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x5632, .bf16⟩
  | .hbm, ⟨4, _⟩ => ⟨S8192x1024, .bf16⟩
  | .hbm, ⟨5, _⟩ => ⟨S1x2048, .f32⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x5632, .f32⟩
  | .hbm, ⟨10, _⟩ => ⟨S8192x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2x1024, .f32⟩
  | .hbm, ⟨44, _⟩ => ⟨S8192x1x1024, .f32⟩
  | .hbm, ⟨45, _⟩ => ⟨S8192x1024, .f32⟩
  | .hbm, ⟨46, _⟩ => ⟨S8192x1024, .f32⟩
  | .hbm, ⟨47, _⟩ => ⟨S8192x1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S8192x1024, .f32⟩
  | .hbm, ⟨53, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S5632x1024 : Shape := ⟨2, ![5632, 1024]⟩
abbrev S8192x5632 : Shape := ⟨2, ![8192, 5632]⟩
abbrev S1024x1024 : Shape := ⟨2, ![1024, 1024]⟩
abbrev S2816x1024 : Shape := ⟨2, ![2816, 1024]⟩
abbrev S1024x2816 : Shape := ⟨2, ![1024, 2816]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S8192x1024, .bf16⟩
  | .hbm, ⟨4, _⟩ => ⟨S8192x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x2816, .bf16⟩
  | .local _ .vmem, ⟨8, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x1024 : Shape := ⟨2, ![8192, 1024]⟩
abbrev S1x1024 : Shape := ⟨2, ![1, 1024]⟩
abbrev S5632x1024 : Shape := ⟨2, ![5632, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5632x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S5632x1024, .f32⟩
  | .hbm, ⟨19, _⟩ => ⟨S1024x5632, .f32⟩
  | .hbm, ⟨20, _⟩ => ⟨S8192x5632, .f32⟩
  | .hbm, ⟨21, _⟩ => ⟨S8192x1024, .bf16⟩
  | .hbm, ⟨22, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S4x1024 : Shape := ⟨2, ![4, 1024]⟩
abbrev S1x1024 : Shape := ⟨2, ![1, 1024]⟩
abbrev S1024x1024 : Shape := ⟨2, ![1024, 1024]⟩
abbrev S16x1024 : Shape := ⟨2, ![16, 1024]⟩
abbrev S1056x1024 : Shape := ⟨2, ![1056, 1024]⟩
abbrev S1024 : Shape := ⟨1, ![1024]⟩

abbrev nBuf : Space → Nat
  | .hbm => 7
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5632, .bf16⟩
  | .hbm, ⟨3, _⟩ => ⟨S4x1024, .f32⟩
  | .hbm, ⟨4, _⟩ => ⟨S8192x1024, .bf16⟩
  | .hbm, ⟨5, _⟩ => ⟨S4x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x1024, .bf16⟩
  | .local _ .vmem, ⟨7, _⟩ => ⟨S1024x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S1024x1024, .bf16⟩
  | .local _ .vmem, ⟨13, _⟩ => ⟨S1024x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S4x1024, .f32⟩
  | .local _ .vmem, ⟨19, _⟩ => ⟨S1024x1024, .bf16⟩
  | .local _ .vmem, ⟨20, _⟩ => ⟨S1024x1024, .bf16⟩
  | .local _ .vmem, ⟨21, _⟩ => ⟨S4x1024, .f32⟩
  | .local _ .vmem, ⟨22, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S8192x5632 : Shape := ⟨2, ![8192, 5632]⟩
abbrev S4x1024 : Shape := ⟨2, ![4, 1024]⟩
abbrev S_ : Shape := ⟨0, ![]⟩
abbrev S1x1024 : Shape := ⟨2, ![1, 1024]⟩
abbrev S2x1024 : Shape := ⟨2, ![2, 1024]⟩
abbrev S8195x1024 : Shape := ⟨2, ![8195, 1024]⟩
abbrev S1024 : Shape := ⟨1, ![1024]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5632, .bf16⟩
  | .hbm, ⟨3, _⟩ => ⟨S4x1024, .f32⟩
  | .hbm, ⟨4, _⟩ => ⟨S8192x1024, .f32⟩
  | .hbm, ⟨5, _⟩ => ⟨S8192x1024, .f32⟩
  | .hbm, ⟨6, _⟩ => ⟨S8192x5632, .f32⟩
  | .hbm, ⟨7, _⟩ => ⟨S8192x1024, .f32⟩
  | .hbm, ⟨8, _⟩ => ⟨S_, .f32⟩
  | .hbm, ⟨9, _⟩ => ⟨S1x1024, .f32⟩
  | .hbm, ⟨10, _⟩ => ⟨S_, .f32⟩
  | .hbm, ⟨11, _⟩ => ⟨S2x1024, .f32⟩
  | .hbm, ⟨12, _⟩ => ⟨S_, .f32⟩
  | .hbm, ⟨13, _⟩ => ⟨S1x1024, .f32⟩
  | .hbm, ⟨14, _⟩ => ⟨S8195x1024, .f32⟩
  | .hbm, ⟨15, _⟩ => ⟨S_, .f32⟩
  | .hbm, ⟨16, _⟩ => ⟨S2x1024, .f32⟩
  | .hbm, ⟨17, _⟩ => ⟨S_, .f32⟩
  | .hbm, ⟨18, _⟩ => ⟨S1x1024, .f32⟩
  | .hbm, ⟨19, _⟩ => ⟨S8192x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S4x1024, .f32⟩
  | .hbm, ⟨63, _⟩ => ⟨S_, .f32⟩
  | .hbm, ⟨64, _⟩ => ⟨S8195x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S4x1024, .f32⟩
  | .hbm, ⟨76, _⟩ => ⟨S4x1024, .f32⟩
  | .hbm, ⟨77, _⟩ => ⟨S_, .f32⟩
  | .hbm, ⟨78, _⟩ => ⟨S8195x1024, .f32⟩
  | .hbm, ⟨79, _⟩ => ⟨S8195x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S_, .f32⟩
  | .hbm, ⟨90, _⟩ => ⟨S4x1024, .f32⟩
  | .hbm, ⟨91, _⟩ => ⟨S4x1024, .f32⟩
  | .hbm, ⟨92, _⟩ => ⟨S_, .f32⟩
  | .hbm, ⟨93, _⟩ => ⟨S8195x1024, .f32⟩
  | .hbm, ⟨94, _⟩ => ⟨S8195x1024, .f32⟩
  | .hbm, ⟨95, _⟩ => ⟨S8192x1024, .f32⟩
  | .hbm, ⟨96, _⟩ => ⟨S_, .f32⟩
  | .hbm, ⟨97, _⟩ => ⟨S1024, .f32⟩
  | .hbm, ⟨98, _⟩ => ⟨S1x1024, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S_, .f32⟩
  | .hbm, ⟨105, _⟩ => ⟨S4x1024, .f32⟩
  | .hbm, ⟨106, _⟩ => ⟨S4x1024, .f32⟩
  | .hbm, ⟨107, _⟩ => ⟨S_, .f32⟩
  | .hbm, ⟨108, _⟩ => ⟨S8195x1024, .f32⟩
  | .hbm, ⟨109, _⟩ => ⟨S8195x1024, .f32⟩
  | .hbm, ⟨110, _⟩ => ⟨S2x1024, .f32⟩
  | .hbm, ⟨111, _⟩ => ⟨S8192x1024, .f32⟩
  | .hbm, ⟨112, _⟩ => ⟨S1x1024, .f32⟩
  | .hbm, ⟨113, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_10 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_cst_16 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_17 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_18 : Ref sig .tc := ⟨.hbm, 101, rfl⟩
abbrev main_v78 : Ref sig .tc := ⟨.hbm, 102, rfl⟩
abbrev main_v79 : Ref sig .tc := ⟨.hbm, 103, rfl⟩
abbrev main_cst_19 : Ref sig .tc := ⟨.hbm, 104, rfl⟩
abbrev main_v80 : Ref sig .tc := ⟨.hbm, 105, rfl⟩
abbrev main_v81 : Ref sig .tc := ⟨.hbm, 106, rfl⟩
abbrev main_cst_20 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩

abbrev nD : Nat := 1
abbrev τ : Topo := Topo.v7x

variable {F : FTy → Type} [FloatOps F]
-- ==== Kernel13.lean ====
abbrev S8192x5632 : Shape := ⟨2, ![8192, 5632]⟩
abbrev S4x1024 : Shape := ⟨2, ![4, 1024]⟩
abbrev S1x1024 : Shape := ⟨2, ![1, 1024]⟩
abbrev S8192x1024 : Shape := ⟨2, ![8192, 1024]⟩
abbrev S1024x1024 : Shape := ⟨2, ![1024, 1024]⟩
abbrev S16x1024 : Shape := ⟨2, ![16, 1024]⟩
abbrev S1056x1024 : Shape := ⟨2, ![1056, 1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S4x1024, .f32⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S4x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S8192x5632 : Shape := ⟨2, ![8192, 5632]⟩
abbrev S4x1024 : Shape := ⟨2, ![4, 1024]⟩
abbrev S1x1024 : Shape := ⟨2, ![1, 1024]⟩
abbrev S8192x1024 : Shape := ⟨2, ![8192, 1024]⟩
abbrev S_ : Shape := ⟨0, ![]⟩
abbrev S2x1024 : Shape := ⟨2, ![2, 1024]⟩
abbrev S8195x1024 : Shape := ⟨2, ![8195, 1024]⟩
abbrev S1024 : Shape := ⟨1, ![1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024, .f32⟩
  | .hbm, ⟨2, _⟩ => ⟨S1x1024, .f32⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S2x1024, .f32⟩
  | .hbm, ⟨7, _⟩ => ⟨S_, .f32⟩
  | .hbm, ⟨8, _⟩ => ⟨S1x1024, .f32⟩
  | .hbm, ⟨9, _⟩ => ⟨S8195x1024, .f32⟩
  | .hbm, ⟨10, _⟩ => ⟨S8192x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel20.lean ====
abbrev S8x704x1024 : Shape := ⟨3, ![8, 704, 1024]⟩
abbrev S1x704x1024 : Shape := ⟨3, ![1, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference20Ideal.lean ====
abbrev S8x704x1024 : Shape := ⟨3, ![8, 704, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel21.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference21Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel22.lean ====
abbrev S8x352x1024 : Shape := ⟨3, ![8, 352, 1024]⟩
abbrev S1x352x1024 : Shape := ⟨3, ![1, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel23.lean ====
abbrev S8x2048x64 : Shape := ⟨3, ![8, 2048, 64]⟩
abbrev S1x2048x64 : Shape := ⟨3, ![1, 2048, 64]⟩
abbrev S8x256x64 : Shape := ⟨3, ![8, 256, 64]⟩
abbrev S1x256x64 : Shape := ⟨3, ![1, 256, 64]⟩
abbrev S256x64 : Shape := ⟨2, ![256, 64]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x64, .bf16⟩
  | .hbm, ⟨1, _⟩ => ⟨S1x2048x64, .f32⟩
  | .hbm, ⟨2, _⟩ => ⟨S1x2048x64, .f32⟩
  | .hbm, ⟨3, _⟩ => ⟨S1x2048x64, .f32⟩
  | .hbm, ⟨4, _⟩ => ⟨S1x2048x64, .f32⟩
  | .hbm, ⟨5, _⟩ => ⟨S1x2048x64, .f32⟩
  | .hbm, ⟨6, _⟩ => ⟨S1x2048x64, .f32⟩
  | .hbm, ⟨7, _⟩ => ⟨S1x2048x64, .f32⟩
  | .local _ .vmem, ⟨0, _⟩ => ⟨S8x256x64, .bf16⟩
  | .local _ .vmem, ⟨1, _⟩ => ⟨S8x256x64, .bf16⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | .local _ .vmem, ⟨8, _⟩ => ⟨S1x256x64, .f32⟩
  | .local _ .vmem, ⟨9, _⟩ => ⟨S1x256x64, .f32⟩
  | .local _ .vmem, ⟨10, _⟩ => ⟨S1x256x64, .f32⟩
  | .local _ .vmem, ⟨11, _⟩ => ⟨S1x256x64, .f32⟩
  | .local _ .vmem, ⟨12, _⟩ => ⟨S1x256x64, .f32⟩
  | .local _ .vmem, ⟨13, _⟩ => ⟨S1x256x64, .f32⟩
  | .local _ .vmem, ⟨14, _⟩ => ⟨S1x256x64, .f32⟩
  | .local _ .vmem, ⟨15, _⟩ => ⟨S1x256x64, .f32⟩
  | _, _ => ⟨S8x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S8x2048x64 : Shape := ⟨3, ![8, 2048, 64]⟩
abbrev S1x2048x64 : Shape := ⟨3, ![1, 2048, 64]⟩
abbrev S_ : Shape := ⟨0, ![]⟩
abbrev S2048x64 : Shape := ⟨2, ![2048, 64]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x64, .bf16⟩
  | .hbm, ⟨1, _⟩ => ⟨S1x2048x64, .f32⟩
  | .hbm, ⟨2, _⟩ => ⟨S1x2048x64, .f32⟩
  | .hbm, ⟨3, _⟩ => ⟨S1x2048x64, .f32⟩
  | .hbm, ⟨4, _⟩ => ⟨S8x2048x64, .f32⟩
  | .hbm, ⟨5, _⟩ => ⟨S_, .f32⟩
  | .hbm, ⟨6, _⟩ => ⟨S2048x64, .f32⟩
  | .hbm, ⟨7, _⟩ => ⟨S1x2048x64, .f32⟩
  | .hbm, ⟨8, _⟩ => ⟨S_, .f32⟩
  | .hbm, ⟨9, _⟩ => ⟨S1x2048x64, .f32⟩
  | .hbm, ⟨10, _⟩ => ⟨S1x2048x64, .f32⟩
  | .hbm, ⟨11, _⟩ => ⟨S_, .f32⟩
  | .hbm, ⟨12, _⟩ => ⟨S1x2048x64, .f32⟩
  | .hbm, ⟨13, _⟩ => ⟨S1x2048x64, .f32⟩
  | .hbm, ⟨14, _⟩ => ⟨S1x2048x64, .f32⟩
  | .hbm, ⟨15, _⟩ => ⟨S_, .f32⟩
  | .hbm, ⟨16, _⟩ => ⟨S1x2048x64, .f32⟩
  | .hbm, ⟨17, _⟩ => ⟨S1x2048x64, .f32⟩
  | .hbm, ⟨18, _⟩ => ⟨S1x2048x64, .f32⟩
  | .hbm, ⟨19, _⟩ => ⟨S_, .f32⟩
  | .hbm, ⟨20, _⟩ => ⟨S1x2048x64, .f32⟩
  | .hbm, ⟨21, _⟩ => ⟨S1x2048x64, .f32⟩
  | .hbm, ⟨22, _⟩ => ⟨S1x2048x64, .f32⟩
  | .hbm, ⟨23, _⟩ => ⟨S_, .f32⟩
  | .hbm, ⟨24, _⟩ => ⟨S1x2048x64, .f32⟩
  | .hbm, ⟨25, _⟩ => ⟨S1x2048x64, .f32⟩
  | .hbm, ⟨26, _⟩ => ⟨S_, .f32⟩
  | .hbm, ⟨27, _⟩ => ⟨S1x2048x64, .f32⟩
  | .hbm, ⟨28, _⟩ => ⟨S1x2048x64, .f32⟩
  | .hbm, ⟨29, _⟩ => ⟨S1x2048x64, .f32⟩
  | .hbm, ⟨30, _⟩ => ⟨S_, .f32⟩
  | .hbm, ⟨31, _⟩ => ⟨S1x2048x64, .f32⟩
  | .hbm, ⟨32, _⟩ => ⟨S1x2048x64, .f32⟩
  | .hbm, ⟨33, _⟩ => ⟨S1x2048x64, .f32⟩
  | .hbm, ⟨34, _⟩ => ⟨S_, .f32⟩
  | .hbm, ⟨35, _⟩ => ⟨S1x2048x64, .f32⟩
  | .hbm, ⟨36, _⟩ => ⟨S1x2048x64, .f32⟩
  | .hbm, ⟨37, _⟩ => ⟨S1x2048x64, .f32⟩
  | .hbm, ⟨38, _⟩ => ⟨S_, .f32⟩
  | .hbm, ⟨39, _⟩ => ⟨S1x2048x64, .f32⟩
  | .hbm, ⟨40, _⟩ => ⟨S1x2048x64, .f32⟩
  | _, _ => ⟨S8x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel24.lean ====
abbrev S1x16x1024 : Shape := ⟨3, ![1, 16, 1024]⟩
abbrev S16x1024 : Shape := ⟨2, ![16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x16x1024, .f32⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S1x16x1024, .f32⟩
  | .hbm, ⟨5, _⟩ => ⟨S1x16x1024, .f32⟩
  | .hbm, ⟨6, _⟩ => ⟨S1x16x1024, .f32⟩
  | .hbm, ⟨7, _⟩ => ⟨S1x16x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x16x1024, .f32⟩
  | _, _ => ⟨S1x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference24Ideal.lean ====
abbrev S1x16x1024 : Shape := ⟨3, ![1, 16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16x1024, .f32⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S_, .f32⟩
  | .hbm, ⟨5, _⟩ => ⟨S1x16x1024, .f32⟩
  | .hbm, ⟨6, _⟩ => ⟨S1x16x1024, .f32⟩
  | .hbm, ⟨7, _⟩ => ⟨S_, .f32⟩
  | .hbm, ⟨8, _⟩ => ⟨S1x16x1024, .f32⟩
  | .hbm, ⟨9, _⟩ => ⟨S1x16x1024, .f32⟩
  | .hbm, ⟨10, _⟩ => ⟨S1x16x1024, .f32⟩
  | .hbm, ⟨11, _⟩ => ⟨S_, .f32⟩
  | .hbm, ⟨12, _⟩ => ⟨S1x16x1024, .f32⟩
  | .hbm, ⟨13, _⟩ => ⟨S1x16x1024, .f32⟩
  | .hbm, ⟨14, _⟩ => ⟨S1x16x1024, .f32⟩
  | .hbm, ⟨15, _⟩ => ⟨S_, .f32⟩
  | .hbm, ⟨16, _⟩ => ⟨S1x16x1024, .f32⟩
  | .hbm, ⟨17, _⟩ => ⟨S1x16x1024, .f32⟩
  | .hbm, ⟨18, _⟩ => ⟨S1x16x1024, .f32⟩
  | .hbm, ⟨19, _⟩ => ⟨S_, .f32⟩
  | .hbm, ⟨20, _⟩ => ⟨S1x16x1024, .f32⟩
  | .hbm, ⟨21, _⟩ => ⟨S1x16x1024, .f32⟩
  | .hbm, ⟨22, _⟩ => ⟨S_, .f32⟩
  | .hbm, ⟨23, _⟩ => ⟨S1x16x1024, .f32⟩
  | .hbm, ⟨24, _⟩ => ⟨S1x16x1024, .f32⟩
  | .hbm, ⟨25, _⟩ => ⟨S1x16x1024, .f32⟩
  | .hbm, ⟨26, _⟩ => ⟨S_, .f32⟩
  | .hbm, ⟨27, _⟩ => ⟨S1x16x1024, .f32⟩
  | .hbm, ⟨28, _⟩ => ⟨S1x16x1024, .f32⟩
  | .hbm, ⟨29, _⟩ => ⟨S1x16x1024, .f32⟩
  | .hbm, ⟨30, _⟩ => ⟨S_, .f32⟩
  | .hbm, ⟨31, _⟩ => ⟨S1x16x1024, .f32⟩
  | .hbm, ⟨32, _⟩ => ⟨S1x16x1024, .f32⟩
  | .hbm, ⟨33, _⟩ => ⟨S1x16x1024, .f32⟩
  | .hbm, ⟨34, _⟩ => ⟨S_, .f32⟩
  | .hbm, ⟨35, _⟩ => ⟨S1x16x1024, .f32⟩
  | .hbm, ⟨36, _⟩ => ⟨S1x16x1024, .f32⟩
  | _, _ => ⟨S1x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference25Ideal.lean ====
abbrev S8x16x1024 : Shape := ⟨3, ![8, 16, 1024]⟩
abbrev S_ : Shape := ⟨0, ![]⟩
abbrev S16x1024 : Shape := ⟨2, ![16, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S_, .f32⟩
  | .hbm, ⟨2, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Reals.lean ====
/-
  Numbers among the extended reals. An element that is neither infinite nor not-a-number is the image of a real number;
  sums, products and the elementary functions of such elements are again such images, so an equation between them is an
  equation over the real numbers. Nothing here is about a program.
-/
module

public import Idealize.ShloMosaic.Lib.Pointwise
public import Mathlib.Analysis.SpecialFunctions.Trigonometric.DerivHyp

@[expose] public section

namespace Cert.Reals

open Idealize.ShloMosaic

/-- `x` is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The image of a finite sum of real numbers is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem IsReal.sum {ι : Type*} (s : Finset ι) (f : ι → EReal) (hf : ∀ i, IsReal (f i)) : IsReal (∑ i ∈ s, f i) := by
  choose g hg using hf
  exact ⟨∑ i ∈ s, g i, by rw [coe_sum]; exact Finset.sum_congr rfl fun i _ => hg i⟩

/-- An element whose magnitude is below infinity is a real number. -/
theorem isReal_of_cmp {x : EReal} (h : Ideal.cmp .olt (max x (-x)) ⊤ = 1#1) : IsReal x := by
  have h' : max x (-x) < ⊤ := by
    by_contra hc
    simp [Ideal.cmp, hc] at h
  induction x using EReal.rec with
  | bot => simp at h'
  | top => simp at h'
  | coe r => exact ⟨r, rfl⟩

/-! ### What the literals denote -/

theorem ofBits_half_bf16 : Ideal.ofBits .bf16 0x3F00#16 = ((1 / 2 : ℝ) : EReal) := by
  simp [Ideal.ofBits, Ideal.ieee, -EReal.coe_mul]; norm_num

theorem ofBits_half_f32 : Ideal.ofBits .f32 0x3F000000#32 = ((1 / 2 : ℝ) : EReal) := by
  simp [Ideal.ofBits, Ideal.ieee, -EReal.coe_mul]; norm_num

/-- What a precondition compares at one index says that the element there is a real number. -/
theorem isReal_of_lt {x : EReal} (h : Ideal.cmp .olt (max x (-x)) (Ideal.ofBits .f32 0x7F800000#32) = 1#1) : IsReal x :=
  isReal_of_cmp (by rwa [show Ideal.ofBits .f32 0x7F800000#32 = ⊤ by simp [Ideal.ofBits, Ideal.ieee]] at h)

theorem ofBits_three_f32 : Ideal.ofBits .f32 0x40400000#32 = ((3 : ℝ) : EReal) := by
  simp [Ideal.ofBits, Ideal.ieee, -EReal.coe_mul]; norm_num

/-! ### The elementary functions at real numbers -/

theorem tanh_coe (r : ℝ) : Ideal.tanh (r : EReal) = ((Real.tanh r : ℝ) : EReal) := rfl

theorem exp_coe (r : ℝ) : Ideal.exp (r : EReal) = ((Real.exp r : ℝ) : EReal) := rfl

theorem div_coe (x : ℝ) {y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- The logistic function. -/
noncomputable def sigmoid (x : ℝ) : ℝ := 1 / (1 + Real.exp (-x))

/-- The logistic function written with the exponential, at a real number. -/
theorem div_one_add_exp (x : ℝ) : Ideal.div 1 (1 + Ideal.exp (-(x : EReal))) = ((sigmoid x : ℝ) : EReal) := by
  have h : (1 : EReal) + Ideal.exp (-(x : EReal)) = ((1 + Real.exp (-x) : ℝ) : EReal) := by
    rw [← EReal.coe_neg, exp_coe, EReal.coe_add, EReal.coe_one]
  have h1 : (1 : EReal) = ((1 : ℝ) : EReal) := EReal.coe_one.symm
  rw [h, h1, div_coe _ (by positivity)]
  rfl

/-- The logistic function written with the hyperbolic tangent. -/
theorem half_tanh_half (x : ℝ) : 1 / 2 * Real.tanh (1 / 2 * x) + 1 / 2 = sigmoid x := by
  unfold sigmoid
  have he : Real.exp (-x) = Real.exp (-(1 / 2 * x)) * Real.exp (-(1 / 2 * x)) := by rw [← Real.exp_add]; ring_nf
  have hm : Real.exp (1 / 2 * x) * Real.exp (-(1 / 2 * x)) = 1 := by rw [← Real.exp_add]; simp
  have hp : 0 < Real.exp (1 / 2 * x) := Real.exp_pos _
  have hq : 0 < Real.exp (-(1 / 2 * x)) := Real.exp_pos _
  rw [Real.tanh_eq_sinh_div_cosh, Real.sinh_eq, Real.cosh_eq, he]
  generalize Real.exp (1 / 2 * x) = p at hm hp ⊢
  generalize Real.exp (-(1 / 2 * x)) = q at hm hq ⊢
  have : p + q ≠ 0 := by positivity
  have : 1 + q * q ≠ 0 := by positivity
  field_simp
  linear_combination (q * 2) * hm

theorem one_coe : (1 : EReal) = ((1 : ℝ) : EReal) := EReal.coe_one.symm

/-! ### The logistic function, as the kernels and as the references evaluate it -/

noncomputable abbrev half : EReal := Ideal.ofBits .bf16 0x3F00#16

/-- By the hyperbolic tangent. -/
noncomputable def sgm (x : EReal) : EReal := half * Ideal.tanh (half * x) + half

theorem sgm_coe (x : ℝ) : sgm x = ((sigmoid x : ℝ) : EReal) := by
  unfold sgm half
  rw [ofBits_half_bf16, ← EReal.coe_mul, tanh_coe, ← EReal.coe_mul, ← EReal.coe_add, half_tanh_half]

/-- By the exponential. -/
noncomputable def lgs (x : EReal) : EReal := Ideal.div 1 (1 + Ideal.exp (-x))

theorem lgs_coe (x : ℝ) : lgs (x : EReal) = ((sigmoid x : ℝ) : EReal) := div_one_add_exp x

end Cert.Reals
-- ==== Proof.GateMath.lean ====
/-
  THE GATED MERGE AND ITS GRADIENT, as scalars. Two mixers' outputs `y_a` and `y_b` are merged as
  `sigmoid(z_a) * y_a + sigmoid(z_b) * y_b`, where `y_a = h * gelu(g)`. This module names the scalar functions the kernel
  evaluates (`th`, `gelu`, `dgelu`: over the extended reals, in the kernel's own order of operations), and shows
  what they are at real numbers. Then the five gradients the kernel writes, as functions of the argument arrays.
-/
module

public import proofs.«01_k».proof.Proof.Reals
public import proofs.«01_k».proof.Proof.Gen.KernelIdeal

@[expose] public section

set_option maxRecDepth 16384

noncomputable section

namespace Cert.Gate

open Idealize.ShloMosaic Cert.Reals

/-- The named constants of the kernel's GELU. -/
abbrev cC : EReal := Named.named (F := Ideal) Cert.KernelIdeal.κ "gelu_c" (φ := .bf16) 0x3F4C#16
abbrev cA : EReal := Named.named (F := Ideal) Cert.KernelIdeal.κ "gelu_a" (φ := .bf16) 0x3D37#16
abbrev c3A : EReal := Named.named (F := Ideal) Cert.KernelIdeal.κ "gelu_3a" (φ := .bf16) 0x3E09#16

/-- The hyperbolic tangent inside GELU. -/
def th (g : EReal) : EReal := Ideal.tanh (cC * (g + cA * (g * g * g)))
/-- GELU. -/
def gelu (g : EReal) : EReal := half * g * (1 + th g)
/-- The derivative of GELU. -/
def dgelu (g : EReal) : EReal := half * (1 + th g) + half * g * (1 - th g * th g) * (cC * (1 + c3A * (g * g)))

/-! ### The same at real numbers -/

/-- The constant of GELU's cubic term and its outer constant, as the real numbers their float32 words are. -/
def rA : ℝ := 12003091 / 268435456
def rC : ℝ := 6693141 / 8388608

theorem cC_eq : cC = ((rC : ℝ) : EReal) := rfl
theorem cA_eq : cA = ((rA : ℝ) : EReal) := rfl
theorem c3A_eq : c3A = ((3 * rA : ℝ) : EReal) := by
  show (((36009273 / 268435456 : ℝ)) : EReal) = _
  unfold rA; norm_num

theorem ofBits_rC : Ideal.ofBits .f32 0x3F4C422A#32 = ((rC : ℝ) : EReal) := by
  unfold rC; simp [Ideal.ofBits, Ideal.ieee, -EReal.coe_mul]; norm_num

theorem ofBits_rA : Ideal.ofBits .f32 0x3D372713#32 = ((rA : ℝ) : EReal) := by
  unfold rA; simp [Ideal.ofBits, Ideal.ieee, -EReal.coe_mul]; norm_num

def thR (g : ℝ) : ℝ := Real.tanh (rC * (g + rA * (g * g * g)))
def geluR (g : ℝ) : ℝ := 1 / 2 * g * (1 + thR g)
def dgeluR (g : ℝ) : ℝ := 1 / 2 * (1 + thR g) + 1 / 2 * g * (1 - thR g * thR g) * (rC * (1 + 3 * rA * (g * g)))

theorem th_coe (g : ℝ) : th g = ((thR g : ℝ) : EReal) := by
  unfold th thR
  rw [cC_eq, cA_eq]
  simp only [← EReal.coe_mul, ← EReal.coe_add, tanh_coe]

theorem gelu_coe (g : ℝ) : gelu g = ((geluR g : ℝ) : EReal) := by
  unfold gelu geluR half
  rw [ofBits_half_bf16, th_coe, one_coe]
  simp only [← EReal.coe_mul, ← EReal.coe_add]

theorem dgelu_coe (g : ℝ) : dgelu g = ((dgeluR g : ℝ) : EReal) := by
  unfold dgelu dgeluR half
  rw [ofBits_half_bf16, th_coe, one_coe, cC_eq, c3A_eq]
  simp only [← EReal.coe_mul, ← EReal.coe_add, ← EReal.coe_sub]

/-! ### The gradients, as functions of the argument arrays

`x0` is the gradient of the merge's projection, `x1` the projection matrix, `x2` and `x3` the recurrence's two directions,
`x4` the input projection (GELU's argument in columns 1024 to 2047, the gates' in columns 3072 to 5119), `x5` the second
mixer's output, `x6` the gates' bias. -/

abbrev Tok : Shape := ⟨2, ![8192, 1024]⟩
abbrev Mat : Shape := ⟨2, ![1024, 1024]⟩
abbrev Prj : Shape := ⟨2, ![8192, 5632]⟩
abbrev Gts : Shape := ⟨2, ![8192, 2048]⟩
abbrev Bia : Shape := ⟨2, ![1, 2048]⟩

variable (x0 : FVec Ideal Tok .bf16) (x1 : FVec Ideal Mat .bf16) (x2 x3 : FVec Ideal Tok .bf16) (x4 : FVec Ideal Prj .bf16)
  (x5 : FVec Ideal Tok .bf16) (x6 : FVec Ideal Bia .f32)

/-- The gradient of the merged output: row `r` of `x0` against row `l` of the projection matrix. -/
def dm (r : Fin 8192) (l : Fin 1024) : EReal := ∑ k : Fin 1024, x0 (ix2 r k) * x1 (ix2 l k)

/-- GELU's argument. -/
abbrev gArg (r : Fin 8192) (l : Fin 1024) : EReal := x4 (ix2 r ⟨1024 + l.val, by omega⟩)
/-- The first gate's argument and the second's. -/
abbrev zA (r : Fin 8192) (l : Fin 1024) : EReal := x4 (ix2 r ⟨3072 + l.val, by omega⟩) + x6 (ix2 0 ⟨l.val, by omega⟩)
abbrev zB (r : Fin 8192) (l : Fin 1024) : EReal := x4 (ix2 r ⟨4096 + l.val, by omega⟩) + x6 (ix2 0 ⟨1024 + l.val, by omega⟩)
abbrev hh (r : Fin 8192) (l : Fin 1024) : EReal := x2 (ix2 r l) + x3 (ix2 r l)

/-- The gradient of the recurrence's output. -/
def dh (r : Fin 8192) (l : Fin 1024) : EReal := dm x0 x1 r l * (sgm (zA x4 x6 r l) * gelu (gArg x4 r l))
/-- The gradient of GELU's argument. -/
def dg (r : Fin 8192) (l : Fin 1024) : EReal :=
  dm x0 x1 r l * (sgm (zA x4 x6 r l) * hh x2 x3 r l * dgelu (gArg x4 r l))
/-- The gradient of the first gate's argument. -/
def dzA (r : Fin 8192) (l : Fin 1024) : EReal :=
  dm x0 x1 r l * (hh x2 x3 r l * gelu (gArg x4 r l) * (sgm (zA x4 x6 r l) * (1 - sgm (zA x4 x6 r l))))
/-- The gradient of the second gate's argument. -/
def dzB (r : Fin 8192) (l : Fin 1024) : EReal :=
  dm x0 x1 r l * (x5 (ix2 r l) * (sgm (zB x4 x6 r l) * (1 - sgm (zB x4 x6 r l))))
/-- The gradient of both gates' arguments, side by side. -/
def dz (r : Fin 8192) (q : Fin 2048) : EReal :=
  if h : q.val < 1024 then dzA x0 x1 x2 x3 x4 x6 r ⟨q.val, h⟩ else dzB x0 x1 x4 x5 x6 r ⟨q.val - 1024, by omega⟩
/-- The gradient of the second mixer's output. -/
def dyb (r : Fin 8192) (l : Fin 1024) : EReal := dm x0 x1 r l * sgm (zB x4 x6 r l)
/-- The gradient of the gates' bias: the sum over all tokens. -/
def dbg (q : Fin 2048) : EReal := ∑ r : Fin 8192, dz x0 x1 x2 x3 x4 x5 x6 r q

end Cert.Gate
-- ==== Proof.GateKernel.lean ====
/-
  WHAT THE KERNEL'S RESULTS HOLD. The gradient of the gated merge runs over eight points; point `t` reads rows
  `1024 t … 1024 t + 1023` of the token arrays and writes the same rows of four results, and adds its rows' sum to the
  fifth, the gradient of the gates' bias. First what the body stores at one index of a block, then the result arrays.
-/
module

public import proofs.«01_k».proof.Proof.GateMath
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Gate

open Cert.KernelIdeal Cert.KernelIdeal.Gen Cert.Gate Cert.Reals
open Idealize.ShloMosaic Idealize.ShloMosaic.TcCoe Idealize.SL.Sem
open Idealize.ShloMosaic.Pipeline (Dat)

/-! ### The body's arithmetic at one index of a block -/

section Body
variable (v3 v4 v6 v7 v8 v9 v10 v11 : FVec Ideal S1024x1024 .bf16) (v12 : FVec Ideal S1x2048 .f32) (r l : Fin 1024)

theorem pay_dm : k0_pay7 (F := Ideal) v3 v4 (ix2 r l) = ∑ k : Fin 1024, v3 (ix2 r k) * v4 (ix2 l k) := by
  pointwise [k0_pay7]

theorem pay_sigA : k0_pay8 (F := Ideal) v10 v12 (ix2 r l) = sgm (v10 (ix2 r l) + v12 (ix2 0 ⟨l.val, by omega⟩)) := by
  unfold sgm
  pointwise [k0_pay8]

theorem pay_sigB : k0_pay11 (F := Ideal) (k0_pay9 v11 v12) (k0_pay10 (F := Ideal)) (ix2 r l)
    = sgm (v11 (ix2 r l) + v12 (ix2 0 ⟨1024 + l.val, by omega⟩)) := by
  unfold sgm
  pointwise [k0_pay11, k0_pay9, k0_pay10]

theorem pay_gelu : k0_pay13 (F := Ideal) v9 (ix2 r l) = gelu (v9 (ix2 r l)) := by
  unfold gelu th
  pointwise [k0_pay13, k0_pay12]

theorem pay_hh : k0_pay14 (F := Ideal) v7 v8 (ix2 r l) = v7 (ix2 r l) + v8 (ix2 r l) := by
  pointwise [k0_pay14]

variable (d : FVec Ideal S1024x1024 .f32) (s s' y : FVec Ideal S1024x1024 .bf16)

theorem pay_dh : k0_pay16 (F := Ideal) d v9 s (ix2 r l) = d (ix2 r l) * (s (ix2 r l) * gelu (v9 (ix2 r l))) := by
  rw [← pay_gelu]
  pointwise [k0_pay16]

theorem pay_dg : k0_pay1 (F := Ideal) d (k0_pay17 v7 v8 v9 s) (ix2 r l)
    = d (ix2 r l) * (s (ix2 r l) * (v7 (ix2 r l) + v8 (ix2 r l)) * dgelu (v9 (ix2 r l))) := by
  unfold dgelu th
  pointwise [k0_pay1, k0_pay17, k0_pay14, k0_pay12]

theorem pay_dyb : k0_pay2 (F := Ideal) d s (ix2 r l) = d (ix2 r l) * s (ix2 r l) := by
  pointwise [k0_pay2]

theorem pay_dz (q : Fin 2048) : k0_pay3 (F := Ideal) d y s s' v3 (ix2 r q)
    = if h : q.val < 1024 then d (ix2 r ⟨q.val, h⟩) * (v3 (ix2 r ⟨q.val, h⟩) * (s (ix2 r ⟨q.val, h⟩) * (1 - s (ix2 r ⟨q.val, h⟩))))
      else d (ix2 r ⟨q.val - 1024, by omega⟩)
        * (y (ix2 r ⟨q.val - 1024, by omega⟩) * (s' (ix2 r ⟨q.val - 1024, by omega⟩) * (1 - s' (ix2 r ⟨q.val - 1024, by omega⟩)))) := by
  pointwise [k0_pay3]

theorem pay_ya : k0_pay15 (F := Ideal) v7 v8 v9 (ix2 r l) = (v7 (ix2 r l) + v8 (ix2 r l)) * gelu (v9 (ix2 r l)) := by
  rw [← pay_gelu]
  pointwise [k0_pay15, k0_pay14]

theorem pay_dz_cast : k0_pay4 (F := Ideal) d y s s' v3 = k0_pay3 (F := Ideal) d y s s' v3 := by
  funext j; pointwise [k0_pay4]

theorem pay_dbg (a : FVec Ideal S1x2048 .f32) (u : Fin 1) (q : Fin 2048) : k0_pay5 (F := Ideal) d y s s' v3 a (ix2 u q)
    = a (ix2 u q) + ∑ r : Fin 1024, k0_pay3 (F := Ideal) d y s s' v3 (ix2 r q) := by
  pointwise [k0_pay5]

theorem pay_zero (j) : k0_pay6 (F := Ideal) j = (0 : EReal) := by
  pointwise [k0_pay6]

end Body

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 1] ∧ win0_5.index t = ![t.val, 3] ∧ win0_6.index t = ![t.val, 4]
    ∧ win0_7.index t = ![t.val, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![0, 0] ∧ t.val < 8 :=
  (by decide +kernel : ∀ t : Fin grid0.N, _)

/-! ### The argument blocks at an index -/

/-- The row of the whole array that row `r` of point `t`'s block is. -/
abbrev row (t : Fin cfg0.N) (r : Fin 1024) : Fin 8192 := ⟨t.val * 1024 + r.val, by have := idx t; omega⟩

theorem x4_apply (c : Dev nD) (t : Fin cfg0.N) (r l : Fin 1024) :
    X0_4 m c t (ix2 r l) = m (c.tc.loc main_arg4) (ix2 (row t r) ⟨1024 + l.val, by omega⟩) := by
  unfold X0_4 Pipeline.Window.fill
  rw [dif_pos (moved0_4 t _)]
  blk_ext [iblk, V, idx t]

theorem x5_apply (c : Dev nD) (t : Fin cfg0.N) (r l : Fin 1024) :
    X0_5 m c t (ix2 r l) = m (c.tc.loc main_arg4) (ix2 (row t r) ⟨3072 + l.val, by omega⟩) := by
  unfold X0_5 Pipeline.Window.fill
  rw [dif_pos (moved0_5 t _)]
  blk_ext [iblk, V, idx t]

theorem x6_apply (c : Dev nD) (t : Fin cfg0.N) (r l : Fin 1024) :
    X0_6 m c t (ix2 r l) = m (c.tc.loc main_arg4) (ix2 (row t r) ⟨4096 + l.val, by omega⟩) := by
  unfold X0_6 Pipeline.Window.fill
  rw [dif_pos (moved0_6 t _)]
  blk_ext [iblk, V, idx t]

theorem i0_apply (c : Dev nD) (t : Fin cfg0.N) (r l : Fin 1024) :
    iblk m c 0 t (ix2 r l) = m (c.tc.loc main_arg0) (ix2 (row t r) l) := by blk_ext [iblk, V, idx t]
theorem i1_apply (c : Dev nD) (t : Fin cfg0.N) (r l : Fin 1024) :
    iblk m c 1 t (ix2 r l) = m (c.tc.loc main_arg1) (ix2 r l) := by blk_ext [iblk, V, idx t]
theorem i2_apply (c : Dev nD) (t : Fin cfg0.N) (r l : Fin 1024) :
    iblk m c 2 t (ix2 r l) = m (c.tc.loc main_arg2) (ix2 (row t r) l) := by blk_ext [iblk, V, idx t]
theorem i3_apply (c : Dev nD) (t : Fin cfg0.N) (r l : Fin 1024) :
    iblk m c 3 t (ix2 r l) = m (c.tc.loc main_arg3) (ix2 (row t r) l) := by blk_ext [iblk, V, idx t]
theorem i7_apply (c : Dev nD) (t : Fin cfg0.N) (r l : Fin 1024) :
    iblk m c 7 t (ix2 r l) = m (c.tc.loc main_arg5) (ix2 (row t r) l) := by blk_ext [iblk, V, idx t]
theorem i8_apply (c : Dev nD) (t : Fin cfg0.N) (u : Fin 1) (q : Fin 2048) :
    iblk m c 8 t (ix2 u q) = m (c.tc.loc main_arg6) (ix2 u q) := by blk_ext [iblk, V, idx t]

/-! ### What one point leaves in each result's block, at an index

`DM`, `SA`, `SB` name the block's three intermediate arrays: the merge's gradient and the two gates. -/

abbrev DM (c : Dev nD) (t : Fin cfg0.N) : FVec Ideal S1024x1024 .f32 := k0_pay7 (iblk m c 0 t) (iblk m c 1 t)
abbrev SA (c : Dev nD) (t : Fin cfg0.N) : FVec Ideal S1024x1024 .bf16 := k0_pay8 (X0_5 m c t) (iblk m c 8 t)
abbrev SB (c : Dev nD) (t : Fin cfg0.N) : FVec Ideal S1024x1024 .bf16 :=
  k0_pay11 (k0_pay9 (X0_6 m c t) (iblk m c 8 t)) (k0_pay10 (F := Ideal))
abbrev YA (c : Dev nD) (t : Fin cfg0.N) : FVec Ideal S1024x1024 .bf16 := k0_pay15 (iblk m c 2 t) (iblk m c 3 t) (X0_4 m c t)
abbrev DZ (c : Dev nD) (t : Fin cfg0.N) : FVec Ideal S1024x2048 .f32 :=
  k0_pay3 (DM m c t) (iblk m c 7 t) (SA m c t) (SB m c t) (YA m c t)

theorem out9 (c : Dev nD) (t : Fin cfg0.N) :
    (outsAt0 m c t.val t.isLt).1 = k0_pay16 (DM m c t) (X0_4 m c t) (SA m c t) := by
  by_cases h0 : t.val % 8 = 0
  · rw [outsAt0_A m c t h0]; frame_out
  · rw [outsAt0_B m c t h0]; frame_out

theorem out10 (c : Dev nD) (t : Fin cfg0.N) :
    (outsAt0 m c t.val t.isLt).2.1 = k0_pay1 (DM m c t) (k0_pay17 (iblk m c 2 t) (iblk m c 3 t) (X0_4 m c t) (SA m c t)) := by
  by_cases h0 : t.val % 8 = 0
  · rw [outsAt0_A m c t h0]; frame_out
  · rw [outsAt0_B m c t h0]; frame_out

theorem out11 (c : Dev nD) (t : Fin cfg0.N) : (outsAt0 m c t.val t.isLt).2.2.1 = DZ m c t := by
  unfold DZ
  rw [← pay_dz_cast]
  by_cases h0 : t.val % 8 = 0
  · rw [outsAt0_A m c t h0]; frame_out
  · rw [outsAt0_B m c t h0]; frame_out

theorem out12 (c : Dev nD) (t : Fin cfg0.N) : (outsAt0 m c t.val t.isLt).2.2.2.1 = k0_pay2 (DM m c t) (SB m c t) := by
  by_cases h0 : t.val % 8 = 0
  · rw [outsAt0_A m c t h0]; frame_out
  · rw [outsAt0_B m c t h0]; frame_out

/-- After the last point the bias's gradient is the sum of every point's rows. -/
theorem out13 (c : Dev nD) (t : Fin cfg0.N) (ht : t.val + 1 = cfg0.N) (j) :
    (outsAt0 m c t.val t.isLt).2.2.2.2 j = 0 + ∑ p : Fin cfg0.N, ∑ r : Fin 1024, DZ m c p (ix2 r (j 1)) := by
  refine Pipeline.eq_sum_fin_of_reset_step_apply_last (fun n h => (outsAt0 m c n h).2.2.2.2) 8 (fun _ => 0)
    (fun p j => ∑ r : Fin 1024, DZ m c p (ix2 r (j 1)))
    (fun t h j => ?_) (fun t h j => ?_) (le_of_eq N_0) t ht j
  · idx_vars j
    beta_reduce
    rw [outsAt0_A m c t h]; frame_out; rw [pay_dbg, pay_zero]
  · idx_vars j
    beta_reduce
    rw [outsAt0_B m c t h]; frame_out; rw [pay_dbg]

/-! ### The blocks at an index, from the argument arrays -/

section Blocks
variable (c : Dev nD) (t : Fin cfg0.N) (r l : Fin 1024)

theorem DM_apply : DM m c t (ix2 r l) = dm (m (c.tc.loc main_arg0)) (m (c.tc.loc main_arg1)) (row t r) l := by
  unfold DM
  rw [pay_dm]; unfold dm
  exact Finset.sum_congr rfl fun k _ => by rw [i0_apply, i1_apply]

theorem SA_apply : SA m c t (ix2 r l) = sgm (zA (m (c.tc.loc main_arg4)) (m (c.tc.loc main_arg6)) (row t r) l) := by
  unfold SA
  rw [pay_sigA, x5_apply, i8_apply]

theorem SB_apply : SB m c t (ix2 r l) = sgm (zB (m (c.tc.loc main_arg4)) (m (c.tc.loc main_arg6)) (row t r) l) := by
  unfold SB
  rw [pay_sigB, x6_apply, i8_apply]

theorem YA_apply : YA m c t (ix2 r l) = hh (m (c.tc.loc main_arg2)) (m (c.tc.loc main_arg3)) (row t r) l
    * gelu (gArg (m (c.tc.loc main_arg4)) (row t r) l) := by
  unfold YA
  rw [pay_ya, x4_apply, i2_apply, i3_apply]

theorem DZ_apply (q : Fin 2048) : DZ m c t (ix2 r q) = dz (m (c.tc.loc main_arg0)) (m (c.tc.loc main_arg1))
    (m (c.tc.loc main_arg2)) (m (c.tc.loc main_arg3)) (m (c.tc.loc main_arg4)) (m (c.tc.loc main_arg5))
    (m (c.tc.loc main_arg6)) (row t r) q := by
  unfold DZ
  rw [pay_dz]; unfold dz dzA dzB
  split
  · rw [DM_apply, YA_apply, SA_apply]
  · rw [DM_apply, i7_apply, SB_apply]

end Blocks

/-! ### The result arrays -/

theorem final9 (c : Dev nD) : (dats m 0 c).arrAt 9 cfg0.N = fun i =>
    dh (m (c.tc.loc main_arg0)) (m (c.tc.loc main_arg1)) (m (c.tc.loc main_arg4)) (m (c.tc.loc main_arg6)) (i 0) (i 1) := by
  refine (dats m 0 c).arrAt_eq_of_covers 9 _ (by decide +kernel) fun t _ y => ?_
  idx_vars y
  blk_simp
  rw [after0_9, out9, pay_dh, DM_apply, SA_apply, x4_apply]
  refine Eq.trans (b := dh _ _ _ _ (row t y0) y1) rfl (congrArg₂ _ (Fin.ext ?_) (Fin.ext ?_)) <;> blk_simp [idx t]

theorem final10 (c : Dev nD) : (dats m 0 c).arrAt 10 cfg0.N = fun i =>
    dg (m (c.tc.loc main_arg0)) (m (c.tc.loc main_arg1)) (m (c.tc.loc main_arg2)) (m (c.tc.loc main_arg3))
      (m (c.tc.loc main_arg4)) (m (c.tc.loc main_arg6)) (i 0) (i 1) := by
  refine (dats m 0 c).arrAt_eq_of_covers 10 _ (by decide +kernel) fun t _ y => ?_
  idx_vars y
  blk_simp
  rw [after0_10, out10, pay_dg, DM_apply, SA_apply, x4_apply, i2_apply, i3_apply]
  refine Eq.trans (b := dg _ _ _ _ _ _ (row t y0) y1) rfl (congrArg₂ _ (Fin.ext ?_) (Fin.ext ?_)) <;> blk_simp [idx t]

theorem final11 (c : Dev nD) : (dats m 0 c).arrAt 11 cfg0.N = fun i =>
    dz (m (c.tc.loc main_arg0)) (m (c.tc.loc main_arg1)) (m (c.tc.loc main_arg2)) (m (c.tc.loc main_arg3))
      (m (c.tc.loc main_arg4)) (m (c.tc.loc main_arg5)) (m (c.tc.loc main_arg6)) (i 0) (i 1) := by
  refine (dats m 0 c).arrAt_eq_of_covers 11 _ (by decide +kernel) fun t _ y => ?_
  idx_vars y
  blk_simp
  rw [after0_11, out11, DZ_apply]
  refine Eq.trans (b := dz _ _ _ _ _ _ _ (row t y0) y1) rfl (congrArg₂ _ (Fin.ext ?_) (Fin.ext ?_)) <;> blk_simp [idx t]

theorem final12 (c : Dev nD) : (dats m 0 c).arrAt 12 cfg0.N = fun i =>
    dyb (m (c.tc.loc main_arg0)) (m (c.tc.loc main_arg1)) (m (c.tc.loc main_arg4)) (m (c.tc.loc main_arg6)) (i 0) (i 1) := by
  refine (dats m 0 c).arrAt_eq_of_covers 12 _ (by decide +kernel) fun t _ y => ?_
  idx_vars y
  blk_simp
  rw [after0_12, out12, pay_dyb, DM_apply, SB_apply]
  refine Eq.trans (b := dyb _ _ _ _ (row t y0) y1) rfl (congrArg₂ _ (Fin.ext ?_) (Fin.ext ?_)) <;> blk_simp [idx t]

/-- All points' rows are all the tokens. -/
theorem sum_rows (c : Dev nD) (q : Fin 2048) : (∑ p : Fin cfg0.N, ∑ r : Fin 1024, DZ m c p (ix2 r q))
    = dbg (m (c.tc.loc main_arg0)) (m (c.tc.loc main_arg1)) (m (c.tc.loc main_arg2)) (m (c.tc.loc main_arg3))
      (m (c.tc.loc main_arg4)) (m (c.tc.loc main_arg5)) (m (c.tc.loc main_arg6)) q := by
  unfold dbg
  refine Fin.sum_mul_add_congr (L := 8192) (S := 8) (n := 1024) (fun s k _ => ?_)
  exact DZ_apply m c s k q

theorem final13 (c : Dev nD) : (dats m 0 c).arrAt 13 cfg0.N = fun i =>
    dbg (m (c.tc.loc main_arg0)) (m (c.tc.loc main_arg1)) (m (c.tc.loc main_arg2)) (m (c.tc.loc main_arg3))
      (m (c.tc.loc main_arg4)) (m (c.tc.loc main_arg5)) (m (c.tc.loc main_arg6)) (i 1) := by
  refine (dats m 0 c).arrAt_eq_of_after_last 13 t0_7 (by decide +kernel) _ fun j => ?_
  blk_simp
  rw [after0_13, out13 m c t0_7 (by decide +kernel), zero_add]
  exact sum_rows m c (j 1)

end Cert.KernelIdeal.Gate
-- ==== Proof.GateReference.lean ====
/-
  WHAT THE REFERENCE'S RESULTS HOLD. The reference differentiates the gated merge as a whole; here each of its five
  results is read at an index as a scalar expression of the argument arrays.
-/
module

public import proofs.«01_k».proof.Proof.GateMath
public import proofs.«01_k».proof.Proof.Gen.ReferenceIdeal.Read
public import Idealize.ShloMosaic.Lib.Pointwise

@[expose] public section

set_option maxRecDepth 16384

noncomputable section

namespace Cert.ReferenceIdeal.Gate

open Cert.ReferenceIdeal Cert.ReferenceIdeal.Gen Cert.ReferenceIdeal.Read Cert.Gate Cert.Reals
open Idealize.ShloMosaic Idealize.ShloMosaic.TcCoe

variable (x0 : FVec Ideal Tok .bf16) (x1 : FVec Ideal Mat .bf16) (x2 x3 : FVec Ideal Tok .bf16) (x4 : FVec Ideal Prj .bf16)
  (x5 : FVec Ideal Tok .bf16) (x6 : FVec Ideal Bia .f32) (r : Fin 8192) (l : Fin 1024)

theorem v51 : val_main_v51 (F := Ideal) x0 x1 (ix2 r l) = dm x0 x1 r l := by
  unfold dm
  pointwise [val_main_v51, val_main_v0, val_main_v1]

/-- Both gates' argument, side by side. -/
abbrev zz (q : Fin 2048) : EReal := x4 (ix2 r ⟨3072 + q.val, by omega⟩) + x6 (ix2 0 q)

theorem v38 (q : Fin 2048) : val_main_v38 (F := Ideal) x4 x6 (ix2 r q) = lgs (zz x4 x6 r q) := by
  unfold lgs
  pointwise [val_main_v38, val_main_v36, val_main_v35, val_main_v37, val_main_v34, val_main_v33, val_main_v32, val_main_v31,
    val_main_v7, val_main_v4, val_main_cst_6, val_main_cst_7]

theorem v44 : val_main_v44 (F := Ideal) x4 x6 (ix2 r l) = lgs (zA x4 x6 r l) := by
  rw [show zA x4 x6 r l = zz x4 x6 r ⟨l.val, by omega⟩ from rfl, ← v38]
  pointwise [val_main_v44, val_main_v43, val_main_v42]

theorem v47 : val_main_v47 (F := Ideal) x4 x6 (ix2 r l) = lgs (zB x4 x6 r l) := by
  rw [show zB x4 x6 r l = zz x4 x6 r ⟨1024 + l.val, by omega⟩ by
    unfold zB zz; congr 3; exact Fin.ext (by show 4096 + l.val = 3072 + (1024 + l.val); omega), ← v38]
  pointwise [val_main_v47, val_main_v46, val_main_v42]

theorem v52 : val_main_v52 (F := Ideal) x0 x1 x4 x6 (ix2 r l) = lgs (zB x4 x6 r l) * dm x0 x1 r l := by
  rw [← v47, ← v51]
  pointwise [val_main_v52]

/-- The tangent inside GELU, as the reference computes it. -/
def rth (g : EReal) : EReal :=
  Ideal.tanh (Ideal.ofBits .f32 0x3F4C422A#32 * (g + Ideal.ofBits .f32 0x3D372713#32 * (g * g * g)))

theorem v6 : val_main_v6 (F := Ideal) x4 (ix2 r l) = gArg x4 r l := by
  pointwise [val_main_v6, val_main_v4]

theorem v19 : val_main_v19 (F := Ideal) x4 (ix2 r l) = rth (gArg x4 r l) := by
  unfold rth
  rw [← v6]
  pointwise [val_main_v19, val_main_v18, val_main_v17, val_main_v16, val_main_v15, val_main_v14, val_main_v10, val_main_v9,
    val_main_cst_0, val_main_cst_1]

theorem v28 : val_main_v28 (F := Ideal) x4 (ix2 r l) = Ideal.ofBits .f32 0x3F000000#32 * (1 + rth (gArg x4 r l)) := by
  rw [← v19]
  pointwise [val_main_v28, val_main_v27, val_main_v26, val_main_v25, val_main_cst_4, val_main_cst_5]

theorem v29 : val_main_v29 (F := Ideal) x4 (ix2 r l)
    = gArg x4 r l * (Ideal.ofBits .f32 0x3F000000#32 * (1 + rth (gArg x4 r l))) := by
  rw [← v28, ← v6]
  pointwise [val_main_v29]

theorem v30 : val_main_v30 (F := Ideal) x2 x3 x4 (ix2 r l) = hh x2 x3 r l * val_main_v29 (F := Ideal) x4 (ix2 r l) := by
  pointwise [val_main_v30, val_main_v8, val_main_v2, val_main_v3]

theorem v24 : val_main_v24 (F := Ideal) x4 (ix2 r l) = (1 + rth (gArg x4 r l)) * (1 - rth (gArg x4 r l)) := by
  rw [← v19]
  pointwise [val_main_v24, val_main_v23, val_main_v22, val_main_v21, val_main_v20, val_main_cst_2, val_main_cst_3]

theorem v56 : val_main_v56 (F := Ideal) x0 x1 x4 x6 (ix2 r l) = lgs (zA x4 x6 r l) * dm x0 x1 r l := by
  rw [← v44, ← v51]
  pointwise [val_main_v56]

theorem v66 : val_main_v66 (F := Ideal) x0 x1 x4 x6 (ix2 r l)
    = val_main_v56 (F := Ideal) x0 x1 x4 x6 (ix2 r l) * val_main_v29 (F := Ideal) x4 (ix2 r l) := by
  pointwise [val_main_v66]

theorem v65 : val_main_v65 (F := Ideal) x0 x1 x2 x3 x4 x6 (ix2 r l)
    = hh x2 x3 r l * val_main_v56 (F := Ideal) x0 x1 x4 x6 (ix2 r l) := by
  pointwise [val_main_v65, val_main_v8, val_main_v2, val_main_v3]

theorem v73 : val_main_v73 (F := Ideal) x0 x1 x2 x3 x4 x6 (ix2 r l)
    = Ideal.ofBits .f32 0x3F4C422A#32 * (Ideal.ofBits .f32 0x3F000000#32
      * (gArg x4 r l * val_main_v65 (F := Ideal) x0 x1 x2 x3 x4 x6 (ix2 r l)) * val_main_v24 (F := Ideal) x4 (ix2 r l)) := by
  rw [← v6]
  pointwise [val_main_v73, val_main_v72, val_main_v71, val_main_v70, val_main_v69, val_main_v67, val_main_cst_12, val_main_cst_13]

theorem v78 : val_main_v78 (F := Ideal) x0 x1 x2 x3 x4 x6 (ix2 r l)
    = val_main_v65 (F := Ideal) x0 x1 x2 x3 x4 x6 (ix2 r l) * val_main_v28 (F := Ideal) x4 (ix2 r l)
      + val_main_v73 (F := Ideal) x0 x1 x2 x3 x4 x6 (ix2 r l)
      + Ideal.ofBits .f32 0x3D372713#32 * val_main_v73 (F := Ideal) x0 x1 x2 x3 x4 x6 (ix2 r l)
        * (Ideal.ofBits .f32 0x40400000#32 * (gArg x4 r l * gArg x4 r l)) := by
  rw [← v6]
  pointwise [val_main_v78, val_main_v77, val_main_v76, val_main_v75, val_main_v74, val_main_v68, val_main_v13, val_main_v12,
    val_main_v11, val_main_cst, val_main_cst_14]

theorem v41 (q : Fin 2048) : val_main_v41 (F := Ideal) x4 x6 (ix2 r q)
    = lgs (zz x4 x6 r q) * (1 - lgs (zz x4 x6 r q)) := by
  rw [← v38]
  pointwise [val_main_v41, val_main_v40, val_main_v39, val_main_cst_8]

theorem v61_lo : val_main_v61 (F := Ideal) x0 x1 x2 x3 x4 x5 (ix2 r ⟨l.val, by omega⟩)
    = dm x0 x1 r l * val_main_v30 (F := Ideal) x2 x3 x4 (ix2 r l) := by
  rw [← v51]
  pointwise [val_main_v61, val_main_v60, val_main_v55, val_main_v54, val_main_v53, val_main_v59, val_main_v58, val_main_v57,
    val_main_cst_9, val_main_cst_10, val_main_v5]
  have hl := l.isLt
  have c1 : ¬((1 ≤ l.val / 1024 ∧ l.val / 1024 - 1 < 1) ∧ l.val % 1024 < 1024) := by omega
  have c2 : l.val / 1024 < 1 ∧ l.val % 1024 < 1024 := by omega
  have hm : l.val % 1024 = l.val := Nat.mod_eq_of_lt hl
  rw [dif_neg c1, dif_pos c2, zero_add]
  simp only [hm]

theorem v61_hi : val_main_v61 (F := Ideal) x0 x1 x2 x3 x4 x5 (ix2 r ⟨1024 + l.val, by omega⟩)
    = dm x0 x1 r l * x5 (ix2 r l) := by
  rw [← v51]
  pointwise [val_main_v61, val_main_v60, val_main_v55, val_main_v54, val_main_v53, val_main_v59, val_main_v58, val_main_v57,
    val_main_cst_9, val_main_cst_10, val_main_v5]
  have c1 : 1 ≤ (1024 + l.val) / 1024 ∧ (1024 + l.val) / 1024 - 1 < 1 := by omega
  have c2 : ¬((1024 + l.val) / 1024 < 1) := by omega
  rw [dif_pos c1, dif_neg c2, add_zero]

theorem v62 (q : Fin 2048) : val_main_v62 (F := Ideal) x0 x1 x2 x3 x4 x5 x6 (ix2 r q)
    = val_main_v61 (F := Ideal) x0 x1 x2 x3 x4 x5 (ix2 r q) * val_main_v41 (F := Ideal) x4 x6 (ix2 r q) := by
  pointwise [val_main_v62]

theorem v64 (u : Fin 1) (q : Fin 2048) : val_main_v64 (F := Ideal) x0 x1 x2 x3 x4 x5 x6 (ix2 u q)
    = ∑ r : Fin 8192, val_main_v62 (F := Ideal) x0 x1 x2 x3 x4 x5 x6 (ix2 r q) := by
  pointwise [val_main_v64, val_main_v63, val_main_cst_11]

end Cert.ReferenceIdeal.Gate
-- ==== Proof.GateEquation.lean ====
/-
  THE REFERENCE'S RESULTS ARE THE KERNEL'S. Where every argument is a real number both sides are real numbers, and the
  five equations are identities of real arithmetic: the kernel's logistic function is half a hyperbolic tangent plus a
  half, its derivative of GELU is the reference's with the products regrouped.
-/
module

public import proofs.«01_k».proof.Proof.GateReference

@[expose] public section

set_option maxRecDepth 16384

noncomputable section

namespace Cert.ReferenceIdeal.Gate

open Cert.ReferenceIdeal Cert.ReferenceIdeal.Gen Cert.ReferenceIdeal.Read Cert.Gate Cert.Reals
open Idealize.ShloMosaic Idealize.ShloMosaic.TcCoe

theorem rth_coe (g : ℝ) : rth (g : EReal) = ((thR g : ℝ) : EReal) := by
  unfold rth thR
  rw [ofBits_rC, ofBits_rA]
  simp only [← EReal.coe_mul, ← EReal.coe_add, tanh_coe]

variable (x0 : FVec Ideal Tok .bf16) (x1 : FVec Ideal Mat .bf16) (x2 x3 : FVec Ideal Tok .bf16) (x4 : FVec Ideal Prj .bf16)
  (x5 : FVec Ideal Tok .bf16) (x6 : FVec Ideal Bia .f32) (r : Fin 8192) (l : Fin 1024)

theorem isReal_dm (h0 : ∀ i, IsReal (x0 i)) (h1 : ∀ i, IsReal (x1 i)) : IsReal (dm x0 x1 r l) :=
  IsReal.sum _ _ fun k => (h0 _).mul (h1 _)

section
variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i))
include h0 h1 h4 h6

theorem eq_dh : val_main_v66 (F := Ideal) x0 x1 x4 x6 (ix2 r l) = dh x0 x1 x4 x6 r l := by
  rw [v66, v56, v29]
  unfold dh
  obtain ⟨d, hd⟩ := isReal_dm x0 x1 r l h0 h1
  obtain ⟨z, hz⟩ : IsReal (zA x4 x6 r l) := (h4 _).add (h6 _)
  obtain ⟨g, hg⟩ : IsReal (gArg x4 r l) := h4 _
  rw [hd, hz, hg, lgs_coe, rth_coe, sgm_coe, gelu_coe, ofBits_half_f32, one_coe]
  simp only [← EReal.coe_mul, ← EReal.coe_add]
  unfold geluR
  congr 1; ring

theorem eq_dyb : val_main_v52 (F := Ideal) x0 x1 x4 x6 (ix2 r l) = dyb x0 x1 x4 x6 r l := by
  rw [v52]
  unfold dyb
  obtain ⟨d, hd⟩ := isReal_dm x0 x1 r l h0 h1
  obtain ⟨z, hz⟩ : IsReal (zB x4 x6 r l) := (h4 _).add (h6 _)
  rw [hd, hz, lgs_coe, sgm_coe]
  simp only [← EReal.coe_mul]
  congr 1; ring

include h2 h3

theorem eq_dg : val_main_v78 (F := Ideal) x0 x1 x2 x3 x4 x6 (ix2 r l) = dg x0 x1 x2 x3 x4 x6 r l := by
  rw [v78, v73, v65, v56, v28, v24]
  unfold dg
  obtain ⟨d, hd⟩ := isReal_dm x0 x1 r l h0 h1
  obtain ⟨z, hz⟩ : IsReal (zA x4 x6 r l) := (h4 _).add (h6 _)
  obtain ⟨g, hg⟩ : IsReal (gArg x4 r l) := h4 _
  obtain ⟨y, hy⟩ : IsReal (hh x2 x3 r l) := (h2 _).add (h3 _)
  rw [hd, hz, hg, hy, lgs_coe, rth_coe, sgm_coe, dgelu_coe, ofBits_half_f32, ofBits_three_f32, ofBits_rA, ofBits_rC, one_coe]
  simp only [← EReal.coe_mul, ← EReal.coe_add, ← EReal.coe_sub]
  unfold dgeluR
  congr 1; ring

include h5

theorem eq_dz (q : Fin 2048) :
    val_main_v62 (F := Ideal) x0 x1 x2 x3 x4 x5 x6 (ix2 r q) = dz x0 x1 x2 x3 x4 x5 x6 r q := by
  rw [v62, v41]
  unfold dz
  by_cases h : q.val < 1024
  · rw [dif_pos h, v61_lo x0 x1 x2 x3 x4 x5 r ⟨q.val, h⟩, v30, v29]
    unfold dzA
    have hzz : zz x4 x6 r q = zA x4 x6 r ⟨q.val, h⟩ := rfl
    obtain ⟨d, hd⟩ := isReal_dm x0 x1 r ⟨q.val, h⟩ h0 h1
    obtain ⟨z, hz⟩ : IsReal (zA x4 x6 r ⟨q.val, h⟩) := (h4 _).add (h6 _)
    obtain ⟨g, hg⟩ : IsReal (gArg x4 r ⟨q.val, h⟩) := h4 _
    obtain ⟨y, hy⟩ : IsReal (hh x2 x3 r ⟨q.val, h⟩) := (h2 _).add (h3 _)
    rw [hzz, hd, hz, hg, hy, lgs_coe, rth_coe, sgm_coe, gelu_coe, ofBits_half_f32, one_coe]
    simp only [← EReal.coe_mul, ← EReal.coe_add, ← EReal.coe_sub]
    unfold geluR
    congr 1; ring
  · rw [dif_neg h]
    unfold dzB
    have hzz : zz x4 x6 r q = zB x4 x6 r ⟨q.val - 1024, by omega⟩ := by
      unfold zz zB
      congr 3 <;> exact Fin.ext (by dsimp only; omega)
    obtain ⟨d, hd⟩ := isReal_dm x0 x1 r ⟨q.val - 1024, by omega⟩ h0 h1
    obtain ⟨z, hz⟩ : IsReal (zB x4 x6 r ⟨q.val - 1024, by omega⟩) := (h4 _).add (h6 _)
    obtain ⟨y, hy⟩ := h5 (ix2 r ⟨q.val - 1024, by omega⟩)
    have hq : q = ⟨1024 + (q.val - 1024), by omega⟩ := Fin.ext (by dsimp only; omega)
    have h61 := v61_hi x0 x1 x2 x3 x4 x5 r ⟨q.val - 1024, by omega⟩
    rw [← hq] at h61
    rw [h61, hzz, hd, hz, hy, lgs_coe, sgm_coe, one_coe]
    simp only [← EReal.coe_mul, ← EReal.coe_sub]
    congr 1; ring

theorem eq_dbg (u : Fin 1) (q : Fin 2048) :
    val_main_v64 (F := Ideal) x0 x1 x2 x3 x4 x5 x6 (ix2 u q) = dbg x0 x1 x2 x3 x4 x5 x6 q := by
  rw [v64]
  exact Finset.sum_congr rfl fun r _ => eq_dz x0 x1 x2 x3 x4 x5 x6 r h0 h1 h2 h3 h4 h5 h6 q

end

end Cert.ReferenceIdeal.Gate
-- ==== Proof.GateClaim.lean ====
/-
  THE CLAIM ABOUT THE GATED MERGE'S GRADIENT, put together: the precondition says every argument is a real number; the
  kernel's run and the reference's run are the generated ones; their results are equal by the equations.
-/
module

public import proofs.«01_k».proof.Defs
public import proofs.«01_k».proof.Proof.GateKernel
public import proofs.«01_k».proof.Proof.GateEquation
public import proofs.«01_k».proof.Proof.Gen.ReferenceIdeal.Run
public import proofs.«01_k».proof.Proof.Gen.Pre_whole_gate
public import Idealize.ShloMosaic.Adequacy
public import Idealize.ShloMosaic.Init
public import Idealize.ShloMosaic.Lib.Claim

@[expose] public section

set_option maxRecDepth 16384

noncomputable section

namespace Cert.Gate

open Idealize.ShloMosaic Idealize.SL.Sem Cert.Reals

section
variable (m : (ℓ : Loc Cert.KernelIdeal.nD Cert.KernelIdeal.τ Cert.KernelIdeal.sig) → Buf (Elt Ideal) ℓ)
  (h : Cert.Pre_KernelIdeal_whole_gate (hPre_whole_gate := Cert.Pre_whole_gate.Gen.facts) m) (c : Dev Cert.KernelIdeal.nD)
include h

theorem real0 (i) : IsReal (m (c.tc.loc Cert.KernelIdeal.main_arg0) i) :=
  isReal_of_lt (congrFun (h c).1 i)
theorem real1 (i) : IsReal (m (c.tc.loc Cert.KernelIdeal.main_arg1) i) :=
  isReal_of_lt (congrFun (h c).2.1 i)
theorem real2 (i) : IsReal (m (c.tc.loc Cert.KernelIdeal.main_arg2) i) :=
  isReal_of_lt (congrFun (h c).2.2.1 i)
theorem real3 (i) : IsReal (m (c.tc.loc Cert.KernelIdeal.main_arg3) i) :=
  isReal_of_lt (congrFun (h c).2.2.2.1 i)
theorem real4 (i) : IsReal (m (c.tc.loc Cert.KernelIdeal.main_arg4) i) :=
  isReal_of_lt (congrFun (h c).2.2.2.2.1 i)
theorem real5 (i) : IsReal (m (c.tc.loc Cert.KernelIdeal.main_arg5) i) :=
  isReal_of_lt (congrFun (h c).2.2.2.2.2.1 i)
theorem real6 (i) : IsReal (m (c.tc.loc Cert.KernelIdeal.main_arg6) i) :=
  isReal_of_lt (congrFun (h c).2.2.2.2.2.2 i)

end

/-- The reference's frame: its run writes no argument, and it declares no semaphore. -/
theorem frame_reference : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2.2.2, sem_eq_zero_of_no_sems (by decide) r.2⟩)
    (Cert.ReferenceIdeal.Value.run (F := Ideal) m ρ)

theorem algebraic : Cert.algebraic_KernelIdeal_ReferenceIdeal_pre_whole_gate
    (hKernelIdeal := Cert.KernelIdeal.Gen.facts) (hReferenceIdeal := Cert.ReferenceIdeal.Gen.facts)
    (hPre_whole_gate := Cert.Pre_whole_gate.Gen.facts) := by
  pair_intro
  · run_from Cert.KernelIdeal.Value.run_blocks m g
  · run_from Cert.ReferenceIdeal.Value.run m' g'
    all_goals have h0 := real0 m hpre c
    all_goals have h1 := real1 m hpre c
    all_goals have h2 := real2 m hpre c
    all_goals have h3 := real3 m hpre c
    all_goals have h4 := real4 m hpre c
    all_goals have h5 := real5 m hpre c
    all_goals have h6 := real6 m hpre c
    · refine (Cert.ReferenceIdeal.Read.val_main_v79_eq _ _ _ _).trans ?_
      rw [Cert.KernelIdeal.Gate.final9]
      funext i; idx_vars i
      exact Cert.ReferenceIdeal.Gate.eq_dh _ _ _ _ _ _ h0 h1 h4 h6
    · obtain ⟨e0, e1, e2, e3, e4, e5, e6⟩ := hagree c
      rw [Cert.ReferenceIdeal.Read.val_main_v80_eq, e0, e1, e2, e3, e4, e6, Cert.KernelIdeal.Gate.final10]
      funext i; idx_vars i
      exact Cert.ReferenceIdeal.Gate.eq_dg _ _ _ _ _ _ _ _ h0 h1 h2 h3 h4 h6
    · refine (Cert.ReferenceIdeal.Read.val_main_v81_eq _ _ _ _ _ _ _).trans ?_
      rw [Cert.KernelIdeal.Gate.final11]
      funext i; idx_vars i
      exact Cert.ReferenceIdeal.Gate.eq_dz _ _ _ _ _ _ _ _ h0 h1 h2 h3 h4 h5 h6 _
    · refine (Cert.ReferenceIdeal.Read.val_main_v82_eq _ _ _ _).trans ?_
      rw [Cert.KernelIdeal.Gate.final12]
      funext i; idx_vars i
      exact Cert.ReferenceIdeal.Gate.eq_dyb _ _ _ _ _ _ h0 h1 h4 h6
    · refine (Cert.ReferenceIdeal.Read.val_main_v64_eq _ _ _ _ _ _ _).trans ?_
      rw [Cert.KernelIdeal.Gate.final13]
      funext i; idx_vars i
      exact Cert.ReferenceIdeal.Gate.eq_dbg _ _ _ _ _ _ _ h0 h1 h2 h3 h4 h5 h6 _ _

end Cert.Gate
-- ==== Proof.Norm.lean ====
/-
  THE ROOT-MEAN-SQUARE NORM AND ITS GRADIENT, over one row of 1024 elements. `rn x` is one over the root of the row's mean
  square (plus a small constant), the normalised row is `x * rn x`. The gradient of the norm with respect to the row is
  written in two ways: as the kernels evaluate it (`kdx`) and as differentiating the norm step by step gives it (`rdx`).
  At real numbers they are equal. Nothing here is about a program.
-/
module

public import proofs.«01_k».proof.Proof.Reals

@[expose] public section

noncomputable section

namespace Cert.Norm

open Idealize.ShloMosaic Cert.Reals

/-- The row's length and the small constant, as the literals they are. -/
abbrev cN : EReal := Ideal.ofBits .f32 0x44800000#32
abbrev cE : EReal := Ideal.ofBits .f32 0x358637BD#32

def rE : ℝ := 8796093 / 8796093022208

theorem cN_eq : cN = ((1024 : ℝ) : EReal) := by
  simp [cN, Ideal.ofBits, Ideal.ieee, -EReal.coe_mul]; norm_num

theorem cE_eq : cE = ((rE : ℝ) : EReal) := by
  unfold rE; simp [cE, Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem rE_pos : 0 < rE := by unfold rE; norm_num

section
variable (x d : Fin 1024 → EReal) (l : Fin 1024)

/-- The row's mean square plus the small constant. -/
def ms : EReal := Ideal.div (∑ k, x k * x k) cN + cE
/-- One over its root. -/
def rn : EReal := Ideal.rsqrt (ms x)
/-- The normalised row. -/
def xh : EReal := x l * rn x
/-- The gradient of the normalised row taken back to the row, as the kernels evaluate it. -/
def kdx : EReal := rn x * (d l - xh x l * Ideal.div (∑ k, d k * xh x k) cN)
/-- The coefficient the gradient of the mean square contributes. -/
def rc : EReal := Ideal.div ((∑ k, x k * d k) * (Ideal.ofBits .f32 0xBF000000#32 * Ideal.div (rn x) (ms x))) cN
/-- The same gradient, differentiated step by step. -/
def rdx : EReal := d l * rn x + x l * rc x d + rc x d * x l

end

theorem rsqrt_coe {r : ℝ} (h : 0 < r) : Ideal.rsqrt (r : EReal) = (((√r)⁻¹ : ℝ) : EReal) := by
  show (if r < 0 then (⊥ : EReal) else if r = 0 then ⊤ else (((Real.sqrt r)⁻¹ : ℝ) : EReal)) = _
  rw [if_neg (not_lt.mpr h.le), if_neg h.ne']

/-- The mean square of real numbers, plus the constant, is a positive real number; `rn` is its root's inverse. -/
theorem ms_coe (X : Fin 1024 → ℝ) : ms (fun k => (X k : EReal)) = (((∑ k, X k * X k) / 1024 + rE : ℝ) : EReal) := by
  unfold ms
  rw [cN_eq, cE_eq]
  simp only [← EReal.coe_mul]
  rw [← coe_sum, div_coe _ (by norm_num), ← EReal.coe_add]

theorem ms_pos (X : Fin 1024 → ℝ) : 0 < (∑ k, X k * X k) / 1024 + rE := by
  have h : 0 ≤ ∑ k, X k * X k := Finset.sum_nonneg fun k _ => mul_self_nonneg _
  have := rE_pos
  positivity

theorem rn_coe (X : Fin 1024 → ℝ) : rn (fun k => (X k : EReal)) = (((√((∑ k, X k * X k) / 1024 + rE))⁻¹ : ℝ) : EReal) := by
  unfold rn
  rw [ms_coe, rsqrt_coe (ms_pos X)]

theorem isReal_rn {x : Fin 1024 → EReal} (hx : ∀ k, IsReal (x k)) : IsReal (rn x) := by
  choose X hX using hx
  obtain rfl : x = fun k => (X k : EReal) := funext hX
  exact ⟨_, rn_coe X⟩

theorem isReal_xh {x : Fin 1024 → EReal} (hx : ∀ k, IsReal (x k)) (l : Fin 1024) : IsReal (xh x l) :=
  (hx l).mul (isReal_rn hx)

/-- The two gradients are the same. -/
theorem rdx_eq_kdx {x d : Fin 1024 → EReal} (hx : ∀ k, IsReal (x k)) (hd : ∀ k, IsReal (d k)) (l : Fin 1024) :
    rdx x d l = kdx x d l := by
  choose X hX using hx
  obtain rfl : x = fun k => (X k : EReal) := funext hX
  choose D hD using hd
  obtain rfl : d = fun k => (D k : EReal) := funext hD
  have hq := ms_pos X
  unfold rdx kdx rc xh
  rw [rn_coe, ms_coe, ofBits_neg_half, cN_eq]
  generalize (∑ k, X k * X k) / 1024 + rE = q at hq ⊢
  obtain ⟨s, hs, rfl⟩ : ∃ s : ℝ, 0 < s ∧ q = s * s :=
    ⟨√q, Real.sqrt_pos.mpr hq, (Real.mul_self_sqrt hq.le).symm⟩
  rw [Real.sqrt_mul_self hs.le]
  simp only [← EReal.coe_mul]
  rw [← coe_sum, ← coe_sum, div_coe _ hq.ne', div_coe _ (by norm_num), ← EReal.coe_mul, ← EReal.coe_mul,
    div_coe _ (by norm_num)]
  simp only [← EReal.coe_mul, ← EReal.coe_add, ← EReal.coe_sub]
  congr 1
  have e : (∑ k, D k * (X k * s⁻¹)) = (∑ k, X k * D k) * s⁻¹ := by
    rw [Finset.sum_mul]; exact Finset.sum_congr rfl fun k _ => by ring
  rw [e]
  generalize (∑ k, X k * D k) = S
  field_simp
  ring

end Cert.Norm
-- ==== Proof.FfnMath.lean ====
/-
  THE CHANNEL MIXER'S SECOND HALF, THE LOSS AND THEIR GRADIENT, as functions of the argument arrays. `x0` holds the two
  halves of the mixer's hidden layer side by side (2816 columns each), `x1` the residual stream, `x2` the output matrix,
  `x3` the final norm's gain, `x4` the target. The expressions are in the kernel's own order of operations.
-/
module

public import proofs.«01_k».proof.Proof.Norm

@[expose] public section

noncomputable section

namespace Cert.Ffn

open Idealize.ShloMosaic Cert.Norm Cert.Reals

abbrev Hid2 : Shape := ⟨2, ![8192, 5632]⟩
abbrev Tok : Shape := ⟨2, ![8192, 1024]⟩
abbrev Wgt : Shape := ⟨2, ![2816, 1024]⟩
abbrev Row : Shape := ⟨2, ![1, 1024]⟩

/-- The gate's nonlinearity and its derivative. -/
def silu (g : EReal) : EReal := g * sgm g
def dsilu (g : EReal) : EReal := sgm g * (1 + g * (1 - sgm g))

/-- One over 1024, and half of that, as the literals the kernel multiplies by. -/
abbrev cI : EReal := Ideal.ofBits .f32 0x3A800000#32
abbrev cH : EReal := Ideal.ofBits .f32 0x3A000000#32

theorem cI_eq : cI = ((1 / 1024 : ℝ) : EReal) := by
  simp [cI, Ideal.ofBits, Ideal.ieee, -EReal.coe_mul]; norm_num

theorem cH_eq : cH = ((1 / 2048 : ℝ) : EReal) := by
  simp [cH, Ideal.ofBits, Ideal.ieee, -EReal.coe_mul]; norm_num

variable (x0 : FVec Ideal Hid2 .bf16) (x1 : FVec Ideal Tok .f32) (x2 : FVec Ideal Wgt .bf16) (x3 : FVec Ideal Row .f32)
  (x4 : FVec Ideal Tok .f32) (r : Fin 8192)

/-- The hidden layer's two halves. -/
abbrev gt (k : Fin 2816) : EReal := x0 (ix2 r ⟨k.val, by omega⟩)
abbrev up (k : Fin 2816) : EReal := x0 (ix2 r ⟨2816 + k.val, by omega⟩)

/-- The gated hidden layer. -/
def ff (k : Fin 2816) : EReal := silu (gt x0 r k) * up x0 r k
/-- The residual stream after the channel mixer. -/
def xo (l : Fin 1024) : EReal := x1 (ix2 r l) + ∑ k : Fin 2816, ff x0 r k * x2 (ix2 k l)
/-- The normalised output's distance from the target. -/
def err (l : Fin 1024) : EReal := xh (xo x0 x1 x2 r) l * x3 (ix2 0 l) - x4 (ix2 r l)
/-- The gradient of the norm's output. -/
def dy (l : Fin 1024) : EReal := err x0 x1 x2 x3 x4 r l * cI
/-- The gradient of the residual stream after the mixer. -/
def dx (l : Fin 1024) : EReal := kdx (xo x0 x1 x2 r) (fun k => dy x0 x1 x2 x3 x4 r k * x3 (ix2 0 k)) l
/-- One token's part of the gradient of the norm's gain. -/
def dgp (l : Fin 1024) : EReal := dy x0 x1 x2 x3 x4 r l * xh (xo x0 x1 x2 r) l
/-- The gradient of the gated hidden layer. -/
def dff (k : Fin 2816) : EReal := ∑ l : Fin 1024, dx x0 x1 x2 x3 x4 r l * x2 (ix2 k l)
/-- The gradients of the hidden layer's two halves. -/
def dgate (k : Fin 2816) : EReal := dff x0 x1 x2 x3 x4 r k * (up x0 r k * dsilu (gt x0 r k))
def dup (k : Fin 2816) : EReal := dff x0 x1 x2 x3 x4 r k * silu (gt x0 r k)

/-- The gradient of the norm's gain: the sum over all tokens. -/
def dg (l : Fin 1024) : EReal := ∑ r : Fin 8192, dgp x0 x1 x2 x3 x4 r l
/-- The loss, as the kernel adds it up: thirty-two groups of 256 tokens. -/
def loss : EReal := ∑ p : Fin 32, cH * ∑ s : Fin 256, ∑ l : Fin 1024,
  err x0 x1 x2 x3 x4 ⟨p.val * 256 + s.val, by omega⟩ l * err x0 x1 x2 x3 x4 ⟨p.val * 256 + s.val, by omega⟩ l

end Cert.Ffn
-- ==== Proof.FfnKernel.lean ====
/-
  WHAT THE KERNEL'S RESULTS HOLD. The channel mixer's second half, the loss and their gradient run over thirty-two points;
  point `t` reads rows `256 t … 256 t + 255` of the token arrays and writes the same rows of five results, and adds its
  part of the loss and of the gradient of the final norm's gain to the other two.
-/
module

public import proofs.«01_k».proof.Proof.FfnMath
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Kernel3Ideal.Ffn

open Cert.Kernel3Ideal Cert.Kernel3Ideal.Gen Cert.Ffn Cert.Norm Cert.Reals
open Idealize.ShloMosaic Idealize.ShloMosaic.TcCoe Idealize.SL.Sem
open Idealize.ShloMosaic.Pipeline (Dat)

/-! ### The body's arithmetic at one index of a block -/

section Body
variable (v3 v4 v11 v12 : FVec Ideal S256x2816 .bf16) (v15 v29 v32 v33 : FVec Ideal S256x1024 .f32) (v16 : FVec Ideal S2816x1024 .bf16)
  (v19 a : FVec Ideal S1x1024 .f32) (v27 : FVec Ideal S256x1 .f32) (v34 : FVec Ideal S1x128 .f32)
  (v67 : FVec Ideal S256x1024 .bf16) (r : Fin 256) (l : Fin 1024) (k : Fin 2816)

theorem pay_sg : k0_pay6 (F := Ideal) v3 (ix2 r k) = sgm (v3 (ix2 r k)) := by
  unfold sgm
  pointwise [k0_pay6]

theorem pay_silu : k0_pay7 (F := Ideal) v3 (ix2 r k) = silu (v3 (ix2 r k)) := by
  unfold silu
  rw [← pay_sg]
  pointwise [k0_pay7]

theorem pay_ff : k0_pay8 (F := Ideal) v3 v4 (ix2 r k) = silu (v3 (ix2 r k)) * v4 (ix2 r k) := by
  rw [← pay_silu]
  pointwise [k0_pay8]

theorem pay_xo : k0_pay9 (F := Ideal) v3 v4 v15 v16 (ix2 r l)
    = v15 (ix2 r l) + ∑ k : Fin 2816, k0_pay8 (F := Ideal) v3 v4 (ix2 r k) * v16 (ix2 k l) := by
  pointwise [k0_pay9]

theorem pay_rn (u : Fin 1) : k0_pay10 (F := Ideal) v3 v4 v15 v16 (ix2 r u)
    = rn (fun k => k0_pay9 (F := Ideal) v3 v4 v15 v16 (ix2 r k)) := by
  unfold rn ms
  pointwise [k0_pay10]

theorem pay_xh : k0_pay11 (F := Ideal) v3 v4 v15 v16 (ix2 r l)
    = xh (fun k => k0_pay9 (F := Ideal) v3 v4 v15 v16 (ix2 r k)) l := by
  unfold xh
  rw [← pay_rn v3 v4 v15 v16 r 0]
  pointwise [k0_pay11]

theorem pay_err : k0_pay12 (F := Ideal) v3 v4 v15 v16 v19 v32 (ix2 r l)
    = k0_pay11 (F := Ideal) v3 v4 v15 v16 (ix2 r l) * v19 (ix2 0 l) - v32 (ix2 r l) := by
  pointwise [k0_pay12]

theorem pay_loss (u : Fin 1) (q : Fin 128) : k0_pay13 (F := Ideal) v33 v34 (ix2 u q)
    = v34 (ix2 u q) + cH * ∑ r : Fin 256, ∑ l : Fin 1024, v33 (ix2 r l) * v33 (ix2 r l) := by
  pointwise [k0_pay13]

theorem pay_dy : k0_pay14 (F := Ideal) v33 (ix2 r l) = v33 (ix2 r l) * cI := by
  pointwise [k0_pay14]

theorem pay_dg (u : Fin 1) : k0_pay15 (F := Ideal) v29 v33 a (ix2 u l)
    = a (ix2 u l) + ∑ r : Fin 256, v33 (ix2 r l) * cI * v29 (ix2 r l) := by
  simp only [← pay_dy]
  pointwise [k0_pay15]

theorem pay_dx : k0_pay16 (F := Ideal) v19 v27 v29 v33 (ix2 r l)
    = v27 (ix2 r 0) * (v33 (ix2 r l) * cI * v19 (ix2 0 l)
        - v29 (ix2 r l) * Ideal.div (∑ k : Fin 1024, v33 (ix2 r k) * cI * v19 (ix2 0 k) * v29 (ix2 r k)) cN) := by
  simp only [← pay_dy]
  pointwise [k0_pay16]

theorem pay_dx_cast : k0_pay17 (F := Ideal) v19 v27 v29 v33 = k0_pay16 (F := Ideal) v19 v27 v29 v33 := by
  funext j; pointwise [k0_pay17]

theorem pay_dff : k0_pay1 (F := Ideal) v67 v16 (ix2 r k) = ∑ l : Fin 1024, v67 (ix2 r l) * v16 (ix2 k l) := by
  pointwise [k0_pay1]

theorem pay_dup : k0_pay2 (F := Ideal) v12 v67 v16 (ix2 r k)
    = (∑ l : Fin 1024, v67 (ix2 r l) * v16 (ix2 k l)) * v12 (ix2 r k) := by
  rw [← pay_dff]
  pointwise [k0_pay2]

theorem pay_dgate : k0_pay3 (F := Ideal) v3 v4 (k0_pay6 v3) v67 v16 (ix2 r k)
    = (∑ l : Fin 1024, v67 (ix2 r l) * v16 (ix2 k l)) * (v4 (ix2 r k) * dsilu (v3 (ix2 r k))) := by
  unfold dsilu
  rw [← pay_dff, ← pay_sg]
  pointwise [k0_pay3]

theorem pay_zero_loss (j) : k0_pay4 (F := Ideal) j = (0 : EReal) := by
  pointwise [k0_pay4]

theorem pay_zero_dg (j) : k0_pay5 (F := Ideal) j = (0 : EReal) := by
  pointwise [k0_pay5]

end Body

variable (m : (ℓ : Loc nD τ sig) → Buf (Elt Ideal) ℓ)

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![t.val, 0] ∧ win0_12.index t = ![t.val, 0] ∧ t.val < 32 :=
  (by decide +kernel : ∀ t : Fin grid0.N, _)

/-! ### The argument blocks at an index -/

/-- The row of the whole array that row `r` of point `t`'s block is. -/
abbrev row (t : Fin cfg0.N) (r : Fin 256) : Fin 8192 := ⟨t.val * 256 + r.val, by have := idx t; omega⟩

theorem i0_apply (c : Dev nD) (t : Fin cfg0.N) (r : Fin 256) (k : Fin 2816) :
    iblk m c 0 t (ix2 r k) = m (c.tc.loc main_arg0) (ix2 (row t r) ⟨k.val, by omega⟩) := by blk_ext [iblk, V, idx t]
theorem i1_apply (c : Dev nD) (t : Fin cfg0.N) (r : Fin 256) (k : Fin 2816) :
    iblk m c 1 t (ix2 r k) = m (c.tc.loc main_arg0) (ix2 (row t r) ⟨2816 + k.val, by omega⟩) := by blk_ext [iblk, V, idx t]
theorem i2_apply (c : Dev nD) (t : Fin cfg0.N) (r : Fin 256) (l : Fin 1024) :
    iblk m c 2 t (ix2 r l) = m (c.tc.loc main_arg1) (ix2 (row t r) l) := by blk_ext [iblk, V, idx t]
theorem i3_apply (c : Dev nD) (t : Fin cfg0.N) (k : Fin 2816) (l : Fin 1024) :
    iblk m c 3 t (ix2 k l) = m (c.tc.loc main_arg2) (ix2 k l) := by blk_ext [iblk, V, idx t]
theorem i4_apply (c : Dev nD) (t : Fin cfg0.N) (u : Fin 1) (l : Fin 1024) :
    iblk m c 4 t (ix2 u l) = m (c.tc.loc main_arg3) (ix2 u l) := by blk_ext [iblk, V, idx t]
theorem i5_apply (c : Dev nD) (t : Fin cfg0.N) (r : Fin 256) (l : Fin 1024) :
    iblk m c 5 t (ix2 r l) = m (c.tc.loc main_arg4) (ix2 (row t r) l) := by blk_ext [iblk, V, idx t]

/-! ### What one point leaves in each result's block

`RN`, `XH`, `ER`, `DX` name the block's intermediate arrays: one over the root of the mean square, the normalised rows,
their distance from the target, the gradient of the residual stream. -/

abbrev RN (c : Dev nD) (t : Fin cfg0.N) : FVec Ideal S256x1 .f32 :=
  k0_pay10 (iblk m c 0 t) (iblk m c 1 t) (iblk m c 2 t) (iblk m c 3 t)
abbrev XH (c : Dev nD) (t : Fin cfg0.N) : FVec Ideal S256x1024 .f32 :=
  k0_pay11 (iblk m c 0 t) (iblk m c 1 t) (iblk m c 2 t) (iblk m c 3 t)
abbrev ER (c : Dev nD) (t : Fin cfg0.N) : FVec Ideal S256x1024 .f32 :=
  k0_pay12 (iblk m c 0 t) (iblk m c 1 t) (iblk m c 2 t) (iblk m c 3 t) (iblk m c 4 t) (iblk m c 5 t)
abbrev DX (c : Dev nD) (t : Fin cfg0.N) : FVec Ideal S256x1024 .f32 :=
  k0_pay16 (iblk m c 4 t) (RN m c t) (XH m c t) (ER m c t)
abbrev DXB (c : Dev nD) (t : Fin cfg0.N) : FVec Ideal S256x1024 .bf16 :=
  k0_pay17 (iblk m c 4 t) (RN m c t) (XH m c t) (ER m c t)

theorem out6 (c : Dev nD) (t : Fin cfg0.N) : (outsAt0 m c t.val t.isLt).1 = k0_pay8 (iblk m c 0 t) (iblk m c 1 t) := by
  by_cases h0 : t.val % 32 = 0
  · rw [outsAt0_A m c t h0]; frame_out
  · rw [outsAt0_B m c t h0]; frame_out

theorem out7 (c : Dev nD) (t : Fin cfg0.N) : (outsAt0 m c t.val t.isLt).2.1 = DX m c t := by
  by_cases h0 : t.val % 32 = 0
  · rw [outsAt0_A m c t h0]; frame_out
  · rw [outsAt0_B m c t h0]; frame_out

theorem out8 (c : Dev nD) (t : Fin cfg0.N) : (outsAt0 m c t.val t.isLt).2.2.1 = DXB m c t := by
  by_cases h0 : t.val % 32 = 0
  · rw [outsAt0_A m c t h0]; frame_out
  · rw [outsAt0_B m c t h0]; frame_out

theorem out11 (c : Dev nD) (t : Fin cfg0.N) : (outsAt0 m c t.val t.isLt).2.2.2.2.2.1
    = k0_pay3 (iblk m c 0 t) (iblk m c 1 t) (k0_pay6 (iblk m c 0 t)) (DXB m c t) (iblk m c 3 t) := by
  by_cases h0 : t.val % 32 = 0
  · rw [outsAt0_A m c t h0]; frame_out
  · rw [outsAt0_B m c t h0]; frame_out

theorem out12 (c : Dev nD) (t : Fin cfg0.N) : (outsAt0 m c t.val t.isLt).2.2.2.2.2.2
    = k0_pay2 (k0_pay7 (iblk m c 0 t)) (DXB m c t) (iblk m c 3 t) := by
  by_cases h0 : t.val % 32 = 0
  · rw [outsAt0_A m c t h0]; frame_out
  · rw [outsAt0_B m c t h0]; frame_out

/-- After the last point the loss is the sum of every point's part. -/
theorem out9 (c : Dev nD) (t : Fin cfg0.N) (ht : t.val + 1 = cfg0.N) (j) :
    (outsAt0 m c t.val t.isLt).2.2.2.1 j
      = 0 + ∑ p : Fin cfg0.N, cH * ∑ r : Fin 256, ∑ l : Fin 1024, ER m c p (ix2 r l) * ER m c p (ix2 r l) := by
  refine Pipeline.eq_sum_fin_of_reset_step_apply_last (fun n h => (outsAt0 m c n h).2.2.2.1) 32 (fun _ => 0)
    (fun p j => cH * ∑ r : Fin 256, ∑ l : Fin 1024, ER m c p (ix2 r l) * ER m c p (ix2 r l))
    (fun t h j => ?_) (fun t h j => ?_) (le_of_eq N_0) t ht j
  · idx_vars j
    beta_reduce
    rw [outsAt0_A m c t h]; frame_out; rw [pay_loss, pay_zero_loss]
  · idx_vars j
    beta_reduce
    rw [outsAt0_B m c t h]; frame_out; rw [pay_loss]

/-- After the last point the gain's gradient is the sum of every point's rows. -/
theorem out10 (c : Dev nD) (t : Fin cfg0.N) (ht : t.val + 1 = cfg0.N) (j) :
    (outsAt0 m c t.val t.isLt).2.2.2.2.1 j
      = 0 + ∑ p : Fin cfg0.N, ∑ r : Fin 256, ER m c p (ix2 r (j 1)) * cI * XH m c p (ix2 r (j 1)) := by
  refine Pipeline.eq_sum_fin_of_reset_step_apply_last (fun n h => (outsAt0 m c n h).2.2.2.2.1) 32 (fun _ => 0)
    (fun p j => ∑ r : Fin 256, ER m c p (ix2 r (j 1)) * cI * XH m c p (ix2 r (j 1)))
    (fun t h j => ?_) (fun t h j => ?_) (le_of_eq N_0) t ht j
  · idx_vars j
    beta_reduce
    rw [outsAt0_A m c t h]; frame_out; rw [pay_dg, pay_zero_dg]
  · idx_vars j
    beta_reduce
    rw [outsAt0_B m c t h]; frame_out; rw [pay_dg]

/-! ### The blocks at an index, from the argument arrays -/

section Blocks
variable (c : Dev nD) (t : Fin cfg0.N) (r : Fin 256) (l : Fin 1024) (k : Fin 2816)

theorem FF_apply : k0_pay8 (F := Ideal) (iblk m c 0 t) (iblk m c 1 t) (ix2 r k) = ff (m (c.tc.loc main_arg0)) (row t r) k := by
  rw [pay_ff, i0_apply, i1_apply]; rfl

theorem XO_row : (fun l => k0_pay9 (F := Ideal) (iblk m c 0 t) (iblk m c 1 t) (iblk m c 2 t) (iblk m c 3 t) (ix2 r l))
    = xo (m (c.tc.loc main_arg0)) (m (c.tc.loc main_arg1)) (m (c.tc.loc main_arg2)) (row t r) := by
  funext l
  rw [pay_xo, i2_apply]
  unfold xo
  congr 1
  exact Finset.sum_congr rfl fun k _ => by rw [FF_apply, i3_apply]

theorem RN_apply (u : Fin 1) : RN m c t (ix2 r u)
    = rn (xo (m (c.tc.loc main_arg0)) (m (c.tc.loc main_arg1)) (m (c.tc.loc main_arg2)) (row t r)) := by
  unfold RN
  rw [pay_rn, XO_row]

theorem XH_apply : XH m c t (ix2 r l)
    = xh (xo (m (c.tc.loc main_arg0)) (m (c.tc.loc main_arg1)) (m (c.tc.loc main_arg2)) (row t r)) l := by
  unfold XH
  rw [pay_xh, XO_row]

theorem ER_apply : ER m c t (ix2 r l) = err (m (c.tc.loc main_arg0)) (m (c.tc.loc main_arg1)) (m (c.tc.loc main_arg2))
    (m (c.tc.loc main_arg3)) (m (c.tc.loc main_arg4)) (row t r) l := by
  unfold ER
  rw [pay_err, i4_apply, i5_apply]
  unfold err
  rw [← XH_apply]

theorem DX_apply : DX m c t (ix2 r l) = dx (m (c.tc.loc main_arg0)) (m (c.tc.loc main_arg1)) (m (c.tc.loc main_arg2))
    (m (c.tc.loc main_arg3)) (m (c.tc.loc main_arg4)) (row t r) l := by
  unfold DX
  rw [pay_dx]
  unfold dx kdx dy
  simp only [RN_apply, XH_apply, ER_apply, i4_apply]

theorem DXB_apply : DXB m c t (ix2 r l) = dx (m (c.tc.loc main_arg0)) (m (c.tc.loc main_arg1)) (m (c.tc.loc main_arg2))
    (m (c.tc.loc main_arg3)) (m (c.tc.loc main_arg4)) (row t r) l := by
  rw [← DX_apply]
  exact congrFun (pay_dx_cast _ _ _ _) _

theorem DFF_apply : (∑ l : Fin 1024, DXB m c t (ix2 r l) * iblk m c 3 t (ix2 k l))
    = dff (m (c.tc.loc main_arg0)) (m (c.tc.loc main_arg1)) (m (c.tc.loc main_arg2))
      (m (c.tc.loc main_arg3)) (m (c.tc.loc main_arg4)) (row t r) k := by
  unfold dff
  exact Finset.sum_congr rfl fun l _ => by rw [DXB_apply, i3_apply]

theorem DGATE_apply :
    k0_pay3 (F := Ideal) (iblk m c 0 t) (iblk m c 1 t) (k0_pay6 (iblk m c 0 t)) (DXB m c t) (iblk m c 3 t) (ix2 r k)
    = dgate (m (c.tc.loc main_arg0)) (m (c.tc.loc main_arg1)) (m (c.tc.loc main_arg2))
      (m (c.tc.loc main_arg3)) (m (c.tc.loc main_arg4)) (row t r) k := by
  rw [pay_dgate, DFF_apply, i0_apply, i1_apply]; rfl

theorem DUP_apply : k0_pay2 (F := Ideal) (k0_pay7 (iblk m c 0 t)) (DXB m c t) (iblk m c 3 t) (ix2 r k)
    = dup (m (c.tc.loc main_arg0)) (m (c.tc.loc main_arg1)) (m (c.tc.loc main_arg2))
      (m (c.tc.loc main_arg3)) (m (c.tc.loc main_arg4)) (row t r) k := by
  rw [pay_dup, DFF_apply, pay_silu, i0_apply]; rfl

end Blocks

/-! ### The result arrays -/

theorem final6 (c : Dev nD) : (dats m 0 c).arrAt 6 cfg0.N = fun i => ff (m (c.tc.loc main_arg0)) (i 0) (i 1) := by
  refine (dats m 0 c).arrAt_eq_of_covers 6 _ (by decide +kernel) fun t _ y => ?_
  idx_vars y
  blk_simp
  rw [after0_6, out6, FF_apply]
  refine Eq.trans (b := ff _ (row t y0) y1) rfl (congrArg₂ _ (Fin.ext ?_) (Fin.ext ?_)) <;> blk_simp [idx t]

theorem final7 (c : Dev nD) : (dats m 0 c).arrAt 7 cfg0.N = fun i =>
    dx (m (c.tc.loc main_arg0)) (m (c.tc.loc main_arg1)) (m (c.tc.loc main_arg2)) (m (c.tc.loc main_arg3))
      (m (c.tc.loc main_arg4)) (i 0) (i 1) := by
  refine (dats m 0 c).arrAt_eq_of_covers 7 _ (by decide +kernel) fun t _ y => ?_
  idx_vars y
  blk_simp
  rw [after0_7, out7, DX_apply]
  refine Eq.trans (b := dx _ _ _ _ _ (row t y0) y1) rfl (congrArg₂ _ (Fin.ext ?_) (Fin.ext ?_)) <;> blk_simp [idx t]

theorem final8 (c : Dev nD) : (dats m 0 c).arrAt 8 cfg0.N = fun i =>
    dx (m (c.tc.loc main_arg0)) (m (c.tc.loc main_arg1)) (m (c.tc.loc main_arg2)) (m (c.tc.loc main_arg3))
      (m (c.tc.loc main_arg4)) (i 0) (i 1) := by
  refine (dats m 0 c).arrAt_eq_of_covers 8 _ (by decide +kernel) fun t _ y => ?_
  idx_vars y
  blk_simp
  rw [after0_8, out8, DXB_apply]
  refine Eq.trans (b := dx _ _ _ _ _ (row t y0) y1) rfl (congrArg₂ _ (Fin.ext ?_) (Fin.ext ?_)) <;> blk_simp [idx t]

theorem final11 (c : Dev nD) : (dats m 0 c).arrAt 11 cfg0.N = fun i =>
    dgate (m (c.tc.loc main_arg0)) (m (c.tc.loc main_arg1)) (m (c.tc.loc main_arg2)) (m (c.tc.loc main_arg3))
      (m (c.tc.loc main_arg4)) (i 0) (i 1) := by
  refine (dats m 0 c).arrAt_eq_of_covers 11 _ (by decide +kernel) fun t _ y => ?_
  idx_vars y
  blk_simp
  rw [after0_11, out11, DGATE_apply]
  refine Eq.trans (b := dgate _ _ _ _ _ (row t y0) y1) rfl (congrArg₂ _ (Fin.ext ?_) (Fin.ext ?_)) <;> blk_simp [idx t]

theorem final12 (c : Dev nD) : (dats m 0 c).arrAt 12 cfg0.N = fun i =>
    dup (m (c.tc.loc main_arg0)) (m (c.tc.loc main_arg1)) (m (c.tc.loc main_arg2)) (m (c.tc.loc main_arg3))
      (m (c.tc.loc main_arg4)) (i 0) (i 1) := by
  refine (dats m 0 c).arrAt_eq_of_covers 12 _ (by decide +kernel) fun t _ y => ?_
  idx_vars y
  blk_simp
  rw [after0_12, out12, DUP_apply]
  refine Eq.trans (b := dup _ _ _ _ _ (row t y0) y1) rfl (congrArg₂ _ (Fin.ext ?_) (Fin.ext ?_)) <;> blk_simp [idx t]

/-- The last point. -/
abbrev last : Fin cfg0.N := ⟨31, by decide +kernel⟩

/-- All points' parts are the loss. -/
theorem sum_loss (c : Dev nD) :
    (∑ p : Fin cfg0.N, cH * ∑ r : Fin 256, ∑ l : Fin 1024, ER m c p (ix2 r l) * ER m c p (ix2 r l))
    = loss (m (c.tc.loc main_arg0)) (m (c.tc.loc main_arg1)) (m (c.tc.loc main_arg2)) (m (c.tc.loc main_arg3))
      (m (c.tc.loc main_arg4)) := by
  unfold loss
  exact Finset.sum_congr rfl fun p _ => congrArg (cH * ·) (Finset.sum_congr rfl fun r _ =>
    Finset.sum_congr rfl fun l _ => congrArg₂ (· * ·) (ER_apply m c p r l) (ER_apply m c p r l))

/-- All points' rows are all the tokens. -/
theorem sum_rows (c : Dev nD) (l : Fin 1024) :
    (∑ p : Fin cfg0.N, ∑ r : Fin 256, ER m c p (ix2 r l) * cI * XH m c p (ix2 r l))
    = dg (m (c.tc.loc main_arg0)) (m (c.tc.loc main_arg1)) (m (c.tc.loc main_arg2)) (m (c.tc.loc main_arg3))
      (m (c.tc.loc main_arg4)) l := by
  unfold dg
  refine Fin.sum_mul_add_congr (L := 8192) (S := 32) (n := 256) (fun s k _ => ?_)
  exact congrArg₂ (· * ·) (congrArg (· * cI) (ER_apply m c s k l)) (XH_apply m c s k l)

theorem final9 (c : Dev nD) : (dats m 0 c).arrAt 9 cfg0.N = fun _ =>
    loss (m (c.tc.loc main_arg0)) (m (c.tc.loc main_arg1)) (m (c.tc.loc main_arg2)) (m (c.tc.loc main_arg3))
      (m (c.tc.loc main_arg4)) := by
  refine (dats m 0 c).arrAt_eq_of_after_last 9 last (by decide +kernel) _ fun j => ?_
  blk_simp
  rw [after0_9, out9 m c last (by decide +kernel), zero_add]
  exact sum_loss m c

theorem final10 (c : Dev nD) : (dats m 0 c).arrAt 10 cfg0.N = fun i =>
    dg (m (c.tc.loc main_arg0)) (m (c.tc.loc main_arg1)) (m (c.tc.loc main_arg2)) (m (c.tc.loc main_arg3))
      (m (c.tc.loc main_arg4)) (i 1) := by
  refine (dats m 0 c).arrAt_eq_of_after_last 10 last (by decide +kernel) _ fun j => ?_
  blk_simp
  rw [after0_10, out10 m c last (by decide +kernel), zero_add]
  exact sum_rows m c (j 1)

end Cert.Kernel3Ideal.Ffn
-- ==== Proof.FfnReference.lean ====
/-
  WHAT THE REFERENCE'S RESULTS HOLD. The reference differentiates the channel mixer's second half, the final norm and the
  loss as a whole; here its results are read at an index, in terms of the rows of its own intermediate arrays.
-/
module

public import proofs.«01_k».proof.Proof.FfnMath
public import proofs.«01_k».proof.Proof.Gen.Reference3Ideal.Read
public import Idealize.ShloMosaic.Lib.Pointwise

@[expose] public section

set_option maxRecDepth 16384

noncomputable section

namespace Cert.Reference3Ideal.Ffn

open Cert.Reference3Ideal Cert.Reference3Ideal.Gen Cert.Reference3Ideal.Read Cert.Ffn Cert.Norm Cert.Reals
open Idealize.ShloMosaic Idealize.ShloMosaic.TcCoe

variable (x0 : FVec Ideal Hid2 .bf16) (x1 : FVec Ideal Tok .f32) (x2 : FVec Ideal Wgt .bf16) (x3 : FVec Ideal Row .f32)
  (x4 : FVec Ideal Tok .f32) (r : Fin 8192) (l : Fin 1024) (k : Fin 2816)

/-! ### The hidden layer -/

theorem v2 : val_main_v2 (F := Ideal) x0 (ix2 r k) = gt x0 r k := by
  pointwise [val_main_v2, val_main_v0]

theorem v3 : val_main_v3 (F := Ideal) x0 (ix2 r k) = up x0 r k := by
  pointwise [val_main_v3, val_main_v0]

theorem v4_2 : val_main_v4_2 (F := Ideal) x0 (ix2 r k) = lgs (gt x0 r k) := by
  unfold lgs
  rw [← v2]
  pointwise [val_main_v4_2, val_main_call0_v4, val_main_call0_v3, val_main_call0_v2, val_main_call0_v1, val_main_call0_v0,
    val_main_call0_cst, val_main_call0_cst_0]

theorem v4_1 : val_main_v4_1 (F := Ideal) x0 (ix2 r k) = lgs (gt x0 r k) * (1 - lgs (gt x0 r k)) := by
  rw [← v4_2]
  pointwise [val_main_v4_1, val_main_call0_v7, val_main_call0_v6, val_main_call0_cst_1]

theorem v4_0 : val_main_v4_0 (F := Ideal) x0 (ix2 r k) = gt x0 r k * lgs (gt x0 r k) := by
  rw [← v4_2, ← v2]
  pointwise [val_main_v4_0]

theorem v5 : val_main_v5 (F := Ideal) x0 (ix2 r k) = gt x0 r k * lgs (gt x0 r k) * up x0 r k := by
  rw [← v4_0, ← v3]
  pointwise [val_main_v5]

theorem call2_v5 : val_main_call2_v5 (F := Ideal) x0 (ix2 r k) = lgs (gt x0 r k) := by
  unfold lgs
  rw [← v2]
  pointwise [val_main_call2_v5, val_main_call2_v4, val_main_call2_v3, val_main_call2_v2, val_main_call2_v1, val_main_call2_v0,
    val_main_call2_cst, val_main_call2_cst_0]

theorem v63 : val_main_v63 (F := Ideal) x0 (ix2 r k) = gt x0 r k * lgs (gt x0 r k) * up x0 r k := by
  rw [← call2_v5, ← v3, ← v2]
  pointwise [val_main_v63, val_main_v62, val_main_v61]

theorem v7 : val_main_v7 (F := Ideal) x0 x1 x2 (ix2 r l)
    = x1 (ix2 r l) + ∑ k : Fin 2816, (gt x0 r k * lgs (gt x0 r k) * up x0 r k) * x2 (ix2 k l) := by
  simp only [← v5]
  pointwise [val_main_v7, val_main_v6, val_main_v1]

/-! ### The norm and the loss, of the residual stream's row -/

/-- The residual stream's row after the mixer, and the row of the norm's output gradient. -/
abbrev X : Fin 1024 → EReal := fun l => val_main_v7 (F := Ideal) x0 x1 x2 (ix2 r l)
abbrev Y : Fin 1024 → EReal := fun l => val_main_v37 (F := Ideal) x0 x1 x2 x3 x4 (ix2 r l)

theorem v14 (u : Fin 1) : val_main_v14 (F := Ideal) x0 x1 x2 (ix2 r u) = ms (X x0 x1 x2 r) := by
  unfold ms
  pointwise [val_main_v14, val_main_v13, val_main_v12, val_main_v11, val_main_v10, val_main_v9, val_main_v8, val_main_cst,
    val_main_cst_0, val_main_cst_1]

theorem v15 (u : Fin 1) : val_main_v15 (F := Ideal) x0 x1 x2 (ix2 r u) = rn (X x0 x1 x2 r) := by
  unfold rn
  rw [← v14 x0 x1 x2 r u]
  pointwise [val_main_v15]

theorem v18 (u : Fin 1) : val_main_v18 (F := Ideal) x0 x1 x2 (ix2 r u)
    = Ideal.ofBits .f32 0xBF000000#32 * Ideal.div (rn (X x0 x1 x2 r)) (ms (X x0 x1 x2 r)) := by
  rw [← v14 x0 x1 x2 r u, ← v15 x0 x1 x2 r u]
  pointwise [val_main_v18, val_main_v17, val_main_v16, val_main_cst_2]

theorem v20 : val_main_v20 (F := Ideal) x0 x1 x2 (ix2 r l) = xh (X x0 x1 x2 r) l := by
  unfold xh
  rw [← v15 x0 x1 x2 r 0]
  pointwise [val_main_v20, val_main_v19]

theorem v23 : val_main_v23 (F := Ideal) x0 x1 x2 x3 x4 (ix2 r l) = xh (X x0 x1 x2 r) l * x3 (ix2 0 l) - x4 (ix2 r l) := by
  rw [← v20]
  pointwise [val_main_v23, val_main_v22, val_main_v21]

theorem v37 : val_main_v37 (F := Ideal) x0 x1 x2 x3 x4 (ix2 r l)
    = Ideal.div (Ideal.ofBits .f32 0x3F000000#32 * 1) cN
      * (Ideal.ofBits .f32 0x40000000#32 * val_main_v23 (F := Ideal) x0 x1 x2 x3 x4 (ix2 r l)) := by
  pointwise [val_main_v37, val_main_v36, val_main_v35, val_main_v34, val_main_v33, val_main_v32, val_main_v26, val_main_v25,
    val_main_cst_3, val_main_cst_8, val_main_cst_9, val_main_cst_10]

theorem v65 (u : Fin 1) (q : Fin 128) : val_main_v65 (F := Ideal) x0 x1 x2 x3 x4 (ix2 u q)
    = Ideal.ofBits .f32 0x3F000000#32 * ∑ r : Fin 8192, Ideal.div (∑ l : Fin 1024,
      val_main_v23 (F := Ideal) x0 x1 x2 x3 x4 (ix2 r l) * val_main_v23 (F := Ideal) x0 x1 x2 x3 x4 (ix2 r l)) cN := by
  pointwise [val_main_v65, val_main_v31, val_main_v30, val_main_v29, val_main_v28, val_main_v27, val_main_v24,
    val_main_cst_4, val_main_cst_5, val_main_cst_6, val_main_cst_7]

theorem v40 (u : Fin 1) : val_main_v40 (F := Ideal) x0 x1 x2 x3 x4 (ix2 u l)
    = ∑ r : Fin 8192, xh (X x0 x1 x2 r) l * Y x0 x1 x2 x3 x4 r l := by
  simp only [← v20]
  pointwise [val_main_v40, val_main_v39, val_main_v38, val_main_cst_11]

theorem v42 : val_main_v42 (F := Ideal) x0 x1 x2 x3 x4 (ix2 r l) = Y x0 x1 x2 x3 x4 r l * x3 (ix2 0 l) := by
  pointwise [val_main_v42, val_main_v41]

theorem v45 (u : Fin 1) : val_main_v45 (F := Ideal) x0 x1 x2 x3 x4 (ix2 r u)
    = ∑ l : Fin 1024, X x0 x1 x2 r l * (Y x0 x1 x2 x3 x4 r l * x3 (ix2 0 l)) := by
  simp only [← v42]
  pointwise [val_main_v45, val_main_v44, val_main_v43, val_main_cst_12]

theorem v52 : val_main_v52 (F := Ideal) x0 x1 x2 x3 x4 (ix2 r l)
    = rc (X x0 x1 x2 r) (fun l => Y x0 x1 x2 x3 x4 r l * x3 (ix2 0 l)) := by
  unfold rc
  rw [← v45 x0 x1 x2 x3 x4 r 0, ← v18 x0 x1 x2 r 0]
  pointwise [val_main_v52, val_main_v51, val_main_v50, val_main_v49, val_main_v48, val_main_cst_13, val_main_cst_14]
  rw [Fin.sum_univ_one]

theorem v56 : val_main_v56 (F := Ideal) x0 x1 x2 x3 x4 (ix2 r l)
    = rdx (X x0 x1 x2 r) (fun l => Y x0 x1 x2 x3 x4 r l * x3 (ix2 0 l)) l := by
  unfold rdx
  beta_reduce
  rw [← v52 x0 x1 x2 x3 x4 r l, ← v42, ← v15 x0 x1 x2 r 0]
  pointwise [val_main_v56, val_main_v55, val_main_v54, val_main_v53, val_main_v47, val_main_v46]

theorem v64 : val_main_v64 (F := Ideal) x0 x1 x2 x3 x4 (ix2 r l) = val_main_v56 (F := Ideal) x0 x1 x2 x3 x4 (ix2 r l) := by
  pointwise [val_main_v64]

/-! ### The hidden layer's gradient -/

theorem v57 : val_main_v57 (F := Ideal) x0 x1 x2 x3 x4 (ix2 r k)
    = ∑ l : Fin 1024, val_main_v56 (F := Ideal) x0 x1 x2 x3 x4 (ix2 r l) * x2 (ix2 k l) := by
  pointwise [val_main_v57, val_main_v1]

theorem v67 : val_main_v67 (F := Ideal) x0 x1 x2 x3 x4 (ix2 r k)
    = gt x0 r k * lgs (gt x0 r k) * val_main_v57 (F := Ideal) x0 x1 x2 x3 x4 (ix2 r k) := by
  rw [← v4_0]
  pointwise [val_main_v67, val_main_v58]

theorem v66 : val_main_v66 (F := Ideal) x0 x1 x2 x3 x4 (ix2 r k)
    = (val_main_v57 (F := Ideal) x0 x1 x2 x3 x4 (ix2 r k) * up x0 r k) * lgs (gt x0 r k)
      + (gt x0 r k * (val_main_v57 (F := Ideal) x0 x1 x2 x3 x4 (ix2 r k) * up x0 r k))
        * (lgs (gt x0 r k) * (1 - lgs (gt x0 r k))) := by
  rw [← v4_1, ← v4_2, ← v3, ← v2]
  pointwise [val_main_v66, val_main_v60, val_main_call1_v2, val_main_call1_v1, val_main_call1_v0, val_main_v59]

end Cert.Reference3Ideal.Ffn
-- ==== Proof.FfnEquation.lean ====
/-
  THE REFERENCE'S RESULTS ARE THE KERNEL'S, where every argument is a real number: the two ways of writing the logistic
  function agree, the two ways of writing the norm's gradient agree, and what is left is real arithmetic.
-/
module

public import proofs.«01_k».proof.Proof.FfnReference
public import Idealize.ShloMosaic.Lib.Pipeline.ValueKit

@[expose] public section

set_option maxRecDepth 16384

noncomputable section

namespace Cert.Reference3Ideal.Ffn

open Cert.Reference3Ideal Cert.Reference3Ideal.Gen Cert.Reference3Ideal.Read Cert.Ffn Cert.Norm Cert.Reals
open Idealize.ShloMosaic Idealize.ShloMosaic.TcCoe

theorem lgs_eq_sgm {x : EReal} (hx : IsReal x) : lgs x = sgm x := by
  obtain ⟨a, rfl⟩ := hx
  rw [lgs_coe, sgm_coe]

theorem isReal_sgm {x : EReal} (hx : IsReal x) : IsReal (sgm x) := by
  obtain ⟨a, rfl⟩ := hx
  exact ⟨_, sgm_coe a⟩

theorem ofBits_two_f32 : Ideal.ofBits .f32 0x40000000#32 = ((2 : ℝ) : EReal) := by
  simp [Ideal.ofBits, Ideal.ieee, -EReal.coe_mul]; norm_num

/-- One token's gradient coefficient: twice a half of a 1024th is a 1024th. -/
theorem coeff {e : EReal} (he : IsReal e) :
    Ideal.div (Ideal.ofBits .f32 0x3F000000#32 * 1) cN * (Ideal.ofBits .f32 0x40000000#32 * e) = e * cI := by
  obtain ⟨a, rfl⟩ := he
  rw [ofBits_half_f32, ofBits_two_f32, one_coe, cN_eq, cI_eq, ← EReal.coe_mul, div_coe _ (by norm_num)]
  simp only [← EReal.coe_mul]
  congr 1; ring

/-- The loss added up token by token is the loss added up in thirty-two groups. -/
theorem loss_sum {E : Fin 8192 → Fin 1024 → EReal} (hE : ∀ r l, IsReal (E r l)) :
    Ideal.ofBits .f32 0x3F000000#32 * (∑ r : Fin 8192, Ideal.div (∑ l : Fin 1024, E r l * E r l) cN)
    = ∑ p : Fin 32, cH * ∑ s : Fin 256, ∑ l : Fin 1024,
      E ⟨p.val * 256 + s.val, by omega⟩ l * E ⟨p.val * 256 + s.val, by omega⟩ l := by
  choose e he using hE
  obtain rfl : E = fun r l => (e r l : EReal) := funext fun r => funext fun l => he r l
  rw [ofBits_half_f32, cH_eq]
  have h1 : ∀ r : Fin 8192, Ideal.div (∑ l : Fin 1024, (e r l : EReal) * (e r l : EReal)) cN
      = (((∑ l : Fin 1024, e r l * e r l) / 1024 : ℝ) : EReal) := fun r => by
    simp only [← EReal.coe_mul]
    rw [← coe_sum, cN_eq, div_coe _ (by norm_num)]
  simp only [h1]
  simp only [← EReal.coe_mul, ← coe_sum]
  congr 1
  rw [← Finset.mul_sum]
  have h2 : (∑ r : Fin 8192, (∑ l : Fin 1024, e r l * e r l) / 1024) = (∑ r : Fin 8192, ∑ l : Fin 1024, e r l * e r l) / 1024 :=
    (Finset.sum_div _ _ _).symm
  have h3 : (∑ p : Fin 32, ∑ s : Fin 256, ∑ l : Fin 1024,
      e ⟨p.val * 256 + s.val, by omega⟩ l * e ⟨p.val * 256 + s.val, by omega⟩ l) = ∑ r : Fin 8192, ∑ l : Fin 1024, e r l * e r l :=
    Fin.sum_mul_add_congr (L := 8192) (S := 32) (n := 256) (fun s k _ => rfl)
  rw [h2, h3]
  ring

variable (x0 : FVec Ideal Hid2 .bf16) (x1 : FVec Ideal Tok .f32) (x2 : FVec Ideal Wgt .bf16) (x3 : FVec Ideal Row .f32)
  (x4 : FVec Ideal Tok .f32) (r : Fin 8192) (l : Fin 1024) (k : Fin 2816)
  (h0 : ∀ i, IsReal (x0 i)) (h1 : ∀ i, IsReal (x1 i)) (h2 : ∀ i, IsReal (x2 i)) (h3 : ∀ i, IsReal (x3 i))
  (h4 : ∀ i, IsReal (x4 i))

section
include h0

theorem isReal_ff : IsReal (ff x0 r k) := ((h0 _).mul (isReal_sgm (h0 _))).mul (h0 _)

theorem eq_ff : val_main_v63 (F := Ideal) x0 (ix2 r k) = ff x0 r k := by
  rw [v63, lgs_eq_sgm (h0 _)]; rfl

include h1 h2

theorem isReal_xo : IsReal (xo x0 x1 x2 r l) := (h1 _).add (IsReal.sum _ _ fun k => (isReal_ff x0 r k h0).mul (h2 _))

theorem eq_xo : X x0 x1 x2 r = xo x0 x1 x2 r := by
  funext l
  unfold X xo ff silu
  rw [v7]
  exact congrArg (_ + ·) (Finset.sum_congr rfl fun k _ => by rw [lgs_eq_sgm (h0 _)])

include h3 h4

theorem isReal_err : IsReal (err x0 x1 x2 x3 x4 r l) :=
  ((isReal_xh (fun k => isReal_xo x0 x1 x2 r k h0 h1 h2) l).mul (h3 _)).sub (h4 _)

theorem eq_err : val_main_v23 (F := Ideal) x0 x1 x2 x3 x4 (ix2 r l) = err x0 x1 x2 x3 x4 r l := by
  rw [v23, eq_xo x0 x1 x2 r h0 h1 h2]; rfl

theorem eq_dy : Y x0 x1 x2 x3 x4 r l = dy x0 x1 x2 x3 x4 r l := by
  unfold Y dy
  rw [v37, eq_err x0 x1 x2 x3 x4 r l h0 h1 h2 h3 h4, coeff (isReal_err x0 x1 x2 x3 x4 r l h0 h1 h2 h3 h4)]

theorem isReal_dy : IsReal (dy x0 x1 x2 x3 x4 r l) :=
  (isReal_err x0 x1 x2 x3 x4 r l h0 h1 h2 h3 h4).mul ⟨_, cI_eq⟩

theorem eq_dx : val_main_v56 (F := Ideal) x0 x1 x2 x3 x4 (ix2 r l) = dx x0 x1 x2 x3 x4 r l := by
  rw [v56, eq_xo x0 x1 x2 r h0 h1 h2]
  simp only [eq_dy x0 x1 x2 x3 x4 r _ h0 h1 h2 h3 h4]
  exact rdx_eq_kdx (fun k => isReal_xo x0 x1 x2 r k h0 h1 h2)
    (fun k => (isReal_dy x0 x1 x2 x3 x4 r k h0 h1 h2 h3 h4).mul (h3 _)) l

theorem eq_dxb : val_main_v64 (F := Ideal) x0 x1 x2 x3 x4 (ix2 r l) = dx x0 x1 x2 x3 x4 r l := by
  rw [v64, eq_dx x0 x1 x2 x3 x4 r l h0 h1 h2 h3 h4]

theorem isReal_dx : IsReal (dx x0 x1 x2 x3 x4 r l) := by
  have hx := fun k => isReal_xo x0 x1 x2 r k h0 h1 h2
  have hd := fun k => (isReal_dy x0 x1 x2 x3 x4 r k h0 h1 h2 h3 h4).mul (h3 (ix2 0 k))
  unfold dx kdx
  refine (isReal_rn hx).mul ((hd l).sub ((isReal_xh hx l).mul ?_))
  obtain ⟨s, hs⟩ := IsReal.sum Finset.univ _ fun k => (hd k).mul (isReal_xh hx k)
  rw [hs, cN_eq, div_coe _ (by norm_num)]
  exact isReal_coe _

theorem eq_dff : val_main_v57 (F := Ideal) x0 x1 x2 x3 x4 (ix2 r k) = dff x0 x1 x2 x3 x4 r k := by
  rw [v57]
  exact Finset.sum_congr rfl fun l _ => by rw [eq_dx x0 x1 x2 x3 x4 r l h0 h1 h2 h3 h4]

theorem isReal_dff : IsReal (dff x0 x1 x2 x3 x4 r k) :=
  IsReal.sum _ _ fun l => (isReal_dx x0 x1 x2 x3 x4 r l h0 h1 h2 h3 h4).mul (h2 _)

theorem eq_dup : val_main_v67 (F := Ideal) x0 x1 x2 x3 x4 (ix2 r k) = dup x0 x1 x2 x3 x4 r k := by
  rw [v67, eq_dff x0 x1 x2 x3 x4 r k h0 h1 h2 h3 h4, lgs_eq_sgm (h0 _)]
  exact mul_comm _ _

theorem eq_dgate : val_main_v66 (F := Ideal) x0 x1 x2 x3 x4 (ix2 r k) = dgate x0 x1 x2 x3 x4 r k := by
  rw [v66, eq_dff x0 x1 x2 x3 x4 r k h0 h1 h2 h3 h4, lgs_eq_sgm (x := gt x0 r k) (h0 _)]
  unfold dgate dsilu
  obtain ⟨d, hd⟩ := isReal_dff x0 x1 x2 x3 x4 r k h0 h1 h2 h3 h4
  obtain ⟨g, hg⟩ : IsReal (gt x0 r k) := h0 _
  obtain ⟨u, hu⟩ : IsReal (up x0 r k) := h0 _
  generalize gt x0 r k = G at hg ⊢
  generalize up x0 r k = U at hu ⊢
  rw [hd, hg, hu, sgm_coe, one_coe]
  simp only [← EReal.coe_mul, ← EReal.coe_add, ← EReal.coe_sub]
  congr 1; ring

theorem eq_dg (u : Fin 1) : val_main_v40 (F := Ideal) x0 x1 x2 x3 x4 (ix2 u l) = dg x0 x1 x2 x3 x4 l := by
  rw [v40]
  exact Finset.sum_congr rfl fun r _ => by
    rw [eq_xo x0 x1 x2 r h0 h1 h2, eq_dy x0 x1 x2 x3 x4 r l h0 h1 h2 h3 h4]
    exact mul_comm _ _

theorem eq_loss (u : Fin 1) (q : Fin 128) : val_main_v65 (F := Ideal) x0 x1 x2 x3 x4 (ix2 u q) = loss x0 x1 x2 x3 x4 := by
  rw [v65]
  simp only [eq_err x0 x1 x2 x3 x4 _ _ h0 h1 h2 h3 h4]
  exact loss_sum fun r l => isReal_err x0 x1 x2 x3 x4 r l h0 h1 h2 h3 h4

end

end Cert.Reference3Ideal.Ffn
-- ==== Proof.FfnClaim.lean ====
/-
  THE CLAIM ABOUT THE CHANNEL MIXER'S SECOND HALF, THE LOSS AND THEIR GRADIENT, put together: the precondition says every
  argument is a real number; the two runs are the generated ones; their results are equal by the equations.
-/
module

public import proofs.«01_k».proof.Defs
public import proofs.«01_k».proof.Proof.FfnKernel
public import proofs.«01_k».proof.Proof.FfnEquation
public import proofs.«01_k».proof.Proof.Gen.Reference3Ideal.Run
public import proofs.«01_k».proof.Proof.Gen.Pre_whole_loss
public import Idealize.ShloMosaic.Adequacy
public import Idealize.ShloMosaic.Init
public import Idealize.ShloMosaic.Lib.Claim

@[expose] public section

set_option maxRecDepth 16384

noncomputable section

namespace Cert.Ffn

open Idealize.ShloMosaic Idealize.SL.Sem Cert.Reals

section
variable (m : (ℓ : Loc Cert.Kernel3Ideal.nD Cert.Kernel3Ideal.τ Cert.Kernel3Ideal.sig) → Buf (Elt Ideal) ℓ)
  (h : Cert.Pre_Kernel3Ideal_whole_loss (hPre_whole_loss := Cert.Pre_whole_loss.Gen.facts) m) (c : Dev Cert.Kernel3Ideal.nD)
include h

theorem real0 (i) : IsReal (m (c.tc.loc Cert.Kernel3Ideal.main_arg0) i) :=
  isReal_of_lt (congrFun (h c).1 i)
theorem real1 (i) : IsReal (m (c.tc.loc Cert.Kernel3Ideal.main_arg1) i) :=
  isReal_of_lt (congrFun (h c).2.1 i)
theorem real2 (i) : IsReal (m (c.tc.loc Cert.Kernel3Ideal.main_arg2) i) :=
  isReal_of_lt (congrFun (h c).2.2.1 i)
theorem real3 (i) : IsReal (m (c.tc.loc Cert.Kernel3Ideal.main_arg3) i) :=
  isReal_of_lt (congrFun (h c).2.2.2.1 i)
theorem real4 (i) : IsReal (m (c.tc.loc Cert.Kernel3Ideal.main_arg4) i) :=
  isReal_of_lt (congrFun (h c).2.2.2.2 i)

end

/-- The reference's frame: its run writes no argument, and it declares no semaphore. -/
theorem frame_reference : Cert.quiescent_Reference3Ideal (hReference3Ideal := Cert.Reference3Ideal.Gen.facts) := fun m ρ _ =>
  (θ_run (Cert.Reference3Ideal.defs (F := Ideal)) _ _).mono
    (fun r h => ⟨fun c => (h c).2.2.2.2.2.2.2, sem_eq_zero_of_no_sems (by decide) r.2⟩)
    (Cert.Reference3Ideal.Value.run (F := Ideal) m ρ)

set_option maxHeartbeats 1600000 in
theorem algebraic : Cert.algebraic_Kernel3Ideal_Reference3Ideal_pre_whole_loss
    (hKernel3Ideal := Cert.Kernel3Ideal.Gen.facts) (hReference3Ideal := Cert.Reference3Ideal.Gen.facts)
    (hPre_whole_loss := Cert.Pre_whole_loss.Gen.facts) := by
  pair_intro
  · run_from Cert.Kernel3Ideal.Value.run_blocks m g
  · refine (θ_run (Cert.Reference3Ideal.defs (F := Ideal)) _ _).mono (fun r h c => ?_)
      (Cert.Reference3Ideal.Value.run (F := Ideal) m' g')
    obtain ⟨a0, a1, a2, a3, a4, a5, a6, hf⟩ := h c
    obtain ⟨e0, e1, e2, e3, e4⟩ := hagree c
    have h0 := real0 m hpre c
    have h1 := real1 m hpre c
    have h2 := real2 m hpre c
    have h3 := real3 m hpre c
    have h4 := real4 m hpre c
    refine ⟨a0.trans ?_, a1.trans ?_, a2.trans ?_, a3.trans ?_, a4.trans ?_, a5.trans ?_, a6.trans ?_, hf⟩
    · refine (Cert.Reference3Ideal.Read.val_main_v63_eq _).trans ?_
      rw [e0, Cert.Kernel3Ideal.Ffn.final6]
      funext i; idx_vars i
      exact Cert.Reference3Ideal.Ffn.eq_ff _ _ _ h0
    · rw [Cert.Reference3Ideal.Read.val_main_v56_eq, e0, e1, e2, e3, e4, Cert.Kernel3Ideal.Ffn.final7]
      funext i; idx_vars i
      exact Cert.Reference3Ideal.Ffn.eq_dx _ _ _ _ _ _ _ h0 h1 h2 h3 h4
    · rw [Cert.Reference3Ideal.Read.val_main_v64_eq, e0, e1, e2, e3, e4, Cert.Kernel3Ideal.Ffn.final8]
      funext i; idx_vars i
      exact Cert.Reference3Ideal.Ffn.eq_dxb _ _ _ _ _ _ _ h0 h1 h2 h3 h4
    · rw [Cert.Reference3Ideal.Read.val_main_v65_eq, e0, e1, e2, e3, e4, Cert.Kernel3Ideal.Ffn.final9]
      funext i; idx_vars i
      exact Cert.Reference3Ideal.Ffn.eq_loss _ _ _ _ _ h0 h1 h2 h3 h4 _ _
    · rw [Cert.Reference3Ideal.Read.val_main_v40_eq, e0, e1, e2, e3, e4, Cert.Kernel3Ideal.Ffn.final10]
      funext i; idx_vars i
      exact Cert.Reference3Ideal.Ffn.eq_dg _ _ _ _ _ _ h0 h1 h2 h3 h4 _
    · rw [Cert.Reference3Ideal.Read.val_main_v66_eq, e0, e1, e2, e3, e4, Cert.Kernel3Ideal.Ffn.final11]
      funext i; idx_vars i
      exact Cert.Reference3Ideal.Ffn.eq_dgate _ _ _ _ _ _ _ h0 h1 h2 h3 h4
    · rw [Cert.Reference3Ideal.Read.val_main_v67_eq, e0, e1, e2, e3, e4, Cert.Kernel3Ideal.Ffn.final12]
      funext i; idx_vars i
      exact Cert.Reference3Ideal.Ffn.eq_dup _ _ _ _ _ _ _ h0 h1 h2 h3 h4

end Cert.Ffn
-- ==== Proof.FfnInMath.lean ====
/-
  THE GRADIENT OF THE CHANNEL MIXER'S FIRST NORM AND PRODUCT, as functions of the argument arrays. The norm's output went
  through one product with the 5632-row matrix `x2`; its gradient arrives in two halves, `x0` and `x1`, of 2816 columns
  each. `x3` is the norm's input, `x4` its gain, `x5` the gradient the residual connection adds.
-/
module

public import proofs.«01_k».proof.Proof.Norm

@[expose] public section

noncomputable section

namespace Cert.FfnIn

open Idealize.ShloMosaic Cert.Norm

abbrev Hid : Shape := ⟨2, ![8192, 2816]⟩
abbrev Wgt : Shape := ⟨2, ![5632, 1024]⟩
abbrev Tok : Shape := ⟨2, ![8192, 1024]⟩
abbrev Row : Shape := ⟨2, ![1, 1024]⟩

variable (x0 x1 : FVec Ideal Hid .bf16) (x2 : FVec Ideal Wgt .bf16) (x3 : FVec Ideal Tok .f32) (x4 : FVec Ideal Row .f32)
  (x5 : FVec Ideal Tok .f32)

/-- The gradient of the norm's output: two products, added. -/
def dn (r : Fin 8192) (l : Fin 1024) : EReal :=
  (∑ k : Fin 2816, x0 (ix2 r k) * x2 (ix2 ⟨k.val, by omega⟩ l))
    + ∑ k : Fin 2816, x1 (ix2 r k) * x2 (ix2 ⟨2816 + k.val, by omega⟩ l)

/-- The gradient of the norm's input, with the residual connection's. -/
def dx (r : Fin 8192) (l : Fin 1024) : EReal :=
  x5 (ix2 r l) + kdx (fun k => x3 (ix2 r k)) (fun k => dn x0 x1 x2 r k * x4 (ix2 0 k)) l

/-- One token's part of the gradient of the norm's gain. -/
def dgt (r : Fin 8192) (l : Fin 1024) : EReal := dn x0 x1 x2 r l * xh (fun k => x3 (ix2 r k)) l

/-- The gradient of the norm's gain: the sum over all tokens. -/
def dg (l : Fin 1024) : EReal := ∑ r : Fin 8192, dgt x0 x1 x2 x3 r l

end Cert.FfnIn
-- ==== Proof.FfnInKernel.lean ====
/-
  WHAT THE KERNEL'S RESULTS HOLD. The gradient of the channel mixer's first norm and product runs over sixteen points;
  point `t` reads rows `512 t … 512 t + 511` of the token arrays and writes the same rows of two results (the same values
  in two number formats), and adds its rows' sum to the third, the gradient of the norm's gain.
-/
module

public import proofs.«01_k».proof.Proof.FfnInMath
public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Kernel4Ideal.FfnIn

open Cert.Kernel4Ideal Cert.Kernel4Ideal.Gen Cert.FfnIn Cert.Norm
open Idealize.ShloMosaic Idealize.ShloMosaic.TcCoe Idealize.SL.Sem
open Idealize.ShloMosaic.Pipeline (Dat)

/-! ### The body's arithmetic at one index of a block -/

section Body
variable (v3 v6 : FVec Ideal S512x2816 .bf16) (v4 v7 : FVec Ideal S2816x1024 .bf16) (v10 v33 v34 v35 : FVec Ideal S512x1024 .f32)
  (v11 a : FVec Ideal S1x1024 .f32) (r : Fin 512) (l : Fin 1024)

theorem pay_dn : k0_pay5 (F := Ideal) v3 v4 v6 v7 (ix2 r l)
    = (∑ k : Fin 2816, v3 (ix2 r k) * v4 (ix2 k l)) + ∑ k : Fin 2816, v6 (ix2 r k) * v7 (ix2 k l) := by
  pointwise [k0_pay5]

theorem pay_rn (u : Fin 1) : k0_pay6 (F := Ideal) v10 (ix2 r u) = rn (fun k => v10 (ix2 r k)) := by
  unfold rn ms
  pointwise [k0_pay6]

theorem pay_xh : k0_pay7 (F := Ideal) v10 (ix2 r l) = xh (fun k => v10 (ix2 r k)) l := by
  unfold xh
  rw [← pay_rn v10 r 0]
  pointwise [k0_pay7]

theorem pay_kdx : k0_pay8 (F := Ideal) v3 v4 v6 v7 v10 v11 (ix2 r l)
    = kdx (fun k => v10 (ix2 r k)) (fun k => k0_pay5 (F := Ideal) v3 v4 v6 v7 (ix2 r k) * v11 (ix2 0 k)) l := by
  unfold kdx
  simp only [← pay_xh]
  rw [← pay_rn v10 r 0]
  pointwise [k0_pay8]

theorem pay_dgt : k0_pay9 (F := Ideal) v3 v4 v6 v7 v10 (ix2 r l)
    = k0_pay5 (F := Ideal) v3 v4 v6 v7 (ix2 r l) * xh (fun k => v10 (ix2 r k)) l := by
  rw [← pay_xh]
  pointwise [k0_pay9]

theorem pay_dx : k0_pay1 (F := Ideal) v33 v35 (ix2 r l) = v35 (ix2 r l) + v33 (ix2 r l) := by
  pointwise [k0_pay1]

theorem pay_dx_cast : k0_pay2 (F := Ideal) v33 v35 = k0_pay1 (F := Ideal) v33 v35 := by
  funext j; pointwise [k0_pay2]

theorem pay_dg (u : Fin 1) : k0_pay3 (F := Ideal) v34 a (ix2 u l) = a (ix2 u l) + ∑ r : Fin 512, v34 (ix2 r l) := by
  pointwise [k0_pay3]

theorem pay_zero (j) : k0_pay4 (F := Ideal) j = (0 : EReal) := by
  pointwise [k0_pay4]

end Body

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![1, 0] ∧ win0_4.index t = ![t.val, 0] ∧ win0_5.index t = ![0, 0] ∧ win0_6.index t = ![t.val, 0]
    ∧ win0_7.index t = ![t.val, 0] ∧ win0_8.index t = ![t.val, 0] ∧ win0_9.index t = ![0, 0] ∧ t.val < 16 :=
  (by decide +kernel : ∀ t : Fin grid0.N, _)

/-! ### The argument blocks at an index -/

/-- The row of the whole array that row `r` of point `t`'s block is. -/
abbrev row (t : Fin cfg0.N) (r : Fin 512) : Fin 8192 := ⟨t.val * 512 + r.val, by have := idx t; omega⟩

theorem i0_apply (c : Dev nD) (t : Fin cfg0.N) (r : Fin 512) (k : Fin 2816) :
    iblk m c 0 t (ix2 r k) = m (c.tc.loc main_arg0) (ix2 (row t r) k) := by blk_ext [iblk, V, idx t]
theorem i1_apply (c : Dev nD) (t : Fin cfg0.N) (r : Fin 512) (k : Fin 2816) :
    iblk m c 1 t (ix2 r k) = m (c.tc.loc main_arg1) (ix2 (row t r) k) := by blk_ext [iblk, V, idx t]
theorem i2_apply (c : Dev nD) (t : Fin cfg0.N) (k : Fin 2816) (l : Fin 1024) :
    iblk m c 2 t (ix2 k l) = m (c.tc.loc main_arg2) (ix2 ⟨k.val, by omega⟩ l) := by blk_ext [iblk, V, idx t]
theorem i3_apply (c : Dev nD) (t : Fin cfg0.N) (k : Fin 2816) (l : Fin 1024) :
    iblk m c 3 t (ix2 k l) = m (c.tc.loc main_arg2) (ix2 ⟨2816 + k.val, by omega⟩ l) := by blk_ext [iblk, V, idx t]
theorem i4_apply (c : Dev nD) (t : Fin cfg0.N) (r : Fin 512) (l : Fin 1024) :
    iblk m c 4 t (ix2 r l) = m (c.tc.loc main_arg3) (ix2 (row t r) l) := by blk_ext [iblk, V, idx t]
theorem i5_apply (c : Dev nD) (t : Fin cfg0.N) (u : Fin 1) (l : Fin 1024) :
    iblk m c 5 t (ix2 u l) = m (c.tc.loc main_arg4) (ix2 u l) := by blk_ext [iblk, V, idx t]
theorem i6_apply (c : Dev nD) (t : Fin cfg0.N) (r : Fin 512) (l : Fin 1024) :
    iblk m c 6 t (ix2 r l) = m (c.tc.loc main_arg5) (ix2 (row t r) l) := by blk_ext [iblk, V, idx t]

/-! ### What one point leaves in each result's block -/

/-- The block's gradient of the norm's input, and its part of the gain's gradient. -/
abbrev DX (c : Dev nD) (t : Fin cfg0.N) : FVec Ideal S512x1024 .f32 :=
  k0_pay1 (k0_pay8 (iblk m c 0 t) (iblk m c 2 t) (iblk m c 1 t) (iblk m c 3 t) (iblk m c 4 t) (iblk m c 5 t)) (iblk m c 6 t)
abbrev DG (c : Dev nD) (t : Fin cfg0.N) : FVec Ideal S512x1024 .f32 :=
  k0_pay9 (iblk m c 0 t) (iblk m c 2 t) (iblk m c 1 t) (iblk m c 3 t) (iblk m c 4 t)

theorem out7 (c : Dev nD) (t : Fin cfg0.N) : (outsAt0 m c t.val t.isLt).1 = DX m c t := by
  by_cases h0 : t.val % 16 = 0
  · rw [outsAt0_A m c t h0]; frame_out
  · rw [outsAt0_B m c t h0]; frame_out

theorem out8 (c : Dev nD) (t : Fin cfg0.N) : (outsAt0 m c t.val t.isLt).2.1 = DX m c t := by
  unfold DX
  rw [← pay_dx_cast]
  by_cases h0 : t.val % 16 = 0
  · rw [outsAt0_A m c t h0]; frame_out
  · rw [outsAt0_B m c t h0]; frame_out

/-- After the last point the gain's gradient is the sum of every point's rows. -/
theorem out9 (c : Dev nD) (t : Fin cfg0.N) (ht : t.val + 1 = cfg0.N) (j) :
    (outsAt0 m c t.val t.isLt).2.2 j = 0 + ∑ p : Fin cfg0.N, ∑ r : Fin 512, DG m c p (ix2 r (j 1)) := by
  refine Pipeline.eq_sum_fin_of_reset_step_apply_last (fun n h => (outsAt0 m c n h).2.2) 16 (fun _ => 0)
    (fun p j => ∑ r : Fin 512, DG m c p (ix2 r (j 1)))
    (fun t h j => ?_) (fun t h j => ?_) (le_of_eq N_0) t ht j
  · idx_vars j
    beta_reduce
    rw [outsAt0_A m c t h]; frame_out; rw [pay_dg, pay_zero]
  · idx_vars j
    beta_reduce
    rw [outsAt0_B m c t h]; frame_out; rw [pay_dg]

/-! ### The blocks at an index, from the argument arrays -/

section Blocks
variable (c : Dev nD) (t : Fin cfg0.N) (r : Fin 512) (l : Fin 1024)

theorem DN_apply : k0_pay5 (F := Ideal) (iblk m c 0 t) (iblk m c 2 t) (iblk m c 1 t) (iblk m c 3 t) (ix2 r l)
    = dn (m (c.tc.loc main_arg0)) (m (c.tc.loc main_arg1)) (m (c.tc.loc main_arg2)) (row t r) l := by
  rw [pay_dn]; unfold dn
  exact congrArg₂ (· + ·) (Finset.sum_congr rfl fun k _ => by rw [i0_apply, i2_apply])
    (Finset.sum_congr rfl fun k _ => by rw [i1_apply, i3_apply])

theorem X_row : (fun k => iblk m c 4 t (ix2 r k)) = fun k => m (c.tc.loc main_arg3) (ix2 (row t r) k) :=
  funext fun k => i4_apply m c t r k

theorem DX_apply : DX m c t (ix2 r l) = dx (m (c.tc.loc main_arg0)) (m (c.tc.loc main_arg1)) (m (c.tc.loc main_arg2))
    (m (c.tc.loc main_arg3)) (m (c.tc.loc main_arg4)) (m (c.tc.loc main_arg5)) (row t r) l := by
  unfold DX
  rw [pay_dx, pay_kdx]; unfold dx
  rw [i6_apply, X_row]
  simp only [DN_apply, i5_apply]

theorem DG_apply : DG m c t (ix2 r l) = dgt (m (c.tc.loc main_arg0)) (m (c.tc.loc main_arg1)) (m (c.tc.loc main_arg2))
    (m (c.tc.loc main_arg3)) (row t r) l := by
  unfold DG
  rw [pay_dgt]; unfold dgt
  rw [DN_apply, X_row]

end Blocks

/-! ### The result arrays -/

theorem final7 (c : Dev nD) : (dats m 0 c).arrAt 7 cfg0.N = fun i =>
    dx (m (c.tc.loc main_arg0)) (m (c.tc.loc main_arg1)) (m (c.tc.loc main_arg2)) (m (c.tc.loc main_arg3))
      (m (c.tc.loc main_arg4)) (m (c.tc.loc main_arg5)) (i 0) (i 1) := by
  refine (dats m 0 c).arrAt_eq_of_covers 7 _ (by decide +kernel) fun t _ y => ?_
  idx_vars y
  blk_simp
  rw [after0_7, out7, DX_apply]
  refine Eq.trans (b := dx _ _ _ _ _ _ (row t y0) y1) rfl (congrArg₂ _ (Fin.ext ?_) (Fin.ext ?_)) <;> blk_simp [idx t]

theorem final8 (c : Dev nD) : (dats m 0 c).arrAt 8 cfg0.N = fun i =>
    dx (m (c.tc.loc main_arg0)) (m (c.tc.loc main_arg1)) (m (c.tc.loc main_arg2)) (m (c.tc.loc main_arg3))
      (m (c.tc.loc main_arg4)) (m (c.tc.loc main_arg5)) (i 0) (i 1) := by
  refine (dats m 0 c).arrAt_eq_of_covers 8 _ (by decide +kernel) fun t _ y => ?_
  idx_vars y
  blk_simp
  rw [after0_8, out8, DX_apply]
  refine Eq.trans (b := dx _ _ _ _ _ _ (row t y0) y1) rfl (congrArg₂ _ (Fin.ext ?_) (Fin.ext ?_)) <;> blk_simp [idx t]

/-- All points' rows are all the tokens. -/
theorem sum_rows (c : Dev nD) (l : Fin 1024) : (∑ p : Fin cfg0.N, ∑ r : Fin 512, DG m c p (ix2 r l))
    = dg (m (c.tc.loc main_arg0)) (m (c.tc.loc main_arg1)) (m (c.tc.loc main_arg2)) (m (c.tc.loc main_arg3)) l := by
  unfold dg
  refine Fin.sum_mul_add_congr (L := 8192) (S := 16) (n := 512) (fun s k _ => ?_)
  exact DG_apply m c s k l

theorem final9 (c : Dev nD) : (dats m 0 c).arrAt 9 cfg0.N = fun i =>
    dg (m (c.tc.loc main_arg0)) (m (c.tc.loc main_arg1)) (m (c.tc.loc main_arg2)) (m (c.tc.loc main_arg3)) (i 1) := by
  refine (dats m 0 c).arrAt_eq_of_after_last 9 t0_15 (by decide +kernel) _ fun j => ?_
  blk_simp
  rw [after0_9, out9 m c t0_15 (by decide +kernel), zero_add]
  exact sum_rows m c (j 1)

end Cert.Kernel4Ideal.FfnIn
-- ==== Proof.FfnInReference.lean ====
/-
  WHAT THE REFERENCE'S RESULTS HOLD. The reference differentiates the norm and the product as a whole; here each of its
  three results is read at an index, and shown to be the kernel's where every argument is a real number.
-/
module

public import proofs.«01_k».proof.Proof.FfnInMath
public import proofs.«01_k».proof.Proof.Gen.Reference4Ideal.Read
public import Idealize.ShloMosaic.Lib.Pointwise

@[expose] public section

set_option maxRecDepth 16384

noncomputable section

namespace Cert.Reference4Ideal.FfnIn

open Cert.Reference4Ideal Cert.Reference4Ideal.Gen Cert.Reference4Ideal.Read Cert.FfnIn Cert.Norm Cert.Reals
open Idealize.ShloMosaic Idealize.ShloMosaic.TcCoe

variable (x0 x1 : FVec Ideal Hid .bf16) (x2 : FVec Ideal Wgt .bf16) (x3 : FVec Ideal Tok .f32) (x4 : FVec Ideal Row .f32)
  (x5 : FVec Ideal Tok .f32) (r : Fin 8192) (l : Fin 1024)

theorem v1 (k : Fin 5632) : val_main_v1 (F := Ideal) x2 (ix2 l k) = x2 (ix2 k l) := by
  pointwise [val_main_v1, val_main_v0]

theorem v4_lo (k : Fin 2816) : val_main_v4 (F := Ideal) x0 x1 (ix2 r ⟨k.val, by omega⟩) = x0 (ix2 r k) := by
  pointwise [val_main_v4, val_main_v2, val_main_v3]

theorem v4_hi (k : Fin 2816) : val_main_v4 (F := Ideal) x0 x1 (ix2 r ⟨2816 + k.val, by omega⟩) = x1 (ix2 r k) := by
  pointwise [val_main_v4, val_main_v2, val_main_v3]

theorem v21_sum : val_main_v21 (F := Ideal) x0 x1 x2 (ix2 r l)
    = ∑ k : Fin (2816 + 2816), val_main_v4 (F := Ideal) x0 x1 (ix2 r k) * val_main_v1 (F := Ideal) x2 (ix2 l k) := by
  pointwise [val_main_v21]

theorem v21 : val_main_v21 (F := Ideal) x0 x1 x2 (ix2 r l) = dn x0 x1 x2 r l := by
  rw [v21_sum, Fin.sum_univ_add]
  unfold dn
  exact congrArg₂ (· + ·)
    (Finset.sum_congr rfl fun k _ => congrArg₂ (· * ·) (v4_lo x0 x1 r k) (v1 x2 l _))
    (Finset.sum_congr rfl fun k _ => congrArg₂ (· * ·) (v4_hi x0 x1 r k) (v1 x2 l _))

theorem v11 (u : Fin 1) : val_main_v11 (F := Ideal) x3 (ix2 r u) = ms (fun k => x3 (ix2 r k)) := by
  unfold ms
  pointwise [val_main_v11, val_main_v10, val_main_v9, val_main_v8, val_main_v7, val_main_v6, val_main_v5, val_main_cst,
    val_main_cst_0, val_main_cst_1]

theorem v12 (u : Fin 1) : val_main_v12 (F := Ideal) x3 (ix2 r u) = rn (fun k => x3 (ix2 r k)) := by
  unfold rn
  rw [← v11 x3 r u]
  pointwise [val_main_v12]

theorem v15 (u : Fin 1) : val_main_v15 (F := Ideal) x3 (ix2 r u) = Ideal.ofBits .f32 0xBF000000#32
    * Ideal.div (rn (fun k => x3 (ix2 r k))) (ms (fun k => x3 (ix2 r k))) := by
  rw [← v11 x3 r u, ← v12 x3 r u]
  pointwise [val_main_v15, val_main_v14, val_main_v13, val_main_cst_2]

theorem v17 : val_main_v17 (F := Ideal) x3 (ix2 r l) = xh (fun k => x3 (ix2 r k)) l := by
  unfold xh
  rw [← v12 x3 r 0]
  pointwise [val_main_v17, val_main_v16]

theorem v26 : val_main_v26 (F := Ideal) x0 x1 x2 x4 (ix2 r l) = dn x0 x1 x2 r l * x4 (ix2 0 l) := by
  rw [← v21]
  pointwise [val_main_v26, val_main_v25]

theorem v29 (u : Fin 1) : val_main_v29 (F := Ideal) x0 x1 x2 x3 x4 (ix2 r u)
    = ∑ k : Fin 1024, x3 (ix2 r k) * (dn x0 x1 x2 r k * x4 (ix2 0 k)) := by
  simp only [← v26]
  pointwise [val_main_v29, val_main_v28, val_main_v27, val_main_cst_4]

theorem v36 : val_main_v36 (F := Ideal) x0 x1 x2 x3 x4 (ix2 r l)
    = rc (fun k => x3 (ix2 r k)) (fun k => dn x0 x1 x2 r k * x4 (ix2 0 k)) := by
  unfold rc
  rw [← v29 x0 x1 x2 x3 x4 r 0, ← v15 x3 r 0]
  pointwise [val_main_v36, val_main_v35, val_main_v34, val_main_v33, val_main_v32, val_main_cst_5, val_main_cst_6]
  rw [Fin.sum_univ_one]

theorem v40 : val_main_v40 (F := Ideal) x0 x1 x2 x3 x4 (ix2 r l)
    = rdx (fun k => x3 (ix2 r k)) (fun k => dn x0 x1 x2 r k * x4 (ix2 0 k)) l := by
  unfold rdx
  beta_reduce
  rw [← v36 x0 x1 x2 x3 x4 r l, ← v26, ← v12 x3 r 0]
  pointwise [val_main_v40, val_main_v39, val_main_v38, val_main_v37, val_main_v31, val_main_v30]

theorem v41 : val_main_v41 (F := Ideal) x0 x1 x2 x3 x4 x5 (ix2 r l)
    = x5 (ix2 r l) + val_main_v40 (F := Ideal) x0 x1 x2 x3 x4 (ix2 r l) := by
  pointwise [val_main_v41]

theorem v43 : val_main_v43 (F := Ideal) x0 x1 x2 x3 x4 x5 (ix2 r l)
    = x5 (ix2 r l) + val_main_v40 (F := Ideal) x0 x1 x2 x3 x4 (ix2 r l) := by
  pointwise [val_main_v43, val_main_v42]

theorem v24 (u : Fin 1) : val_main_v24 (F := Ideal) x0 x1 x2 x3 (ix2 u l)
    = ∑ r : Fin 8192, xh (fun k => x3 (ix2 r k)) l * dn x0 x1 x2 r l := by
  simp only [← v21, ← v17]
  pointwise [val_main_v24, val_main_v23, val_main_v22, val_main_cst_3]

theorem isReal_dn (h0 : ∀ i, IsReal (x0 i)) (h1 : ∀ i, IsReal (x1 i)) (h2 : ∀ i, IsReal (x2 i)) : IsReal (dn x0 x1 x2 r l) :=
  (IsReal.sum _ _ fun k => (h0 _).mul (h2 _)).add (IsReal.sum _ _ fun k => (h1 _).mul (h2 _))

section
variable (h0 : ∀ i, IsReal (x0 i)) (h1 : ∀ i, IsReal (x1 i)) (h2 : ∀ i, IsReal (x2 i)) (h3 : ∀ i, IsReal (x3 i))
  (h4 : ∀ i, IsReal (x4 i))
include h0 h1 h2 h3 h4

theorem eq_v40 : val_main_v40 (F := Ideal) x0 x1 x2 x3 x4 (ix2 r l)
    = kdx (fun k => x3 (ix2 r k)) (fun k => dn x0 x1 x2 r k * x4 (ix2 0 k)) l := by
  rw [v40]
  exact rdx_eq_kdx (fun k => h3 _) (fun k => (isReal_dn x0 x1 x2 r k h0 h1 h2).mul (h4 _)) l

theorem eq_dx : val_main_v41 (F := Ideal) x0 x1 x2 x3 x4 x5 (ix2 r l) = dx x0 x1 x2 x3 x4 x5 r l := by
  rw [v41, eq_v40 x0 x1 x2 x3 x4 r l h0 h1 h2 h3 h4]; rfl

theorem eq_dxb : val_main_v43 (F := Ideal) x0 x1 x2 x3 x4 x5 (ix2 r l) = dx x0 x1 x2 x3 x4 x5 r l := by
  rw [v43, eq_v40 x0 x1 x2 x3 x4 r l h0 h1 h2 h3 h4]; rfl

end

theorem eq_dg (u : Fin 1) : val_main_v24 (F := Ideal) x0 x1 x2 x3 (ix2 u l) = dg x0 x1 x2 x3 l := by
  rw [v24]
  exact Finset.sum_congr rfl fun r _ => mul_comm _ _

end Cert.Reference4Ideal.FfnIn
-- ==== Proof.FfnInClaim.lean ====
/-
  THE CLAIM ABOUT THE GRADIENT OF THE CHANNEL MIXER'S FIRST NORM AND PRODUCT, put together: the precondition says every
  argument is a real number; the two runs are the generated ones; their results are equal by the equations.
-/
module

public import proofs.«01_k».proof.Defs
public import proofs.«01_k».proof.Proof.FfnInKernel
public import proofs.«01_k».proof.Proof.FfnInReference
public import proofs.«01_k».proof.Proof.Gen.Reference4Ideal.Run
public import proofs.«01_k».proof.Proof.Gen.Pre_whole_ffn
public import Idealize.ShloMosaic.Adequacy
public import Idealize.ShloMosaic.Init
public import Idealize.ShloMosaic.Lib.Claim

@[expose] public section

set_option maxRecDepth 16384

noncomputable section

namespace Cert.FfnIn

open Idealize.ShloMosaic Idealize.SL.Sem Cert.Reals

section
variable (m : (ℓ : Loc Cert.Kernel4Ideal.nD Cert.Kernel4Ideal.τ Cert.Kernel4Ideal.sig) → Buf (Elt Ideal) ℓ)
  (h : Cert.Pre_Kernel4Ideal_whole_ffn (hPre_whole_ffn := Cert.Pre_whole_ffn.Gen.facts) m) (c : Dev Cert.Kernel4Ideal.nD)
include h

theorem real0 (i) : IsReal (m (c.tc.loc Cert.Kernel4Ideal.main_arg0) i) :=
  isReal_of_lt (congrFun (h c).1 i)
theorem real1 (i) : IsReal (m (c.tc.loc Cert.Kernel4Ideal.main_arg1) i) :=
  isReal_of_lt (congrFun (h c).2.1 i)
theorem real2 (i) : IsReal (m (c.tc.loc Cert.Kernel4Ideal.main_arg2) i) :=
  isReal_of_lt (congrFun (h c).2.2.1 i)
theorem real3 (i) : IsReal (m (c.tc.loc Cert.Kernel4Ideal.main_arg3) i) :=
  isReal_of_lt (congrFun (h c).2.2.2.1 i)
theorem real4 (i) : IsReal (m (c.tc.loc Cert.Kernel4Ideal.main_arg4) i) :=
  isReal_of_lt (congrFun (h c).2.2.2.2.1 i)

end

/-- The reference's frame: its run writes no argument, and it declares no semaphore. -/
theorem frame_reference : Cert.quiescent_Reference4Ideal (hReference4Ideal := Cert.Reference4Ideal.Gen.facts) := fun m ρ _ =>
  (θ_run (Cert.Reference4Ideal.defs (F := Ideal)) _ _).mono
    (fun r h => ⟨fun c => (h c).2.2.2, sem_eq_zero_of_no_sems (by decide) r.2⟩)
    (Cert.Reference4Ideal.Value.run (F := Ideal) m ρ)

theorem algebraic : Cert.algebraic_Kernel4Ideal_Reference4Ideal_pre_whole_ffn
    (hKernel4Ideal := Cert.Kernel4Ideal.Gen.facts) (hReference4Ideal := Cert.Reference4Ideal.Gen.facts)
    (hPre_whole_ffn := Cert.Pre_whole_ffn.Gen.facts) := by
  pair_intro
  · run_from Cert.Kernel4Ideal.Value.run_blocks m g
  · refine (θ_run (Cert.Reference4Ideal.defs (F := Ideal)) _ _).mono (fun r h c => ?_)
      (Cert.Reference4Ideal.Value.run (F := Ideal) m' g')
    obtain ⟨a0, a1, a2, hf⟩ := h c
    obtain ⟨e0, e1, e2, e3, e4, e5⟩ := hagree c
    have h0 := real0 m hpre c
    have h1 := real1 m hpre c
    have h2 := real2 m hpre c
    have h3 := real3 m hpre c
    have h4 := real4 m hpre c
    refine ⟨a0.trans ?_, a1.trans ?_, a2.trans ?_, hf⟩
    · rw [Cert.Reference4Ideal.Read.val_main_v41_eq, e0, e1, e2, e3, e4, e5, Cert.Kernel4Ideal.FfnIn.final7]
      funext i; idx_vars i
      exact Cert.Reference4Ideal.FfnIn.eq_dx _ _ _ _ _ _ _ _ h0 h1 h2 h3 h4
    · rw [Cert.Reference4Ideal.Read.val_main_v43_eq, e0, e1, e2, e3, e4, e5, Cert.Kernel4Ideal.FfnIn.final8]
      funext i; idx_vars i
      exact Cert.Reference4Ideal.FfnIn.eq_dxb _ _ _ _ _ _ _ _ h0 h1 h2 h3 h4
    · refine (Cert.Reference4Ideal.Read.val_main_v24_eq _ _ _ _).trans ?_
      rw [e0, e1, e2, e3, Cert.Kernel4Ideal.FfnIn.final9]
      funext i; idx_vars i
      exact Cert.Reference4Ideal.FfnIn.eq_dg _ _ _ _ _ _

end Cert.FfnIn
-- ==== Proof.InProjMath.lean ====
/-
  THE GRADIENT OF THE FIRST NORM AND THE INPUT PROJECTION, as functions of the argument arrays. `x0 … x4` are the gradients
  of the projection's five pieces (1024, 1024, 1024, 512 and 2048 columns), `x5` its matrix, transposed, `x6` the norm's
  input, `x7` its gain, `x8` the gradient that reaches the input past the block.
-/
module

public import proofs.«01_k».proof.Proof.Norm

@[expose] public section

noncomputable section

namespace Cert.InProj

open Idealize.ShloMosaic Cert.Norm

abbrev Tok : Shape := ⟨2, ![8192, 1024]⟩
abbrev Kv : Shape := ⟨2, ![8192, 512]⟩
abbrev Gts : Shape := ⟨2, ![8192, 2048]⟩
abbrev Wgt : Shape := ⟨2, ![5632, 1024]⟩
abbrev Row : Shape := ⟨2, ![1, 1024]⟩

variable (x0 x1 x2 : FVec Ideal Tok .bf16) (x3 : FVec Ideal Kv .bf16) (x4 : FVec Ideal Gts .bf16)
  (x5 : FVec Ideal Wgt .bf16) (x6 : FVec Ideal Tok .f32) (x7 : FVec Ideal Row .f32) (x8 : FVec Ideal Tok .f32)

/-- The gradient of the norm's output: eight products, added in order. -/
def dn (r : Fin 8192) (l : Fin 1024) : EReal :=
  (∑ k : Fin 1024, x0 (ix2 r k) * x5 (ix2 ⟨k.val, by omega⟩ l))
  + (∑ k : Fin 1024, x1 (ix2 r k) * x5 (ix2 ⟨1024 + k.val, by omega⟩ l))
  + (∑ k : Fin 1024, x2 (ix2 r k) * x5 (ix2 ⟨2048 + k.val, by omega⟩ l))
  + (∑ k : Fin 512, x3 (ix2 r k) * x5 (ix2 ⟨3072 + k.val, by omega⟩ l))
  + (∑ k : Fin 512, x4 (ix2 r ⟨k.val, by omega⟩) * x5 (ix2 ⟨3584 + k.val, by omega⟩ l))
  + (∑ k : Fin 512, x4 (ix2 r ⟨512 + k.val, by omega⟩) * x5 (ix2 ⟨4096 + k.val, by omega⟩ l))
  + (∑ k : Fin 512, x4 (ix2 r ⟨1024 + k.val, by omega⟩) * x5 (ix2 ⟨4608 + k.val, by omega⟩ l))
  + ∑ k : Fin 512, x4 (ix2 r ⟨1536 + k.val, by omega⟩) * x5 (ix2 ⟨5120 + k.val, by omega⟩ l)

/-- A sum over the projection's 5632 columns, piece by piece. -/
theorem sum_pieces (f : Fin 5632 → EReal) : (∑ k : Fin 5632, f k) =
    (∑ k : Fin 1024, f ⟨k.val, by omega⟩) + (∑ k : Fin 1024, f ⟨1024 + k.val, by omega⟩)
    + (∑ k : Fin 1024, f ⟨2048 + k.val, by omega⟩) + (∑ k : Fin 512, f ⟨3072 + k.val, by omega⟩)
    + (∑ k : Fin 512, f ⟨3584 + k.val, by omega⟩) + (∑ k : Fin 512, f ⟨4096 + k.val, by omega⟩)
    + (∑ k : Fin 512, f ⟨4608 + k.val, by omega⟩) + ∑ k : Fin 512, f ⟨5120 + k.val, by omega⟩ := by
  have s7 := Fin.sum_univ_add (a := 5120) (b := 512) f
  have s6 := Fin.sum_univ_add (a := 4608) (b := 512) fun k => f (Fin.castAdd 512 k)
  have s5 := Fin.sum_univ_add (a := 4096) (b := 512) fun k => f (Fin.castAdd 512 (Fin.castAdd 512 k))
  have s4 := Fin.sum_univ_add (a := 3584) (b := 512) fun k => f (Fin.castAdd 512 (Fin.castAdd 512 (Fin.castAdd 512 k)))
  have s3 := Fin.sum_univ_add (a := 3072) (b := 512) fun k =>
    f (Fin.castAdd 512 (Fin.castAdd 512 (Fin.castAdd 512 (Fin.castAdd 512 k))))
  have s2 := Fin.sum_univ_add (a := 2048) (b := 1024) fun k =>
    f (Fin.castAdd 512 (Fin.castAdd 512 (Fin.castAdd 512 (Fin.castAdd 512 (Fin.castAdd 512 k)))))
  have s1 := Fin.sum_univ_add (a := 1024) (b := 1024) fun k =>
    f (Fin.castAdd 512 (Fin.castAdd 512 (Fin.castAdd 512 (Fin.castAdd 512 (Fin.castAdd 512 (Fin.castAdd 1024 k))))))
  refine s7.trans (congrArg₂ (· + ·) (s6.trans (congrArg₂ (· + ·) (s5.trans (congrArg₂ (· + ·) (s4.trans (congrArg₂ (· + ·)
    (s3.trans (congrArg₂ (· + ·) (s2.trans (congrArg₂ (· + ·) (s1.trans ?_) ?_)) ?_)) ?_)) ?_)) ?_)) ?_)
  · rfl
  all_goals exact Finset.sum_congr rfl fun k _ => rfl

/-- The gradient of the norm's input, with the one that reaches it past the block. -/
def dx (r : Fin 8192) (l : Fin 1024) : EReal :=
  x8 (ix2 r l) + kdx (fun k => x6 (ix2 r k)) (fun k => dn x0 x1 x2 x3 x4 x5 r k * x7 (ix2 0 k)) l

/-- One token's part of the gradient of the norm's gain. -/
def dgt (r : Fin 8192) (l : Fin 1024) : EReal := dn x0 x1 x2 x3 x4 x5 r l * xh (fun k => x6 (ix2 r k)) l

/-- The gradient of the norm's gain: the sum over all tokens. -/
def dg (l : Fin 1024) : EReal := ∑ r : Fin 8192, dgt x0 x1 x2 x3 x4 x5 x6 r l

end Cert.InProj
-- ==== Proof.InProjKernel.lean ====
/-
  WHAT THE KERNEL'S RESULTS HOLD. The gradient of the first norm and the input projection runs over sixteen points;
  point `t` reads rows `512 t … 512 t + 511` of the token arrays and writes the same rows of two results (the same values
  in two number formats), and adds its rows' sum to the third, the gradient of the norm's gain.
-/
module

public import proofs.«01_k».proof.Proof.InProjMath
public import proofs.«01_k».proof.Proof.Gen.Kernel5Ideal.Value
public import Idealize.ShloMosaic.Lib.Pipeline.ValueKit
public import Idealize.ShloMosaic.Lib.Pointwise

@[expose] public section

set_option maxRecDepth 16384

noncomputable section

namespace Cert.Kernel5Ideal.InProj

open Cert.Kernel5Ideal Cert.Kernel5Ideal.Gen Cert.InProj Cert.Norm
open Idealize.ShloMosaic Idealize.ShloMosaic.TcCoe Idealize.SL.Sem
open Idealize.ShloMosaic.Pipeline (Dat)

/-! ### The body's arithmetic at one index of a block -/

section Body
variable (v3 v6 v10 : FVec Ideal S512x1024 .bf16) (v4 v7 v11 : FVec Ideal S1024x1024 .bf16)
  (v14 v18 v22 v26 v30 : FVec Ideal S512x512 .bf16) (v15 v19 v23 v27 v31 : FVec Ideal S512x1024 .bf16)
  (v25 v34 v58 v59 : FVec Ideal S512x1024 .f32) (v35 a : FVec Ideal S1x1024 .f32) (r : Fin 512) (l : Fin 1024)

theorem pay_dn4 : k0_pay4 (F := Ideal) v3 v4 v6 v7 v10 v11 v14 v15 v18 v19 v22 v23 (ix2 r l)
    = (∑ k : Fin 1024, v3 (ix2 r k) * v4 (ix2 k l)) + (∑ k : Fin 1024, v6 (ix2 r k) * v7 (ix2 k l))
      + (∑ k : Fin 1024, v10 (ix2 r k) * v11 (ix2 k l)) + (∑ k : Fin 512, v14 (ix2 r k) * v15 (ix2 k l))
      + (∑ k : Fin 512, v18 (ix2 r k) * v19 (ix2 k l)) + ∑ k : Fin 512, v22 (ix2 r k) * v23 (ix2 k l) := by
  pointwise [k0_pay4]

theorem pay_dn : k0_pay5 (F := Ideal) v25 v26 v27 v30 v31 (ix2 r l)
    = v25 (ix2 r l) + (∑ k : Fin 512, v26 (ix2 r k) * v27 (ix2 k l)) + ∑ k : Fin 512, v30 (ix2 r k) * v31 (ix2 k l) := by
  pointwise [k0_pay5]

theorem pay_rn (u : Fin 1) : k0_pay6 (F := Ideal) v34 (ix2 r u) = rn (fun k => v34 (ix2 r k)) := by
  unfold rn ms
  pointwise [k0_pay6]

theorem pay_xh : k0_pay7 (F := Ideal) v34 (ix2 r l) = xh (fun k => v34 (ix2 r k)) l := by
  unfold xh
  rw [← pay_rn v34 r 0]
  pointwise [k0_pay7]

theorem pay_dgt : k0_pay8 (F := Ideal) v25 v26 v27 v30 v31 v34 (ix2 r l)
    = k0_pay5 (F := Ideal) v25 v26 v27 v30 v31 (ix2 r l) * xh (fun k => v34 (ix2 r k)) l := by
  rw [← pay_xh]
  pointwise [k0_pay8]

theorem pay_dx : k0_pay9 (F := Ideal) v25 v26 v27 v30 v31 v34 v35 v59 (ix2 r l)
    = v59 (ix2 r l)
      + kdx (fun k => v34 (ix2 r k)) (fun k => k0_pay5 (F := Ideal) v25 v26 v27 v30 v31 (ix2 r k) * v35 (ix2 0 k)) l := by
  unfold kdx
  simp only [← pay_xh]
  rw [← pay_rn v34 r 0]
  pointwise [k0_pay9]

theorem pay_cast : k0_pay1 (F := Ideal) v59 = v59 := by
  funext j; pointwise [k0_pay1]

theorem pay_dg (u : Fin 1) : k0_pay2 (F := Ideal) v58 a (ix2 u l) = a (ix2 u l) + ∑ r : Fin 512, v58 (ix2 r l) := by
  pointwise [k0_pay2]

theorem pay_zero (j) : k0_pay3 (F := Ideal) j = (0 : EReal) := by
  pointwise [k0_pay3]

end Body

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 1] ∧ win0_6.index t = ![t.val, 2] ∧ win0_7.index t = ![t.val, 3]
    ∧ win0_8.index t = ![0, 0] ∧ win0_9.index t = ![1, 0] ∧ win0_10.index t = ![2, 0] ∧ win0_11.index t = ![6, 0]
    ∧ win0_12.index t = ![7, 0] ∧ win0_13.index t = ![8, 0] ∧ win0_14.index t = ![9, 0] ∧ win0_15.index t = ![10, 0]
    ∧ win0_16.index t = ![t.val, 0] ∧ win0_17.index t = ![0, 0] ∧ win0_18.index t = ![t.val, 0] ∧ win0_19.index t = ![t.val, 0]
    ∧ win0_20.index t = ![t.val, 0] ∧ win0_21.index t = ![0, 0] ∧ t.val < 16 :=
  (by decide +kernel : ∀ t : Fin grid0.N, _)

/-! ### The argument blocks at an index -/

/-- The row of the whole array that row `r` of point `t`'s block is. -/
abbrev row (t : Fin cfg0.N) (r : Fin 512) : Fin 8192 := ⟨t.val * 512 + r.val, by have := idx t; omega⟩

theorem i0_apply (c : Dev nD) (t : Fin cfg0.N) (r : Fin 512) (k : Fin 1024) :
    iblk m c 0 t (ix2 r k) = m (c.tc.loc main_arg0) (ix2 (row t r) k) := by blk_ext [iblk, V, idx t]
theorem i1_apply (c : Dev nD) (t : Fin cfg0.N) (r : Fin 512) (k : Fin 1024) :
    iblk m c 1 t (ix2 r k) = m (c.tc.loc main_arg1) (ix2 (row t r) k) := by blk_ext [iblk, V, idx t]
theorem i2_apply (c : Dev nD) (t : Fin cfg0.N) (r : Fin 512) (k : Fin 1024) :
    iblk m c 2 t (ix2 r k) = m (c.tc.loc main_arg2) (ix2 (row t r) k) := by blk_ext [iblk, V, idx t]
theorem i3_apply (c : Dev nD) (t : Fin cfg0.N) (r : Fin 512) (k : Fin 512) :
    iblk m c 3 t (ix2 r k) = m (c.tc.loc main_arg3) (ix2 (row t r) k) := by blk_ext [iblk, V, idx t]
theorem i4_apply (c : Dev nD) (t : Fin cfg0.N) (r : Fin 512) (k : Fin 512) :
    iblk m c 4 t (ix2 r k) = m (c.tc.loc main_arg4) (ix2 (row t r) ⟨k.val, by omega⟩) := by blk_ext [iblk, V, idx t]
theorem i5_apply (c : Dev nD) (t : Fin cfg0.N) (r : Fin 512) (k : Fin 512) :
    iblk m c 5 t (ix2 r k) = m (c.tc.loc main_arg4) (ix2 (row t r) ⟨512 + k.val, by omega⟩) := by blk_ext [iblk, V, idx t]
theorem i6_apply (c : Dev nD) (t : Fin cfg0.N) (r : Fin 512) (k : Fin 512) :
    iblk m c 6 t (ix2 r k) = m (c.tc.loc main_arg4) (ix2 (row t r) ⟨1024 + k.val, by omega⟩) := by blk_ext [iblk, V, idx t]
theorem i7_apply (c : Dev nD) (t : Fin cfg0.N) (r : Fin 512) (k : Fin 512) :
    iblk m c 7 t (ix2 r k) = m (c.tc.loc main_arg4) (ix2 (row t r) ⟨1536 + k.val, by omega⟩) := by blk_ext [iblk, V, idx t]
theorem i8_apply (c : Dev nD) (t : Fin cfg0.N) (k l : Fin 1024) :
    X0_8 m c t (ix2 k l) = m (c.tc.loc main_arg5) (ix2 ⟨k.val, by omega⟩ l) := by
  unfold X0_8 Pipeline.Window.fill
  rw [dif_pos (moved0_8 t _)]
  blk_ext [iblk, V, idx t]
theorem i9_apply (c : Dev nD) (t : Fin cfg0.N) (k l : Fin 1024) :
    X0_9 m c t (ix2 k l) = m (c.tc.loc main_arg5) (ix2 ⟨1024 + k.val, by omega⟩ l) := by
  unfold X0_9 Pipeline.Window.fill
  rw [dif_pos (moved0_9 t _)]
  blk_ext [iblk, V, idx t]
theorem i10_apply (c : Dev nD) (t : Fin cfg0.N) (k l : Fin 1024) :
    X0_10 m c t (ix2 k l) = m (c.tc.loc main_arg5) (ix2 ⟨2048 + k.val, by omega⟩ l) := by
  unfold X0_10 Pipeline.Window.fill
  rw [dif_pos (moved0_10 t _)]
  blk_ext [iblk, V, idx t]
theorem i11_apply (c : Dev nD) (t : Fin cfg0.N) (k : Fin 512) (l : Fin 1024) :
    iblk m c 11 t (ix2 k l) = m (c.tc.loc main_arg5) (ix2 ⟨3072 + k.val, by omega⟩ l) := by blk_ext [iblk, V, idx t]
theorem i12_apply (c : Dev nD) (t : Fin cfg0.N) (k : Fin 512) (l : Fin 1024) :
    iblk m c 12 t (ix2 k l) = m (c.tc.loc main_arg5) (ix2 ⟨3584 + k.val, by omega⟩ l) := by blk_ext [iblk, V, idx t]
theorem i13_apply (c : Dev nD) (t : Fin cfg0.N) (k : Fin 512) (l : Fin 1024) :
    iblk m c 13 t (ix2 k l) = m (c.tc.loc main_arg5) (ix2 ⟨4096 + k.val, by omega⟩ l) := by blk_ext [iblk, V, idx t]
theorem i14_apply (c : Dev nD) (t : Fin cfg0.N) (k : Fin 512) (l : Fin 1024) :
    iblk m c 14 t (ix2 k l) = m (c.tc.loc main_arg5) (ix2 ⟨4608 + k.val, by omega⟩ l) := by blk_ext [iblk, V, idx t]
theorem i15_apply (c : Dev nD) (t : Fin cfg0.N) (k : Fin 512) (l : Fin 1024) :
    iblk m c 15 t (ix2 k l) = m (c.tc.loc main_arg5) (ix2 ⟨5120 + k.val, by omega⟩ l) := by blk_ext [iblk, V, idx t]
theorem i16_apply (c : Dev nD) (t : Fin cfg0.N) (r : Fin 512) (l : Fin 1024) :
    iblk m c 16 t (ix2 r l) = m (c.tc.loc main_arg6) (ix2 (row t r) l) := by blk_ext [iblk, V, idx t]
theorem i18_apply (c : Dev nD) (t : Fin cfg0.N) (r : Fin 512) (l : Fin 1024) :
    iblk m c 18 t (ix2 r l) = m (c.tc.loc main_arg8) (ix2 (row t r) l) := by blk_ext [iblk, V, idx t]
theorem i17_apply (c : Dev nD) (t : Fin cfg0.N) (u : Fin 1) (l : Fin 1024) :
    iblk m c 17 t (ix2 u l) = m (c.tc.loc main_arg7) (ix2 u l) := by blk_ext [iblk, V, idx t]

/-! ### What one point leaves in each result's block -/

/-- The block's first six products' sum, its gradient of the norm's input, and its part of the gain's gradient. -/
abbrev DN6 (c : Dev nD) (t : Fin cfg0.N) : FVec Ideal S512x1024 .f32 :=
  k0_pay4 (iblk m c 0 t) (X0_8 m c t) (iblk m c 1 t) (X0_9 m c t) (iblk m c 2 t) (X0_10 m c t) (iblk m c 3 t) (iblk m c 11 t)
    (iblk m c 4 t) (iblk m c 12 t) (iblk m c 5 t) (iblk m c 13 t)
abbrev DX (c : Dev nD) (t : Fin cfg0.N) : FVec Ideal S512x1024 .f32 :=
  k0_pay9 (DN6 m c t) (iblk m c 6 t) (iblk m c 14 t) (iblk m c 7 t) (iblk m c 15 t) (iblk m c 16 t) (iblk m c 17 t) (iblk m c 18 t)
abbrev DG (c : Dev nD) (t : Fin cfg0.N) : FVec Ideal S512x1024 .f32 :=
  k0_pay8 (DN6 m c t) (iblk m c 6 t) (iblk m c 14 t) (iblk m c 7 t) (iblk m c 15 t) (iblk m c 16 t)

theorem out19 (c : Dev nD) (t : Fin cfg0.N) : (outsAt0 m c t.val t.isLt).1 = DX m c t := by
  by_cases h0 : t.val % 16 = 0
  · rw [outsAt0_A m c t h0]; frame_out
  · rw [outsAt0_B m c t h0]; frame_out

theorem out20 (c : Dev nD) (t : Fin cfg0.N) : (outsAt0 m c t.val t.isLt).2.1 = DX m c t := by
  rw [← pay_cast (DX m c t)]
  by_cases h0 : t.val % 16 = 0
  · rw [outsAt0_A m c t h0]; frame_out
  · rw [outsAt0_B m c t h0]; frame_out

/-- After the last point the gain's gradient is the sum of every point's rows. -/
theorem out21 (c : Dev nD) (t : Fin cfg0.N) (ht : t.val + 1 = cfg0.N) (j) :
    (outsAt0 m c t.val t.isLt).2.2 j = 0 + ∑ p : Fin cfg0.N, ∑ r : Fin 512, DG m c p (ix2 r (j 1)) := by
  refine Pipeline.eq_sum_fin_of_reset_step_apply_last (fun n h => (outsAt0 m c n h).2.2) 16 (fun _ => 0)
    (fun p j => ∑ r : Fin 512, DG m c p (ix2 r (j 1)))
    (fun t h j => ?_) (fun t h j => ?_) (le_of_eq N_0) t ht j
  · idx_vars j
    beta_reduce
    rw [outsAt0_A m c t h]; frame_out; rw [pay_dg, pay_zero]
  · idx_vars j
    beta_reduce
    rw [outsAt0_B m c t h]; frame_out; rw [pay_dg]

/-! ### The blocks at an index, from the argument arrays -/

section Blocks
variable (c : Dev nD) (t : Fin cfg0.N) (r : Fin 512) (l : Fin 1024)

theorem DN_apply : k0_pay5 (F := Ideal) (DN6 m c t) (iblk m c 6 t) (iblk m c 14 t) (iblk m c 7 t) (iblk m c 15 t) (ix2 r l)
    = dn (m (c.tc.loc main_arg0)) (m (c.tc.loc main_arg1)) (m (c.tc.loc main_arg2)) (m (c.tc.loc main_arg3)) (m (c.tc.loc main_arg4)) (m (c.tc.loc main_arg5)) (row t r) l := by
  unfold DN6
  rw [pay_dn, pay_dn4]; unfold dn
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  · exact Finset.sum_congr rfl fun k _ => by rw [i0_apply, i8_apply]
  · exact Finset.sum_congr rfl fun k _ => by rw [i1_apply, i9_apply]
  · exact Finset.sum_congr rfl fun k _ => by rw [i2_apply, i10_apply]
  · exact Finset.sum_congr rfl fun k _ => by rw [i3_apply, i11_apply]
  · exact Finset.sum_congr rfl fun k _ => by rw [i4_apply, i12_apply]
  · exact Finset.sum_congr rfl fun k _ => by rw [i5_apply, i13_apply]
  · exact Finset.sum_congr rfl fun k _ => by rw [i6_apply, i14_apply]
  · exact Finset.sum_congr rfl fun k _ => by rw [i7_apply, i15_apply]

theorem X_row : (fun k => iblk m c 16 t (ix2 r k)) = fun k => m (c.tc.loc main_arg6) (ix2 (row t r) k) :=
  funext fun k => i16_apply m c t r k

theorem DX_apply : DX m c t (ix2 r l) = dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (row t r) l := by
  unfold DX
  rw [pay_dx]; unfold dx
  rw [i18_apply, X_row]
  simp only [DN_apply, i17_apply]

theorem DG_apply : DG m c t (ix2 r l) = dgt (m (c.tc.loc main_arg0)) (m (c.tc.loc main_arg1)) (m (c.tc.loc main_arg2)) (m (c.tc.loc main_arg3)) (m (c.tc.loc main_arg4)) (m (c.tc.loc main_arg5)) (m (c.tc.loc main_arg6)) (row t r) l := by
  unfold DG
  rw [pay_dgt]; unfold dgt
  rw [DN_apply, X_row]

end Blocks

/-! ### The result arrays -/

theorem final19 (c : Dev nD) : (dats m 0 c).arrAt 19 cfg0.N = fun i =>
    dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1) := by
  refine (dats m 0 c).arrAt_eq_of_covers 19 _ (by decide +kernel) fun t _ y => ?_
  idx_vars y
  blk_simp
  rw [after0_19, out19, DX_apply]
  refine Eq.trans (b := dx _ _ _ _ _ _ _ _ _ (row t y0) y1) rfl (congrArg₂ _ (Fin.ext ?_) (Fin.ext ?_)) <;> blk_simp [idx t]

theorem final20 (c : Dev nD) : (dats m 0 c).arrAt 20 cfg0.N = fun i =>
    dx (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (i 0) (i 1) := by
  refine (dats m 0 c).arrAt_eq_of_covers 20 _ (by decide +kernel) fun t _ y => ?_
  idx_vars y
  blk_simp
  rw [after0_20, out20, DX_apply]
  refine Eq.trans (b := dx _ _ _ _ _ _ _ _ _ (row t y0) y1) rfl (congrArg₂ _ (Fin.ext ?_) (Fin.ext ?_)) <;> blk_simp [idx t]

/-- All points' rows are all the tokens. -/
theorem sum_rows (c : Dev nD) (l : Fin 1024) : (∑ p : Fin cfg0.N, ∑ r : Fin 512, DG m c p (ix2 r l))
    = dg (m (c.tc.loc main_arg0)) (m (c.tc.loc main_arg1)) (m (c.tc.loc main_arg2)) (m (c.tc.loc main_arg3)) (m (c.tc.loc main_arg4)) (m (c.tc.loc main_arg5)) (m (c.tc.loc main_arg6)) l := by
  unfold dg
  refine Fin.sum_mul_add_congr (L := 8192) (S := 16) (n := 512) (fun s k _ => ?_)
  exact DG_apply m c s k l

theorem final21 (c : Dev nD) : (dats m 0 c).arrAt 21 cfg0.N = fun i =>
    dg (m (c.tc.loc main_arg0)) (m (c.tc.loc main_arg1)) (m (c.tc.loc main_arg2)) (m (c.tc.loc main_arg3)) (m (c.tc.loc main_arg4)) (m (c.tc.loc main_arg5)) (m (c.tc.loc main_arg6)) (i 1) := by
  refine (dats m 0 c).arrAt_eq_of_after_last 21 t0_15 (by decide +kernel) _ fun j => ?_
  blk_simp
  rw [after0_21, out21 m c t0_15 (by decide +kernel), zero_add]
  exact sum_rows m c (j 1)

end Cert.Kernel5Ideal.InProj
-- ==== Proof.InProjReference.lean ====
/-
  WHAT THE REFERENCE'S RESULTS HOLD. The reference differentiates the norm and the product as a whole; here each of its
  three results is read at an index, and shown to be the kernel's where every argument is a real number.
-/
module

public import proofs.«01_k».proof.Proof.InProjMath
public import proofs.«01_k».proof.Proof.Gen.Reference5Ideal.Read
public import Idealize.ShloMosaic.Lib.Pointwise

@[expose] public section

set_option maxRecDepth 16384

noncomputable section

namespace Cert.Reference5Ideal.InProj

open Cert.Reference5Ideal Cert.Reference5Ideal.Gen Cert.Reference5Ideal.Read Cert.InProj Cert.Norm Cert.Reals
open Idealize.ShloMosaic Idealize.ShloMosaic.TcCoe

variable (x0 x1 x2 : FVec Ideal Tok .bf16) (x3 : FVec Ideal Kv .bf16) (x4 : FVec Ideal Gts .bf16)
  (x5 : FVec Ideal Wgt .bf16) (x6 : FVec Ideal Tok .f32) (x7 : FVec Ideal Row .f32) (x8 : FVec Ideal Tok .f32)
  (r : Fin 8192) (l : Fin 1024)

theorem v1 (k : Fin 5632) : val_main_v1 (F := Ideal) x5 (ix2 l k) = x5 (ix2 k l) := by
  pointwise [val_main_v1, val_main_v0]

/-! The joined pieces, read piece by piece. -/

theorem v7_0 (k : Fin 1024) : val_main_v7 (F := Ideal) x0 x1 x2 x3 x4 (ix2 r ⟨k.val, by omega⟩) = x0 (ix2 r k) := by
  pointwise [val_main_v7, val_main_v6, val_main_v5, val_main_v4, val_main_v3, val_main_v2]

theorem v7_1 (k : Fin 1024) : val_main_v7 (F := Ideal) x0 x1 x2 x3 x4 (ix2 r ⟨1024 + k.val, by omega⟩) = x1 (ix2 r k) := by
  pointwise [val_main_v7, val_main_v6, val_main_v5, val_main_v4, val_main_v3, val_main_v2]

theorem v7_2 (k : Fin 1024) : val_main_v7 (F := Ideal) x0 x1 x2 x3 x4 (ix2 r ⟨2048 + k.val, by omega⟩) = x2 (ix2 r k) := by
  pointwise [val_main_v7, val_main_v6, val_main_v5, val_main_v4, val_main_v3, val_main_v2]
  rw [dif_neg (by omega), dif_neg (by omega), dif_pos (by omega)]
  exact congrArg (fun k => x2 (ix2 r k)) (Fin.ext (by dsimp only; omega))

theorem v7_3 (k : Fin 512) : val_main_v7 (F := Ideal) x0 x1 x2 x3 x4 (ix2 r ⟨3072 + k.val, by omega⟩) = x3 (ix2 r k) := by
  pointwise [val_main_v7, val_main_v6, val_main_v5, val_main_v4, val_main_v3, val_main_v2]
  rw [dif_neg (by omega), dif_neg (by omega), dif_neg (by omega), dif_pos (by omega)]
  exact congrArg (fun k => x3 (ix2 r k)) (Fin.ext (by dsimp only; omega))

theorem v7_4 (k : Fin 512) : val_main_v7 (F := Ideal) x0 x1 x2 x3 x4 (ix2 r ⟨3584 + k.val, by omega⟩) = x4 (ix2 r ⟨k.val, by omega⟩) := by
  pointwise [val_main_v7, val_main_v6, val_main_v5, val_main_v4, val_main_v3, val_main_v2]
  rw [dif_neg (by omega), dif_neg (by omega), dif_neg (by omega), dif_neg (by omega)]
  exact congrArg (fun k => x4 (ix2 r k)) (Fin.ext (by dsimp only; omega))

theorem v7_5 (k : Fin 512) : val_main_v7 (F := Ideal) x0 x1 x2 x3 x4 (ix2 r ⟨4096 + k.val, by omega⟩) = x4 (ix2 r ⟨512 + k.val, by omega⟩) := by
  pointwise [val_main_v7, val_main_v6, val_main_v5, val_main_v4, val_main_v3, val_main_v2]
  rw [dif_neg (by omega), dif_neg (by omega), dif_neg (by omega), dif_neg (by omega)]
  exact congrArg (fun k => x4 (ix2 r k)) (Fin.ext (by dsimp only; omega))

theorem v7_6 (k : Fin 512) : val_main_v7 (F := Ideal) x0 x1 x2 x3 x4 (ix2 r ⟨4608 + k.val, by omega⟩) = x4 (ix2 r ⟨1024 + k.val, by omega⟩) := by
  pointwise [val_main_v7, val_main_v6, val_main_v5, val_main_v4, val_main_v3, val_main_v2]
  rw [dif_neg (by omega), dif_neg (by omega), dif_neg (by omega), dif_neg (by omega)]
  exact congrArg (fun k => x4 (ix2 r k)) (Fin.ext (by dsimp only; omega))

theorem v7_7 (k : Fin 512) : val_main_v7 (F := Ideal) x0 x1 x2 x3 x4 (ix2 r ⟨5120 + k.val, by omega⟩) = x4 (ix2 r ⟨1536 + k.val, by omega⟩) := by
  pointwise [val_main_v7, val_main_v6, val_main_v5, val_main_v4, val_main_v3, val_main_v2]
  rw [dif_neg (by omega), dif_neg (by omega), dif_neg (by omega), dif_neg (by omega)]
  exact congrArg (fun k => x4 (ix2 r k)) (Fin.ext (by dsimp only; omega))

theorem v24_sum : val_main_v24 (F := Ideal) x0 x1 x2 x3 x4 x5 (ix2 r l)
    = ∑ k : Fin 5632, val_main_v7 (F := Ideal) x0 x1 x2 x3 x4 (ix2 r k) * val_main_v1 (F := Ideal) x5 (ix2 l k) := by
  pointwise [val_main_v24]

theorem v24 : val_main_v24 (F := Ideal) x0 x1 x2 x3 x4 x5 (ix2 r l) = dn x0 x1 x2 x3 x4 x5 r l := by
  rw [v24_sum, sum_pieces]
  unfold dn
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  · exact Finset.sum_congr rfl fun k _ => congrArg₂ (· * ·) (v7_0 x0 x1 x2 x3 x4 r k) (v1 x5 l _)
  · exact Finset.sum_congr rfl fun k _ => congrArg₂ (· * ·) (v7_1 x0 x1 x2 x3 x4 r k) (v1 x5 l _)
  · exact Finset.sum_congr rfl fun k _ => congrArg₂ (· * ·) (v7_2 x0 x1 x2 x3 x4 r k) (v1 x5 l _)
  · exact Finset.sum_congr rfl fun k _ => congrArg₂ (· * ·) (v7_3 x0 x1 x2 x3 x4 r k) (v1 x5 l _)
  · exact Finset.sum_congr rfl fun k _ => congrArg₂ (· * ·) (v7_4 x0 x1 x2 x3 x4 r k) (v1 x5 l _)
  · exact Finset.sum_congr rfl fun k _ => congrArg₂ (· * ·) (v7_5 x0 x1 x2 x3 x4 r k) (v1 x5 l _)
  · exact Finset.sum_congr rfl fun k _ => congrArg₂ (· * ·) (v7_6 x0 x1 x2 x3 x4 r k) (v1 x5 l _)
  · exact Finset.sum_congr rfl fun k _ => congrArg₂ (· * ·) (v7_7 x0 x1 x2 x3 x4 r k) (v1 x5 l _)

theorem v14 (u : Fin 1) : val_main_v14 (F := Ideal) x6 (ix2 r u) = ms (fun k => x6 (ix2 r k)) := by
  unfold ms
  pointwise [val_main_v14, val_main_v13, val_main_v12, val_main_v11, val_main_v10, val_main_v9, val_main_v8, val_main_cst,
    val_main_cst_0, val_main_cst_1]

theorem v15 (u : Fin 1) : val_main_v15 (F := Ideal) x6 (ix2 r u) = rn (fun k => x6 (ix2 r k)) := by
  unfold rn
  rw [← v14 x6 r u]
  pointwise [val_main_v15]

theorem v18 (u : Fin 1) : val_main_v18 (F := Ideal) x6 (ix2 r u) = Ideal.ofBits .f32 0xBF000000#32
    * Ideal.div (rn (fun k => x6 (ix2 r k))) (ms (fun k => x6 (ix2 r k))) := by
  rw [← v14 x6 r u, ← v15 x6 r u]
  pointwise [val_main_v18, val_main_v17, val_main_v16, val_main_cst_2]

theorem v20 : val_main_v20 (F := Ideal) x6 (ix2 r l) = xh (fun k => x6 (ix2 r k)) l := by
  unfold xh
  rw [← v15 x6 r 0]
  pointwise [val_main_v20, val_main_v19]

theorem v29 : val_main_v29 (F := Ideal) x0 x1 x2 x3 x4 x5 x7 (ix2 r l) = dn x0 x1 x2 x3 x4 x5 r l * x7 (ix2 0 l) := by
  rw [← v24]
  pointwise [val_main_v29, val_main_v28]

theorem v32 (u : Fin 1) : val_main_v32 (F := Ideal) x0 x1 x2 x3 x4 x5 x6 x7 (ix2 r u)
    = ∑ k : Fin 1024, x6 (ix2 r k) * (dn x0 x1 x2 x3 x4 x5 r k * x7 (ix2 0 k)) := by
  simp only [← v29]
  pointwise [val_main_v32, val_main_v31, val_main_v30, val_main_cst_4]

theorem v39 : val_main_v39 (F := Ideal) x0 x1 x2 x3 x4 x5 x6 x7 (ix2 r l)
    = rc (fun k => x6 (ix2 r k)) (fun k => dn x0 x1 x2 x3 x4 x5 r k * x7 (ix2 0 k)) := by
  unfold rc
  rw [← v32 x0 x1 x2 x3 x4 x5 x6 x7 r 0, ← v18 x6 r 0]
  pointwise [val_main_v39, val_main_v38, val_main_v37, val_main_v36, val_main_v35, val_main_cst_5, val_main_cst_6]
  rw [Fin.sum_univ_one]

theorem v43 : val_main_v43 (F := Ideal) x0 x1 x2 x3 x4 x5 x6 x7 (ix2 r l)
    = rdx (fun k => x6 (ix2 r k)) (fun k => dn x0 x1 x2 x3 x4 x5 r k * x7 (ix2 0 k)) l := by
  unfold rdx
  beta_reduce
  rw [← v39 x0 x1 x2 x3 x4 x5 x6 x7 r l, ← v29, ← v15 x6 r 0]
  pointwise [val_main_v43, val_main_v42, val_main_v41, val_main_v40, val_main_v34, val_main_v33]

theorem v44 : val_main_v44 (F := Ideal) x0 x1 x2 x3 x4 x5 x6 x7 x8 (ix2 r l)
    = x8 (ix2 r l) + val_main_v43 (F := Ideal) x0 x1 x2 x3 x4 x5 x6 x7 (ix2 r l) := by
  pointwise [val_main_v44]

theorem v46 : val_main_v46 (F := Ideal) x0 x1 x2 x3 x4 x5 x6 x7 x8 (ix2 r l)
    = x8 (ix2 r l) + val_main_v43 (F := Ideal) x0 x1 x2 x3 x4 x5 x6 x7 (ix2 r l) := by
  pointwise [val_main_v46, val_main_v45]

theorem v27 (u : Fin 1) : val_main_v27 (F := Ideal) x0 x1 x2 x3 x4 x5 x6 (ix2 u l)
    = ∑ r : Fin 8192, xh (fun k => x6 (ix2 r k)) l * dn x0 x1 x2 x3 x4 x5 r l := by
  simp only [← v24, ← v20]
  pointwise [val_main_v27, val_main_v26, val_main_v25, val_main_cst_3]

theorem isReal_dn (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) : IsReal (dn x0 x1 x2 x3 x4 x5 r l) := by
  unfold dn
  exact (((((((IsReal.sum _ _ fun k => (h0 _).mul (h5 _)).add (IsReal.sum _ _ fun k => (h1 _).mul (h5 _))).add
    (IsReal.sum _ _ fun k => (h2 _).mul (h5 _))).add (IsReal.sum _ _ fun k => (h3 _).mul (h5 _))).add
    (IsReal.sum _ _ fun k => (h4 _).mul (h5 _))).add (IsReal.sum _ _ fun k => (h4 _).mul (h5 _))).add
    (IsReal.sum _ _ fun k => (h4 _).mul (h5 _))).add (IsReal.sum _ _ fun k => (h4 _).mul (h5 _))

section
variable (h0 : ∀ i, IsReal (x0 i)) (h1 : ∀ i, IsReal (x1 i)) (h2 : ∀ i, IsReal (x2 i)) (h3 : ∀ i, IsReal (x3 i))
  (h4 : ∀ i, IsReal (x4 i)) (h5 : ∀ i, IsReal (x5 i)) (h6 : ∀ i, IsReal (x6 i)) (h7 : ∀ i, IsReal (x7 i))
include h0 h1 h2 h3 h4 h5 h6 h7

theorem eq_v43 : val_main_v43 (F := Ideal) x0 x1 x2 x3 x4 x5 x6 x7 (ix2 r l)
    = kdx (fun k => x6 (ix2 r k)) (fun k => dn x0 x1 x2 x3 x4 x5 r k * x7 (ix2 0 k)) l := by
  rw [v43]
  exact rdx_eq_kdx (fun k => h6 _) (fun k => (isReal_dn x0 x1 x2 x3 x4 x5 r k h0 h1 h2 h3 h4 h5).mul (h7 _)) l

theorem eq_dx : val_main_v44 (F := Ideal) x0 x1 x2 x3 x4 x5 x6 x7 x8 (ix2 r l) = dx x0 x1 x2 x3 x4 x5 x6 x7 x8 r l := by
  rw [v44, eq_v43 x0 x1 x2 x3 x4 x5 x6 x7 r l h0 h1 h2 h3 h4 h5 h6 h7]; rfl

theorem eq_dxb : val_main_v46 (F := Ideal) x0 x1 x2 x3 x4 x5 x6 x7 x8 (ix2 r l) = dx x0 x1 x2 x3 x4 x5 x6 x7 x8 r l := by
  rw [v46, eq_v43 x0 x1 x2 x3 x4 x5 x6 x7 r l h0 h1 h2 h3 h4 h5 h6 h7]; rfl

end

theorem eq_dg (u : Fin 1) : val_main_v27 (F := Ideal) x0 x1 x2 x3 x4 x5 x6 (ix2 u l) = dg x0 x1 x2 x3 x4 x5 x6 l := by
  rw [v27]
  exact Finset.sum_congr rfl fun r _ => mul_comm _ _

end Cert.Reference5Ideal.InProj
-- ==== Proof.InProjClaim.lean ====
/-
  THE CLAIM ABOUT THE GRADIENT OF THE FIRST NORM AND THE INPUT PROJECTION, put together: the precondition says every
  argument is a real number; the two runs are the generated ones; their results are equal by the equations.
-/
module

public import proofs.«01_k».proof.Defs
public import proofs.«01_k».proof.Proof.InProjKernel
public import proofs.«01_k».proof.Proof.InProjReference
public import proofs.«01_k».proof.Proof.Gen.Reference5Ideal.Run
public import proofs.«01_k».proof.Proof.Gen.Pre_whole_in
public import Idealize.ShloMosaic.Adequacy
public import Idealize.ShloMosaic.Init
public import Idealize.ShloMosaic.Lib.Claim

@[expose] public section

set_option maxRecDepth 16384

noncomputable section

namespace Cert.InProj

open Idealize.ShloMosaic Idealize.SL.Sem Cert.Reals

section
variable (m : (ℓ : Loc Cert.Kernel5Ideal.nD Cert.Kernel5Ideal.τ Cert.Kernel5Ideal.sig) → Buf (Elt Ideal) ℓ)
  (h : Cert.Pre_Kernel5Ideal_whole_in (hPre_whole_in := Cert.Pre_whole_in.Gen.facts) m) (c : Dev Cert.Kernel5Ideal.nD)
include h

theorem real0 (i) : IsReal (m (c.tc.loc Cert.Kernel5Ideal.main_arg0) i) :=
  isReal_of_lt (congrFun (h c).1 i)
theorem real1 (i) : IsReal (m (c.tc.loc Cert.Kernel5Ideal.main_arg1) i) :=
  isReal_of_lt (congrFun (h c).2.1 i)
theorem real2 (i) : IsReal (m (c.tc.loc Cert.Kernel5Ideal.main_arg2) i) :=
  isReal_of_lt (congrFun (h c).2.2.1 i)
theorem real3 (i) : IsReal (m (c.tc.loc Cert.Kernel5Ideal.main_arg3) i) :=
  isReal_of_lt (congrFun (h c).2.2.2.1 i)
theorem real4 (i) : IsReal (m (c.tc.loc Cert.Kernel5Ideal.main_arg4) i) :=
  isReal_of_lt (congrFun (h c).2.2.2.2.1 i)
theorem real5 (i) : IsReal (m (c.tc.loc Cert.Kernel5Ideal.main_arg5) i) :=
  isReal_of_lt (congrFun (h c).2.2.2.2.2.1 i)
theorem real6 (i) : IsReal (m (c.tc.loc Cert.Kernel5Ideal.main_arg6) i) :=
  isReal_of_lt (congrFun (h c).2.2.2.2.2.2.1 i)
theorem real7 (i) : IsReal (m (c.tc.loc Cert.Kernel5Ideal.main_arg7) i) :=
  isReal_of_lt (congrFun (h c).2.2.2.2.2.2.2.1 i)
theorem real8 (i) : IsReal (m (c.tc.loc Cert.Kernel5Ideal.main_arg8) i) :=
  isReal_of_lt (congrFun (h c).2.2.2.2.2.2.2.2 i)

end

/-- The reference's frame: its run writes no argument, and it declares no semaphore. -/
theorem frame_reference : Cert.quiescent_Reference5Ideal (hReference5Ideal := Cert.Reference5Ideal.Gen.facts) := fun m ρ _ =>
  (θ_run (Cert.Reference5Ideal.defs (F := Ideal)) _ _).mono
    (fun r h => ⟨fun c => (h c).2.2.2, sem_eq_zero_of_no_sems (by decide) r.2⟩)
    (Cert.Reference5Ideal.Value.run (F := Ideal) m ρ)

set_option maxHeartbeats 1600000 in
theorem algebraic : Cert.algebraic_Kernel5Ideal_Reference5Ideal_pre_whole_in
    (hKernel5Ideal := Cert.Kernel5Ideal.Gen.facts) (hReference5Ideal := Cert.Reference5Ideal.Gen.facts)
    (hPre_whole_in := Cert.Pre_whole_in.Gen.facts) := by
  pair_intro
  · run_from Cert.Kernel5Ideal.Value.run_blocks m g
  · refine (θ_run (Cert.Reference5Ideal.defs (F := Ideal)) _ _).mono (fun r h c => ?_)
      (Cert.Reference5Ideal.Value.run (F := Ideal) m' g')
    obtain ⟨a0, a1, a2, hf⟩ := h c
    obtain ⟨e0, e1, e2, e3, e4, e5, e6, e7, e8⟩ := hagree c
    have h0 := real0 m hpre c
    have h1 := real1 m hpre c
    have h2 := real2 m hpre c
    have h3 := real3 m hpre c
    have h4 := real4 m hpre c
    have h5 := real5 m hpre c
    have h6 := real6 m hpre c
    have h7 := real7 m hpre c
    refine ⟨a0.trans ?_, a1.trans ?_, a2.trans ?_, hf⟩
    · rw [Cert.Reference5Ideal.Read.val_main_v44_eq, e0, e1, e2, e3, e4, e5, e6, e7, e8, Cert.Kernel5Ideal.InProj.final19]
      funext i; idx_vars i
      exact Cert.Reference5Ideal.InProj.eq_dx _ _ _ _ _ _ _ _ _ _ _ h0 h1 h2 h3 h4 h5 h6 h7
    · rw [Cert.Reference5Ideal.Read.val_main_v46_eq, e0, e1, e2, e3, e4, e5, e6, e7, e8, Cert.Kernel5Ideal.InProj.final20]
      funext i; idx_vars i
      exact Cert.Reference5Ideal.InProj.eq_dxb _ _ _ _ _ _ _ _ _ _ _ h0 h1 h2 h3 h4 h5 h6 h7
    · refine (Cert.Reference5Ideal.Read.val_main_v27_eq _ _ _ _ _ _ _).trans ?_
      rw [e0, e1, e2, e3, e4, e5, e6, Cert.Kernel5Ideal.InProj.final21]
      funext i; idx_vars i
      exact Cert.Reference5Ideal.InProj.eq_dg _ _ _ _ _ _ _ _ _

end Cert.InProj
-- ==== Proof.DwMath.lean ====
/-
  A WEIGHT'S GRADIENT, as a function of the two argument arrays: the product of the transpose of one token array with
  another, summed over all 8192 tokens.
-/
module

public import Idealize.ShloMosaic.Lib.Pipeline.ValueKit
public import Idealize.ShloMosaic.Lib.Pipeline.ReadBack
public import Idealize.ShloMosaic.Lib.Pointwise

@[expose] public section

noncomputable section

namespace Cert.Dw

open Idealize.ShloMosaic

/-- Entry (p, l) of `aᵀ b`. -/
def prod {n : ℕ} (a : FVec Ideal ⟨2, ![8192, n]⟩ .bf16) (b : FVec Ideal ⟨2, ![8192, 1024]⟩ .bf16) (p : Fin n) (l : Fin 1024) : EReal :=
  ∑ r : Fin 8192, a (ix2 r p) * b (ix2 r l)

end Cert.Dw
-- ==== Proof.DwFfnOutKernel.lean ====
/-
  WHAT THE KERNEL'S RESULT HOLDS: the gradient of the channel mixer's output matrix. The points run over 2 blocks of 1408 rows of the result and,
  within each, over 4 blocks of 2048 tokens; a point adds its tokens' part to a running sum, and a block's last point
  writes the sum out.
-/
module

public import proofs.«01_k».proof.Proof.DwMath
public import proofs.«01_k».proof.Proof.Gen.Kernel6Ideal.Value

@[expose] public section

set_option maxRecDepth 16384

noncomputable section

namespace Cert.Kernel6Ideal.DwFfnOut

open Cert.Kernel6Ideal Cert.Kernel6Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x1408 .bf16) (v1 : FVec Ideal S2048x1024 .bf16) (v12 : FVec Ideal S1408x1024 .f32)
  (p : Fin 1408) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 1408) : Fin 2816 := ⟨t.val / 4 * 1408 + p.val, by have := idx t; omega⟩

theorem i0_apply (c : Dev nD) (t : Fin cfg0.N) (r : Fin 2048) (p : Fin 1408) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x1408 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 1408) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 1408) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 1408) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array -/

theorem final2 (c : Dev nD) : (dats m 0 c).arrAt 2 cfg0.N = fun i => prod (m (c.tc.loc main_arg0)) (m (c.tc.loc main_arg1)) (i 0) (i 1) := by
  refine (dats m 0 c).arrAt_eq_of_covers 2 _ (by decide +kernel) fun t hf y => ?_
  idx_vars y
  blk_simp
  rw [after0_2, out2 m c t ((flush0_2 t).mp hf)]
  refine Eq.trans (b := prod _ _ (col t y0) y1) rfl (congrArg₂ _ (Fin.ext ?_) (Fin.ext ?_)) <;> blk_simp [idx t]

end Cert.Kernel6Ideal.DwFfnOut
-- ==== Proof.DwFfnOutClaim.lean ====
/-
  THE CLAIM: the gradient of the channel mixer's output matrix. The reference's result is read at an index and is the
  kernel's, for all argument arrays: the factors of each product are exchanged, nothing more.
-/
module

public import proofs.«01_k».proof.Defs
public import proofs.«01_k».proof.Proof.DwFfnOutKernel
public import proofs.«01_k».proof.Proof.Gen.Reference6Ideal.Run
public import proofs.«01_k».proof.Proof.Gen.Reference6Ideal.Read
public import Idealize.ShloMosaic.Adequacy
public import Idealize.ShloMosaic.Init
public import Idealize.ShloMosaic.Lib.Claim

@[expose] public section

set_option maxRecDepth 16384

noncomputable section

namespace Cert.Reference6Ideal.DwFfnOut

open Cert.Reference6Ideal Cert.Reference6Ideal.Gen Cert.Reference6Ideal.Read Cert.Dw
open Idealize.ShloMosaic Idealize.ShloMosaic.TcCoe

variable (x0 : FVec Ideal ⟨2, ![8192, 2816]⟩ .bf16) (x1 : FVec Ideal ⟨2, ![8192, 1024]⟩ .bf16)

theorem eq_prod (p : Fin 2816) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

end Cert.Reference6Ideal.DwFfnOut

namespace Cert.DwFfnOut

open Idealize.ShloMosaic Idealize.SL.Sem

/-- The reference's frame: its run writes no argument, and it declares no semaphore. -/
theorem frame_reference : Cert.quiescent_Reference6Ideal (hReference6Ideal := Cert.Reference6Ideal.Gen.facts) := fun m ρ _ =>
  (θ_run (Cert.Reference6Ideal.defs (F := Ideal)) _ _).mono
    (fun r h => ⟨fun c => (h c).2, sem_eq_zero_of_no_sems (by decide) r.2⟩)
    (Cert.Reference6Ideal.Value.run (F := Ideal) m ρ)

theorem algebraic : Cert.algebraic_Kernel6Ideal_Reference6Ideal
    (hKernel6Ideal := Cert.Kernel6Ideal.Gen.facts) (hReference6Ideal := Cert.Reference6Ideal.Gen.facts) := by
  pair_intro
  · run_from Cert.Kernel6Ideal.Value.run_blocks m g
  · refine (θ_run (Cert.Reference6Ideal.defs (F := Ideal)) _ _).mono (fun r h c => ?_)
      (Cert.Reference6Ideal.Value.run (F := Ideal) m' g')
    obtain ⟨a0, hf⟩ := h c
    obtain ⟨e0, e1⟩ := hagree c
    refine ⟨a0.trans ?_, hf⟩
    refine (Cert.Reference6Ideal.Read.val_main_v6_eq _ _).trans ?_
    rw [e0, e1, Cert.Kernel6Ideal.DwFfnOut.final2]
    funext i; idx_vars i
    exact Cert.Reference6Ideal.DwFfnOut.eq_prod _ _ _ _

end Cert.DwFfnOut
-- ==== Proof.DwFfnGateKernel.lean ====
/-
  WHAT THE KERNEL'S RESULT HOLDS: the gradient of the channel mixer's first matrix, transposed, gate half. The points run over 2 blocks of 1408 rows of the result and,
  within each, over 4 blocks of 2048 tokens; a point adds its tokens' part to a running sum, and a block's last point
  writes the sum out.
-/
module

public import proofs.«01_k».proof.Proof.DwMath
public import proofs.«01_k».proof.Proof.Gen.Kernel7Ideal.Value

@[expose] public section

set_option maxRecDepth 16384

noncomputable section

namespace Cert.Kernel7Ideal.DwFfnGate

open Cert.Kernel7Ideal Cert.Kernel7Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x1408 .bf16) (v1 : FVec Ideal S2048x1024 .bf16) (v12 : FVec Ideal S1408x1024 .f32)
  (p : Fin 1408) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4, 0] ∧ t.val < 8 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 1408) : Fin 2816 := ⟨t.val / 4 * 1408 + p.val, by have := idx t; omega⟩

theorem i0_apply (c : Dev nD) (t : Fin cfg0.N) (r : Fin 2048) (p : Fin 1408) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x1408 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 1408) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 1408) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 1408) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array -/

theorem final2 (c : Dev nD) : (dats m 0 c).arrAt 2 cfg0.N = fun i => prod (m (c.tc.loc main_arg0)) (m (c.tc.loc main_arg1)) (i 0) (i 1) := by
  refine (dats m 0 c).arrAt_eq_of_covers 2 _ (by decide +kernel) fun t hf y => ?_
  idx_vars y
  blk_simp
  rw [after0_2, out2 m c t ((flush0_2 t).mp hf)]
  refine Eq.trans (b := prod _ _ (col t y0) y1) rfl (congrArg₂ _ (Fin.ext ?_) (Fin.ext ?_)) <;> blk_simp [idx t]

end Cert.Kernel7Ideal.DwFfnGate
-- ==== Proof.DwFfnGateClaim.lean ====
/-
  THE CLAIM: the gradient of the channel mixer's first matrix, transposed, gate half. The reference's result is read at an index and is the
  kernel's, for all argument arrays: the factors of each product are exchanged, nothing more.
-/
module

public import proofs.«01_k».proof.Defs
public import proofs.«01_k».proof.Proof.DwFfnGateKernel
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Claim

@[expose] public section

set_option maxRecDepth 16384

noncomputable section

namespace Cert.Reference7Ideal.DwFfnGate

open Cert.Reference7Ideal Cert.Reference7Ideal.Gen Cert.Reference7Ideal.Read Cert.Dw
open Idealize.ShloMosaic Idealize.ShloMosaic.TcCoe

variable (x0 : FVec Ideal ⟨2, ![8192, 2816]⟩ .bf16) (x1 : FVec Ideal ⟨2, ![8192, 1024]⟩ .bf16)

theorem eq_prod (p : Fin 2816) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

end Cert.Reference7Ideal.DwFfnGate

namespace Cert.DwFfnGate

open Idealize.ShloMosaic Idealize.SL.Sem

/-- The reference's frame: its run writes no argument, and it declares no semaphore. -/
theorem frame_reference : Cert.quiescent_Reference7Ideal (hReference7Ideal := Cert.Reference7Ideal.Gen.facts) := fun m ρ _ =>
  (θ_run (Cert.Reference7Ideal.defs (F := Ideal)) _ _).mono
    (fun r h => ⟨fun c => (h c).2, sem_eq_zero_of_no_sems (by decide) r.2⟩)
    (Cert.Reference7Ideal.Value.run (F := Ideal) m ρ)

theorem algebraic : Cert.algebraic_Kernel7Ideal_Reference7Ideal
    (hKernel7Ideal := Cert.Kernel7Ideal.Gen.facts) (hReference7Ideal := Cert.Reference7Ideal.Gen.facts) := by
  pair_intro
  · run_from Cert.Kernel7Ideal.Value.run_blocks m g
  · refine (θ_run (Cert.Reference7Ideal.defs (F := Ideal)) _ _).mono (fun r h c => ?_)
      (Cert.Reference7Ideal.Value.run (F := Ideal) m' g')
    obtain ⟨a0, hf⟩ := h c
    obtain ⟨e0, e1⟩ := hagree c
    refine ⟨a0.trans ?_, hf⟩
    refine (Cert.Reference7Ideal.Read.val_main_v6_eq _ _).trans ?_
    rw [e0, e1, Cert.Kernel7Ideal.DwFfnGate.final2]
    funext i; idx_vars i
    exact Cert.Reference7Ideal.DwFfnGate.eq_prod _ _ _ _

end Cert.DwFfnGate
-- ==== Proof.DwFfnUpKernel.lean ====
/-
  WHAT THE KERNEL'S RESULT HOLDS: the gradient of the channel mixer's first matrix, transposed, written under the gate half. The points run over 2 blocks of 1408 rows of the result and,
  within each, over 4 blocks of 2048 tokens; a point adds its tokens' part to a running sum, and a block's last point
  writes the sum out at row 2816.
-/
module

public import proofs.«01_k».proof.Proof.DwMath
public import proofs.«01_k».proof.Proof.Gen.Kernel8Ideal.Value

@[expose] public section

set_option maxRecDepth 16384

noncomputable section

namespace Cert.Kernel8Ideal.DwFfnUp

open Cert.Kernel8Ideal Cert.Kernel8Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x1408 .bf16) (v1 : FVec Ideal S2048x1024 .bf16) (v12 : FVec Ideal S1408x1024 .f32)
  (p : Fin 1408) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4 + 2, 0] ∧ t.val < 8 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 1408) : Fin 2816 := ⟨t.val / 4 * 1408 + p.val, by have := idx t; omega⟩

theorem i0_apply (c : Dev nD) (t : Fin cfg0.N) (r : Fin 2048) (p : Fin 1408) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x1408 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 1408) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 1408) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 1408) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array: the product where the blocks are written, the argument elsewhere -/

/-- The result array as the points leave it, at an index. -/
def res (a : FVec Ideal ⟨2, ![8192, 2816]⟩ .bf16) (b : FVec Ideal ⟨2, ![8192, 1024]⟩ .bf16) (d : FVec Ideal ⟨2, ![5632, 1024]⟩ .bf16)
    (i : Fin 5632) (l : Fin 1024) : EReal :=
  if h : 2816 ≤ i.val ∧ i.val < 5632 then prod a b ⟨i.val - 2816, by omega⟩ l else d (ix2 i l)

theorem entry (c : Dev nD) : V m c main_v0 = m (c.tc.loc main_arg2) := by unfold V; after_results; try rfl

theorem final2 (c : Dev nD) : (dats m 0 c).arrAt 2 cfg0.N = fun i => res (m (c.tc.loc main_arg0)) (m (c.tc.loc main_arg1)) (m (c.tc.loc main_arg2)) (i 0) (i 1) := by
  have e : (fun i : S5632x1024.Idx => res (m (c.tc.loc main_arg0)) (m (c.tc.loc main_arg1)) (m (c.tc.loc main_arg2)) (i 0) (i 1))
      = fun i : S5632x1024.Idx => if 2816 ≤ (i 0).val ∧ (i 0).val < 5632 then res (m (c.tc.loc main_arg0)) (m (c.tc.loc main_arg1)) (m (c.tc.loc main_arg2)) (i 0) (i 1)
        else V m c main_v0 i := by
    funext i
    by_cases h : 2816 ≤ (i 0).val ∧ (i 0).val < 5632
    · rw [if_pos h]
    · rw [if_neg h, entry]
      unfold res
      rw [dif_neg h]
      idx_vars i
  refine Eq.trans ?_ e.symm
  refine (dats m 0 c).arrAt_eq_of_coversWhere 2 _ (fun β => 2 ≤ β 0 ∧ β 0 < 4) (by decide +kernel) (fun t hf y => ?_)
    (fun j => by blk_simp [Pipeline.Window.cell_apply]; omega)
  idx_vars y
  blk_simp
  rw [after0_2, out2 m c t ((flush0_2 t).mp hf)]
  refine Eq.trans (b := prod _ _ (col t y0) y1) rfl ?_
  symm
  refine (dif_pos ?_).trans (congrArg₂ _ (Fin.ext ?_) (Fin.ext ?_)) <;> blk_simp [idx t] <;> have := idx t <;> (try dsimp only) <;> omega

end Cert.Kernel8Ideal.DwFfnUp
-- ==== Proof.DwFfnUpClaim.lean ====
/-
  THE CLAIM: the gradient of the channel mixer's first matrix, transposed, written under the gate half. The reference's result is read at an index and is the
  kernel's, for all argument arrays: the factors of each product are exchanged, nothing more.
-/
module

public import proofs.«01_k».proof.Defs
public import proofs.«01_k».proof.Proof.DwFfnUpKernel
public import proofs.«01_k».proof.Proof.Gen.Reference8Ideal.Run
public import proofs.«01_k».proof.Proof.Gen.Reference8Ideal.Read
public import Idealize.ShloMosaic.Adequacy
public import Idealize.ShloMosaic.Init
public import Idealize.ShloMosaic.Lib.Claim

@[expose] public section

set_option maxRecDepth 16384

noncomputable section

namespace Cert.Reference8Ideal.DwFfnUp

open Cert.Reference8Ideal Cert.Reference8Ideal.Gen Cert.Reference8Ideal.Read Cert.Dw
open Idealize.ShloMosaic Idealize.ShloMosaic.TcCoe

variable (x0 : FVec Ideal ⟨2, ![8192, 2816]⟩ .bf16) (x1 : FVec Ideal ⟨2, ![8192, 1024]⟩ .bf16) (x2 : FVec Ideal ⟨2, ![5632, 1024]⟩ .bf16)

theorem eq_prod (p : Fin 2816) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

theorem eq_lo (p : Fin 5632) (l : Fin 1024) (h : p.val < 2816) : val_main_v8 (F := Ideal) x0 x1 x2 (ix2 p l) = x2 (ix2 p l) := by
  pointwise [val_main_v8, val_main_v7]
  exact dif_pos h

theorem eq_mid (p : Fin 5632) (l : Fin 1024) (h : 2816 ≤ p.val) (h' : p.val < 5632) :
    val_main_v8 (F := Ideal) x0 x1 x2 (ix2 p l) = val_main_v6 (F := Ideal) x0 x1 (ix2 ⟨p.val - 2816, by omega⟩ l) := by
  pointwise [val_main_v8, val_main_v7]
  exact dif_neg (by omega)

theorem eq_res (p : Fin 5632) (l : Fin 1024) : val_main_v8 (F := Ideal) x0 x1 x2 (ix2 p l) = Cert.Kernel8Ideal.DwFfnUp.res x0 x1 x2 p l := by
  unfold Cert.Kernel8Ideal.DwFfnUp.res
  by_cases h : 2816 ≤ p.val ∧ p.val < 5632
  · rw [dif_pos h, eq_mid x0 x1 x2 p l h.1 h.2, eq_prod]
  · rw [dif_neg h]
    exact eq_lo x0 x1 x2 p l (by omega)

end Cert.Reference8Ideal.DwFfnUp

namespace Cert.DwFfnUp

open Idealize.ShloMosaic Idealize.SL.Sem

/-- The reference's frame: its run writes no argument, and it declares no semaphore. -/
theorem frame_reference : Cert.quiescent_Reference8Ideal (hReference8Ideal := Cert.Reference8Ideal.Gen.facts) := fun m ρ _ =>
  (θ_run (Cert.Reference8Ideal.defs (F := Ideal)) _ _).mono
    (fun r h => ⟨fun c => (h c).2, sem_eq_zero_of_no_sems (by decide) r.2⟩)
    (Cert.Reference8Ideal.Value.run (F := Ideal) m ρ)

theorem algebraic : Cert.algebraic_Kernel8Ideal_Reference8Ideal
    (hKernel8Ideal := Cert.Kernel8Ideal.Gen.facts) (hReference8Ideal := Cert.Reference8Ideal.Gen.facts) := by
  pair_intro
  · run_from Cert.Kernel8Ideal.Value.run_blocks m g
  · refine (θ_run (Cert.Reference8Ideal.defs (F := Ideal)) _ _).mono (fun r h c => ?_)
      (Cert.Reference8Ideal.Value.run (F := Ideal) m' g')
    obtain ⟨a0, hf⟩ := h c
    obtain ⟨e0, e1, e2⟩ := hagree c
    refine ⟨a0.trans ?_, hf⟩
    refine (Cert.Reference8Ideal.Read.val_main_v8_eq _ _ _).trans ?_
    rw [e0, e1, e2, Cert.Kernel8Ideal.DwFfnUp.final2]
    funext i; idx_vars i
    exact Cert.Reference8Ideal.DwFfnUp.eq_res _ _ _ _ _

end Cert.DwFfnUp
-- ==== Proof.DwOutKernel.lean ====
/-
  WHAT THE KERNEL'S RESULT HOLDS: the gradient of the merge's output matrix. The points run over 1 block of 1024 rows of the result and,
  within each, over 4 blocks of 2048 tokens; a point adds its tokens' part to a running sum, and a block's last point
  writes the sum out.
-/
module

public import proofs.«01_k».proof.Proof.DwMath
public import proofs.«01_k».proof.Proof.Gen.Kernel14Ideal.Value

@[expose] public section

set_option maxRecDepth 16384

noncomputable section

namespace Cert.Kernel14Ideal.DwOut

open Cert.Kernel14Ideal Cert.Kernel14Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x1024 .bf16) (v1 : FVec Ideal S2048x1024 .bf16) (v12 : FVec Ideal S1024x1024 .f32)
  (p : Fin 1024) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4, 0] ∧ t.val < 4 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 1024) : Fin 1024 := ⟨t.val / 4 * 1024 + p.val, by have := idx t; omega⟩

theorem i0_apply (c : Dev nD) (t : Fin cfg0.N) (r : Fin 2048) (p : Fin 1024) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x1024 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 1024) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · have hi := idx t; rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 1024) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 1024) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array -/

theorem final2 (c : Dev nD) : (dats m 0 c).arrAt 2 cfg0.N = fun i => prod (m (c.tc.loc main_arg0)) (m (c.tc.loc main_arg1)) (i 0) (i 1) := by
  refine (dats m 0 c).arrAt_eq_of_covers 2 _ (by decide +kernel) fun t hf y => ?_
  idx_vars y
  blk_simp
  rw [after0_2, out2 m c t ((flush0_2 t).mp hf)]
  refine Eq.trans (b := prod _ _ (col t y0) y1) rfl (congrArg₂ _ (Fin.ext ?_) (Fin.ext ?_)) <;> blk_simp [idx t]

end Cert.Kernel14Ideal.DwOut
-- ==== Proof.DwOutClaim.lean ====
/-
  THE CLAIM: the gradient of the merge's output matrix. The reference's result is read at an index and is the
  kernel's, for all argument arrays: the factors of each product are exchanged, nothing more.
-/
module

public import proofs.«01_k».proof.Defs
public import proofs.«01_k».proof.Proof.DwOutKernel
public import proofs.«01_k».proof.Proof.Gen.Reference14Ideal.Run
public import proofs.«01_k».proof.Proof.Gen.Reference14Ideal.Read
public import Idealize.ShloMosaic.Adequacy
public import Idealize.ShloMosaic.Init
public import Idealize.ShloMosaic.Lib.Claim

@[expose] public section

set_option maxRecDepth 16384

noncomputable section

namespace Cert.Reference14Ideal.DwOut

open Cert.Reference14Ideal Cert.Reference14Ideal.Gen Cert.Reference14Ideal.Read Cert.Dw
open Idealize.ShloMosaic Idealize.ShloMosaic.TcCoe

variable (x0 : FVec Ideal ⟨2, ![8192, 1024]⟩ .bf16) (x1 : FVec Ideal ⟨2, ![8192, 1024]⟩ .bf16)

theorem eq_prod (p : Fin 1024) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

end Cert.Reference14Ideal.DwOut

namespace Cert.DwOut

open Idealize.ShloMosaic Idealize.SL.Sem

/-- The reference's frame: its run writes no argument, and it declares no semaphore. -/
theorem frame_reference : Cert.quiescent_Reference14Ideal (hReference14Ideal := Cert.Reference14Ideal.Gen.facts) := fun m ρ _ =>
  (θ_run (Cert.Reference14Ideal.defs (F := Ideal)) _ _).mono
    (fun r h => ⟨fun c => (h c).2, sem_eq_zero_of_no_sems (by decide) r.2⟩)
    (Cert.Reference14Ideal.Value.run (F := Ideal) m ρ)

theorem algebraic : Cert.algebraic_Kernel14Ideal_Reference14Ideal
    (hKernel14Ideal := Cert.Kernel14Ideal.Gen.facts) (hReference14Ideal := Cert.Reference14Ideal.Gen.facts) := by
  pair_intro
  · run_from Cert.Kernel14Ideal.Value.run_blocks m g
  · refine (θ_run (Cert.Reference14Ideal.defs (F := Ideal)) _ _).mono (fun r h c => ?_)
      (Cert.Reference14Ideal.Value.run (F := Ideal) m' g')
    obtain ⟨a0, hf⟩ := h c
    obtain ⟨e0, e1⟩ := hagree c
    refine ⟨a0.trans ?_, hf⟩
    refine (Cert.Reference14Ideal.Read.val_main_v6_eq _ _).trans ?_
    rw [e0, e1, Cert.Kernel14Ideal.DwOut.final2]
    funext i; idx_vars i
    exact Cert.Reference14Ideal.DwOut.eq_prod _ _ _ _

end Cert.DwOut
-- ==== Proof.DwInUKernel.lean ====
/-
  WHAT THE KERNEL'S RESULT HOLDS: the gradient of the first matrix, transposed: its first rows. The points run over 1 block of 1024 rows of the result and,
  within each, over 4 blocks of 2048 tokens; a point adds its tokens' part to a running sum, and a block's last point
  writes the sum out.
-/
module

public import proofs.«01_k».proof.Proof.DwMath
public import proofs.«01_k».proof.Proof.Gen.Kernel15Ideal.Value

@[expose] public section

set_option maxRecDepth 16384

noncomputable section

namespace Cert.Kernel15Ideal.DwInU

open Cert.Kernel15Ideal Cert.Kernel15Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x1024 .bf16) (v1 : FVec Ideal S2048x1024 .bf16) (v12 : FVec Ideal S1024x1024 .f32)
  (p : Fin 1024) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4, 0] ∧ t.val < 4 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 1024) : Fin 1024 := ⟨t.val / 4 * 1024 + p.val, by have := idx t; omega⟩

theorem i0_apply (c : Dev nD) (t : Fin cfg0.N) (r : Fin 2048) (p : Fin 1024) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x1024 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 1024) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · have hi := idx t; rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 1024) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 1024) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array -/

theorem final2 (c : Dev nD) : (dats m 0 c).arrAt 2 cfg0.N = fun i => prod (m (c.tc.loc main_arg0)) (m (c.tc.loc main_arg1)) (i 0) (i 1) := by
  refine (dats m 0 c).arrAt_eq_of_covers 2 _ (by decide +kernel) fun t hf y => ?_
  idx_vars y
  blk_simp
  rw [after0_2, out2 m c t ((flush0_2 t).mp hf)]
  refine Eq.trans (b := prod _ _ (col t y0) y1) rfl (congrArg₂ _ (Fin.ext ?_) (Fin.ext ?_)) <;> blk_simp [idx t]

end Cert.Kernel15Ideal.DwInU
-- ==== Proof.DwInUClaim.lean ====
/-
  THE CLAIM: the gradient of the first matrix, transposed: its first rows. The reference's result is read at an index and is the
  kernel's, for all argument arrays: the factors of each product are exchanged, nothing more.
-/
module

public import proofs.«01_k».proof.Defs
public import proofs.«01_k».proof.Proof.DwInUKernel
public import proofs.«01_k».proof.Proof.Gen.Reference15Ideal.Run
public import proofs.«01_k».proof.Proof.Gen.Reference15Ideal.Read
public import Idealize.ShloMosaic.Adequacy
public import Idealize.ShloMosaic.Init
public import Idealize.ShloMosaic.Lib.Claim

@[expose] public section

set_option maxRecDepth 16384

noncomputable section

namespace Cert.Reference15Ideal.DwInU

open Cert.Reference15Ideal Cert.Reference15Ideal.Gen Cert.Reference15Ideal.Read Cert.Dw
open Idealize.ShloMosaic Idealize.ShloMosaic.TcCoe

variable (x0 : FVec Ideal ⟨2, ![8192, 1024]⟩ .bf16) (x1 : FVec Ideal ⟨2, ![8192, 1024]⟩ .bf16)

theorem eq_prod (p : Fin 1024) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

end Cert.Reference15Ideal.DwInU

namespace Cert.DwInU

open Idealize.ShloMosaic Idealize.SL.Sem

/-- The reference's frame: its run writes no argument, and it declares no semaphore. -/
theorem frame_reference : Cert.quiescent_Reference15Ideal (hReference15Ideal := Cert.Reference15Ideal.Gen.facts) := fun m ρ _ =>
  (θ_run (Cert.Reference15Ideal.defs (F := Ideal)) _ _).mono
    (fun r h => ⟨fun c => (h c).2, sem_eq_zero_of_no_sems (by decide) r.2⟩)
    (Cert.Reference15Ideal.Value.run (F := Ideal) m ρ)

theorem algebraic : Cert.algebraic_Kernel15Ideal_Reference15Ideal
    (hKernel15Ideal := Cert.Kernel15Ideal.Gen.facts) (hReference15Ideal := Cert.Reference15Ideal.Gen.facts) := by
  pair_intro
  · run_from Cert.Kernel15Ideal.Value.run_blocks m g
  · refine (θ_run (Cert.Reference15Ideal.defs (F := Ideal)) _ _).mono (fun r h c => ?_)
      (Cert.Reference15Ideal.Value.run (F := Ideal) m' g')
    obtain ⟨a0, hf⟩ := h c
    obtain ⟨e0, e1⟩ := hagree c
    refine ⟨a0.trans ?_, hf⟩
    refine (Cert.Reference15Ideal.Read.val_main_v6_eq _ _).trans ?_
    rw [e0, e1, Cert.Kernel15Ideal.DwInU.final2]
    funext i; idx_vars i
    exact Cert.Reference15Ideal.DwInU.eq_prod _ _ _ _

end Cert.DwInU
-- ==== Proof.DwInGKernel.lean ====
/-
  WHAT THE KERNEL'S RESULT HOLDS: the gradient of the first matrix, transposed: its second thousand rows. The points run over 1 block of 1024 rows of the result and,
  within each, over 4 blocks of 2048 tokens; a point adds its tokens' part to a running sum, and a block's last point
  writes the sum out at row 1024.
-/
module

public import proofs.«01_k».proof.Proof.DwMath
public import proofs.«01_k».proof.Proof.Gen.Kernel16Ideal.Value

@[expose] public section

set_option maxRecDepth 16384

noncomputable section

namespace Cert.Kernel16Ideal.DwInG

open Cert.Kernel16Ideal Cert.Kernel16Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x1024 .bf16) (v1 : FVec Ideal S2048x1024 .bf16) (v12 : FVec Ideal S1024x1024 .f32)
  (p : Fin 1024) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4 + 1, 0] ∧ t.val < 4 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 1024) : Fin 1024 := ⟨t.val / 4 * 1024 + p.val, by have := idx t; omega⟩

theorem i0_apply (c : Dev nD) (t : Fin cfg0.N) (r : Fin 2048) (p : Fin 1024) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x1024 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 1024) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · have hi := idx t; rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 1024) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 1024) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array: the product where the blocks are written, the argument elsewhere -/

/-- The result array as the points leave it, at an index. -/
def res (a : FVec Ideal ⟨2, ![8192, 1024]⟩ .bf16) (b : FVec Ideal ⟨2, ![8192, 1024]⟩ .bf16) (d : FVec Ideal ⟨2, ![5632, 1024]⟩ .bf16)
    (i : Fin 5632) (l : Fin 1024) : EReal :=
  if h : 1024 ≤ i.val ∧ i.val < 2048 then prod a b ⟨i.val - 1024, by omega⟩ l else d (ix2 i l)

theorem entry (c : Dev nD) : V m c main_v0 = m (c.tc.loc main_arg2) := by unfold V; after_results; try rfl

theorem final2 (c : Dev nD) : (dats m 0 c).arrAt 2 cfg0.N = fun i => res (m (c.tc.loc main_arg0)) (m (c.tc.loc main_arg1)) (m (c.tc.loc main_arg2)) (i 0) (i 1) := by
  have e : (fun i : S5632x1024.Idx => res (m (c.tc.loc main_arg0)) (m (c.tc.loc main_arg1)) (m (c.tc.loc main_arg2)) (i 0) (i 1))
      = fun i : S5632x1024.Idx => if 1024 ≤ (i 0).val ∧ (i 0).val < 2048 then res (m (c.tc.loc main_arg0)) (m (c.tc.loc main_arg1)) (m (c.tc.loc main_arg2)) (i 0) (i 1)
        else V m c main_v0 i := by
    funext i
    by_cases h : 1024 ≤ (i 0).val ∧ (i 0).val < 2048
    · rw [if_pos h]
    · rw [if_neg h, entry]
      unfold res
      rw [dif_neg h]
      idx_vars i
  refine Eq.trans ?_ e.symm
  refine (dats m 0 c).arrAt_eq_of_coversWhere 2 _ (fun β => 1 ≤ β 0 ∧ β 0 < 2) (by decide +kernel) (fun t hf y => ?_)
    (fun j => by blk_simp [Pipeline.Window.cell_apply]; omega)
  have hf' := (flush0_2 t).mp hf
  have q0 : (y 0).val < 1024 := ((cfg0.win 2).xinj (cfg0.grid.coords t) y 0).isLt
  have q1 : (y 1).val < 1024 := ((cfg0.win 2).xinj (cfg0.grid.coords t) y 1).isLt
  have hz : (cfg0.win 2).xinj (cfg0.grid.coords t) y
      = (ix2 (⟨(y 0).val, q0⟩ : Fin 1024) (⟨(y 1).val, q1⟩ : Fin 1024) : S1024x1024.Idx) := by
    funext a
    match a with
    | 0 => rfl
    | 1 => rfl
  blk_simp
  rw [after0_2, hz, out2 m c t hf']
  symm
  refine (dif_pos ?_).trans (congrArg₂ _ (Fin.ext ?_) (Fin.ext ?_)) <;> blk_simp [idx t] <;> have := idx t <;> (try dsimp only) <;> omega

end Cert.Kernel16Ideal.DwInG
-- ==== Proof.DwInGClaim.lean ====
/-
  THE CLAIM: the gradient of the first matrix, transposed: its second thousand rows. The reference's result is read at an index and is the
  kernel's, for all argument arrays: the factors of each product are exchanged, nothing more.
-/
module

public import proofs.«01_k».proof.Defs
public import proofs.«01_k».proof.Proof.DwInGKernel
public import proofs.«01_k».proof.Proof.Gen.Reference16Ideal.Run
public import proofs.«01_k».proof.Proof.Gen.Reference16Ideal.Read
public import Idealize.ShloMosaic.Adequacy
public import Idealize.ShloMosaic.Init
public import Idealize.ShloMosaic.Lib.Claim

@[expose] public section

set_option maxRecDepth 16384

noncomputable section

namespace Cert.Reference16Ideal.DwInG

open Cert.Reference16Ideal Cert.Reference16Ideal.Gen Cert.Reference16Ideal.Read Cert.Dw
open Idealize.ShloMosaic Idealize.ShloMosaic.TcCoe

variable (x0 : FVec Ideal ⟨2, ![8192, 1024]⟩ .bf16) (x1 : FVec Ideal ⟨2, ![8192, 1024]⟩ .bf16) (x2 : FVec Ideal ⟨2, ![5632, 1024]⟩ .bf16)

theorem eq_prod (p : Fin 1024) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

theorem eq_lo (p : Fin 5632) (l : Fin 1024) (h : p.val < 1024) : val_main_v9 (F := Ideal) x0 x1 x2 (ix2 p l) = x2 (ix2 p l) := by
  pointwise [val_main_v9, val_main_v8, val_main_v7]
  exact dif_pos h

theorem eq_mid (p : Fin 5632) (l : Fin 1024) (h : 1024 ≤ p.val) (h' : p.val < 2048) :
    val_main_v9 (F := Ideal) x0 x1 x2 (ix2 p l) = val_main_v6 (F := Ideal) x0 x1 (ix2 ⟨p.val - 1024, by omega⟩ l) := by
  pointwise [val_main_v9, val_main_v8, val_main_v7]
  exact (dif_neg (by omega)).trans (dif_pos (by omega))

theorem eq_hi (p : Fin 5632) (l : Fin 1024) (h : 2048 ≤ p.val) : val_main_v9 (F := Ideal) x0 x1 x2 (ix2 p l) = x2 (ix2 p l) := by
  pointwise [val_main_v9, val_main_v8, val_main_v7]
  refine (dif_neg (by omega)).trans ((dif_neg (by omega)).trans (congrArg _ (congrArg₂ ix2 (Fin.ext ?_) rfl)))
  dsimp only
  omega

theorem eq_res (p : Fin 5632) (l : Fin 1024) : val_main_v9 (F := Ideal) x0 x1 x2 (ix2 p l) = Cert.Kernel16Ideal.DwInG.res x0 x1 x2 p l := by
  unfold Cert.Kernel16Ideal.DwInG.res
  by_cases h : 1024 ≤ p.val ∧ p.val < 2048
  · rw [dif_pos h, eq_mid x0 x1 x2 p l h.1 h.2, eq_prod]
  · rw [dif_neg h]
    rcases Nat.lt_or_ge p.val 1024 with g | g
    · exact eq_lo x0 x1 x2 p l g
    · exact eq_hi x0 x1 x2 p l (by omega)

end Cert.Reference16Ideal.DwInG

namespace Cert.DwInG

open Idealize.ShloMosaic Idealize.SL.Sem

/-- The reference's frame: its run writes no argument, and it declares no semaphore. -/
theorem frame_reference : Cert.quiescent_Reference16Ideal (hReference16Ideal := Cert.Reference16Ideal.Gen.facts) := fun m ρ _ =>
  (θ_run (Cert.Reference16Ideal.defs (F := Ideal)) _ _).mono
    (fun r h => ⟨fun c => (h c).2, sem_eq_zero_of_no_sems (by decide) r.2⟩)
    (Cert.Reference16Ideal.Value.run (F := Ideal) m ρ)

theorem algebraic : Cert.algebraic_Kernel16Ideal_Reference16Ideal
    (hKernel16Ideal := Cert.Kernel16Ideal.Gen.facts) (hReference16Ideal := Cert.Reference16Ideal.Gen.facts) := by
  pair_intro
  · run_from Cert.Kernel16Ideal.Value.run_blocks m g
  · refine (θ_run (Cert.Reference16Ideal.defs (F := Ideal)) _ _).mono (fun r h c => ?_)
      (Cert.Reference16Ideal.Value.run (F := Ideal) m' g')
    obtain ⟨a0, hf⟩ := h c
    obtain ⟨e0, e1, e2⟩ := hagree c
    refine ⟨a0.trans ?_, hf⟩
    refine (Cert.Reference16Ideal.Read.val_main_v9_eq _ _ _).trans ?_
    rw [e0, e1, e2, Cert.Kernel16Ideal.DwInG.final2]
    funext i; idx_vars i
    exact Cert.Reference16Ideal.DwInG.eq_res _ _ _ _ _

end Cert.DwInG
-- ==== Proof.DwInQKernel.lean ====
/-
  WHAT THE KERNEL'S RESULT HOLDS: the gradient of the first matrix, transposed: its third thousand rows. The points run over 1 block of 1024 rows of the result and,
  within each, over 4 blocks of 2048 tokens; a point adds its tokens' part to a running sum, and a block's last point
  writes the sum out at row 2048.
-/
module

public import proofs.«01_k».proof.Proof.DwMath
public import proofs.«01_k».proof.Proof.Gen.Kernel17Ideal.Value

@[expose] public section

set_option maxRecDepth 16384

noncomputable section

namespace Cert.Kernel17Ideal.DwInQ

open Cert.Kernel17Ideal Cert.Kernel17Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x1024 .bf16) (v1 : FVec Ideal S2048x1024 .bf16) (v12 : FVec Ideal S1024x1024 .f32)
  (p : Fin 1024) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4 + 2, 0] ∧ t.val < 4 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 1024) : Fin 1024 := ⟨t.val / 4 * 1024 + p.val, by have := idx t; omega⟩

theorem i0_apply (c : Dev nD) (t : Fin cfg0.N) (r : Fin 2048) (p : Fin 1024) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x1024 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 1024) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · have hi := idx t; rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 1024) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 1024) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array: the product where the blocks are written, the argument elsewhere -/

/-- The result array as the points leave it, at an index. -/
def res (a : FVec Ideal ⟨2, ![8192, 1024]⟩ .bf16) (b : FVec Ideal ⟨2, ![8192, 1024]⟩ .bf16) (d : FVec Ideal ⟨2, ![5632, 1024]⟩ .bf16)
    (i : Fin 5632) (l : Fin 1024) : EReal :=
  if h : 2048 ≤ i.val ∧ i.val < 3072 then prod a b ⟨i.val - 2048, by omega⟩ l else d (ix2 i l)

theorem entry (c : Dev nD) : V m c main_v0 = m (c.tc.loc main_arg2) := by unfold V; after_results; try rfl

theorem final2 (c : Dev nD) : (dats m 0 c).arrAt 2 cfg0.N = fun i => res (m (c.tc.loc main_arg0)) (m (c.tc.loc main_arg1)) (m (c.tc.loc main_arg2)) (i 0) (i 1) := by
  have e : (fun i : S5632x1024.Idx => res (m (c.tc.loc main_arg0)) (m (c.tc.loc main_arg1)) (m (c.tc.loc main_arg2)) (i 0) (i 1))
      = fun i : S5632x1024.Idx => if 2048 ≤ (i 0).val ∧ (i 0).val < 3072 then res (m (c.tc.loc main_arg0)) (m (c.tc.loc main_arg1)) (m (c.tc.loc main_arg2)) (i 0) (i 1)
        else V m c main_v0 i := by
    funext i
    by_cases h : 2048 ≤ (i 0).val ∧ (i 0).val < 3072
    · rw [if_pos h]
    · rw [if_neg h, entry]
      unfold res
      rw [dif_neg h]
      idx_vars i
  refine Eq.trans ?_ e.symm
  refine (dats m 0 c).arrAt_eq_of_coversWhere 2 _ (fun β => 2 ≤ β 0 ∧ β 0 < 3) (by decide +kernel) (fun t hf y => ?_)
    (fun j => by blk_simp [Pipeline.Window.cell_apply]; omega)
  have hf' := (flush0_2 t).mp hf
  have q0 : (y 0).val < 1024 := ((cfg0.win 2).xinj (cfg0.grid.coords t) y 0).isLt
  have q1 : (y 1).val < 1024 := ((cfg0.win 2).xinj (cfg0.grid.coords t) y 1).isLt
  have hz : (cfg0.win 2).xinj (cfg0.grid.coords t) y
      = (ix2 (⟨(y 0).val, q0⟩ : Fin 1024) (⟨(y 1).val, q1⟩ : Fin 1024) : S1024x1024.Idx) := by
    funext a
    match a with
    | 0 => rfl
    | 1 => rfl
  blk_simp
  rw [after0_2, hz, out2 m c t hf']
  symm
  refine (dif_pos ?_).trans (congrArg₂ _ (Fin.ext ?_) (Fin.ext ?_)) <;> blk_simp [idx t] <;> have := idx t <;> (try dsimp only) <;> omega

end Cert.Kernel17Ideal.DwInQ
-- ==== Proof.DwInQClaim.lean ====
/-
  THE CLAIM: the gradient of the first matrix, transposed: its third thousand rows. The reference's result is read at an index and is the
  kernel's, for all argument arrays: the factors of each product are exchanged, nothing more.
-/
module

public import proofs.«01_k».proof.Defs
public import proofs.«01_k».proof.Proof.DwInQKernel
public import proofs.«01_k».proof.Proof.Gen.Reference17Ideal.Run
public import proofs.«01_k».proof.Proof.Gen.Reference17Ideal.Read
public import Idealize.ShloMosaic.Adequacy
public import Idealize.ShloMosaic.Init
public import Idealize.ShloMosaic.Lib.Claim

@[expose] public section

set_option maxRecDepth 16384

noncomputable section

namespace Cert.Reference17Ideal.DwInQ

open Cert.Reference17Ideal Cert.Reference17Ideal.Gen Cert.Reference17Ideal.Read Cert.Dw
open Idealize.ShloMosaic Idealize.ShloMosaic.TcCoe

variable (x0 : FVec Ideal ⟨2, ![8192, 1024]⟩ .bf16) (x1 : FVec Ideal ⟨2, ![8192, 1024]⟩ .bf16) (x2 : FVec Ideal ⟨2, ![5632, 1024]⟩ .bf16)

theorem eq_prod (p : Fin 1024) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

theorem eq_lo (p : Fin 5632) (l : Fin 1024) (h : p.val < 2048) : val_main_v9 (F := Ideal) x0 x1 x2 (ix2 p l) = x2 (ix2 p l) := by
  pointwise [val_main_v9, val_main_v8, val_main_v7]
  exact dif_pos h

theorem eq_mid (p : Fin 5632) (l : Fin 1024) (h : 2048 ≤ p.val) (h' : p.val < 3072) :
    val_main_v9 (F := Ideal) x0 x1 x2 (ix2 p l) = val_main_v6 (F := Ideal) x0 x1 (ix2 ⟨p.val - 2048, by omega⟩ l) := by
  pointwise [val_main_v9, val_main_v8, val_main_v7]
  exact (dif_neg (by omega)).trans (dif_pos (by omega))

theorem eq_hi (p : Fin 5632) (l : Fin 1024) (h : 3072 ≤ p.val) : val_main_v9 (F := Ideal) x0 x1 x2 (ix2 p l) = x2 (ix2 p l) := by
  pointwise [val_main_v9, val_main_v8, val_main_v7]
  refine (dif_neg (by omega)).trans ((dif_neg (by omega)).trans (congrArg _ (congrArg₂ ix2 (Fin.ext ?_) rfl)))
  dsimp only
  omega

theorem eq_res (p : Fin 5632) (l : Fin 1024) : val_main_v9 (F := Ideal) x0 x1 x2 (ix2 p l) = Cert.Kernel17Ideal.DwInQ.res x0 x1 x2 p l := by
  unfold Cert.Kernel17Ideal.DwInQ.res
  by_cases h : 2048 ≤ p.val ∧ p.val < 3072
  · rw [dif_pos h, eq_mid x0 x1 x2 p l h.1 h.2, eq_prod]
  · rw [dif_neg h]
    rcases Nat.lt_or_ge p.val 2048 with g | g
    · exact eq_lo x0 x1 x2 p l g
    · exact eq_hi x0 x1 x2 p l (by omega)

end Cert.Reference17Ideal.DwInQ

namespace Cert.DwInQ

open Idealize.ShloMosaic Idealize.SL.Sem

/-- The reference's frame: its run writes no argument, and it declares no semaphore. -/
theorem frame_reference : Cert.quiescent_Reference17Ideal (hReference17Ideal := Cert.Reference17Ideal.Gen.facts) := fun m ρ _ =>
  (θ_run (Cert.Reference17Ideal.defs (F := Ideal)) _ _).mono
    (fun r h => ⟨fun c => (h c).2, sem_eq_zero_of_no_sems (by decide) r.2⟩)
    (Cert.Reference17Ideal.Value.run (F := Ideal) m ρ)

theorem algebraic : Cert.algebraic_Kernel17Ideal_Reference17Ideal
    (hKernel17Ideal := Cert.Kernel17Ideal.Gen.facts) (hReference17Ideal := Cert.Reference17Ideal.Gen.facts) := by
  pair_intro
  · run_from Cert.Kernel17Ideal.Value.run_blocks m g
  · refine (θ_run (Cert.Reference17Ideal.defs (F := Ideal)) _ _).mono (fun r h c => ?_)
      (Cert.Reference17Ideal.Value.run (F := Ideal) m' g')
    obtain ⟨a0, hf⟩ := h c
    obtain ⟨e0, e1, e2⟩ := hagree c
    refine ⟨a0.trans ?_, hf⟩
    refine (Cert.Reference17Ideal.Read.val_main_v9_eq _ _ _).trans ?_
    rw [e0, e1, e2, Cert.Kernel17Ideal.DwInQ.final2]
    funext i; idx_vars i
    exact Cert.Reference17Ideal.DwInQ.eq_res _ _ _ _ _

end Cert.DwInQ
-- ==== Proof.DwInKvKernel.lean ====
/-
  WHAT THE KERNEL'S RESULT HOLDS: the gradient of the first matrix, transposed: the rows of keys and values. The points run over 1 block of 512 rows of the result and,
  within each, over 4 blocks of 2048 tokens; a point adds its tokens' part to a running sum, and a block's last point
  writes the sum out at row 3072.
-/
module

public import proofs.«01_k».proof.Proof.DwMath
public import proofs.«01_k».proof.Proof.Gen.Kernel18Ideal.Value

@[expose] public section

set_option maxRecDepth 16384

noncomputable section

namespace Cert.Kernel18Ideal.DwInKv

open Cert.Kernel18Ideal Cert.Kernel18Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S2048x512 .bf16) (v1 : FVec Ideal S2048x1024 .bf16) (v12 : FVec Ideal S512x1024 .f32)
  (p : Fin 512) (l : Fin 1024)

theorem pay_part : k0_pay1 (F := Ideal) v0 v1 (ix2 p l) = ∑ r : Fin 2048, v0 (ix2 r p) * v1 (ix2 r l) := by
  pointwise [k0_pay1]

theorem pay_first : k0_pay2 (F := Ideal) v0 v1 (ix2 p l) = ∑ r : Fin 2048, v0 (ix2 r p) * v1 (ix2 r l) := by
  rw [← pay_part]
  pointwise [k0_pay2]

theorem pay_step : k0_pay3 (F := Ideal) v0 v1 v12 (ix2 p l)
    = v12 (ix2 p l) + ∑ r : Fin 2048, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 4, t.val / 4] ∧ win0_1.index t = ![t.val % 4, 0]
    ∧ win0_2.index t = ![t.val / 4 + 6, 0] ∧ t.val < 4 :=
  (by decide +kernel : ∀ t : Fin grid0.N, _)

/-! ### The argument blocks at an index -/

/-- The token that row `r` of point `t`'s blocks is, and the column of the left array that column `p` is. -/
abbrev tok (t : Fin cfg0.N) (r : Fin 2048) : Fin 8192 := ⟨t.val % 4 * 2048 + r.val, by omega⟩
abbrev col (t : Fin cfg0.N) (p : Fin 512) : Fin 512 := ⟨t.val / 4 * 512 + p.val, by have := idx t; omega⟩

theorem i0_apply (c : Dev nD) (t : Fin cfg0.N) (r : Fin 2048) (p : Fin 512) :
    iblk m c 0 t (ix2 r p) = m (c.tc.loc main_arg0) (ix2 (tok t r) (col t p)) := by blk_ext [iblk, V, idx t]
theorem i1_apply (c : Dev nD) (t : Fin cfg0.N) (r : Fin 2048) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S2048x512 .bf16 := iblk m c 0 t
abbrev B (c : Dev nD) (t : Fin cfg0.N) : FVec Ideal S2048x1024 .bf16 := iblk m c 1 t

/-- The part of the sum that point `t`'s tokens contribute. -/
abbrev part (c : Dev nD) (t : Fin cfg0.N) (p : Fin 512) (l : Fin 1024) : EReal :=
  ∑ r : Fin 2048, A m c t (ix2 r p) * B m c t (ix2 r l)

/-- The running sum after a block's last point is the sum of all its points' parts. -/
theorem sum_after (c : Dev nD) (t : Fin cfg0.N) (ht : t.val % 4 = 4 - 1) (j) :
    (outsAt0 m c t.val t.isLt).2 j
      = 0 + ∑ s : Fin 4, part m c ⟨4 * (t.val / 4) + s.val, Pipeline.run_point_lt_of_flush t ht s⟩ (j 0) (j 1) := by
  refine Pipeline.eq_sum_fin_of_reset_step_apply_of_flush (fun n h => (outsAt0 m c n h).2) 4 (fun _ => 0)
    (fun t j => part m c t (j 0) (j 1)) (fun t h j => ?_) (fun t h j => ?_) t ht j <;> idx_vars j <;> beta_reduce
  · have hi := idx t; rw [outsAt0_A m c t h (by omega) (by omega)]; frame_out; rw [pay_first, zero_add]
  · have h2 : t.val % 4 = 3 ∨ ¬t.val % 4 = 3 := em _
    rcases h2 with h2 | h2
    · rw [outsAt0_C m c t h (by omega) h2]; frame_out; rw [pay_step, read_unread_whole]
    · rw [outsAt0_B m c t h (by omega) h2]; frame_out; rw [pay_step, read_unread_whole]

/-- All of a block's points' tokens are all the tokens. -/
theorem sum_tokens (c : Dev nD) (t : Fin cfg0.N) (ht : t.val % 4 = 4 - 1) (p : Fin 512) (l : Fin 1024) :
    (∑ s : Fin 4, part m c ⟨4 * (t.val / 4) + s.val, Pipeline.run_point_lt_of_flush t ht s⟩ p l)
      = prod (m (c.tc.loc main_arg0)) (m (c.tc.loc main_arg1)) (col t p) l := by
  unfold prod
  refine Fin.sum_mul_add_congr (L := 8192) (S := 4) (n := 2048) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 4 = 4 - 1) (p : Fin 512) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_C m c t (by omega) (by omega) (by omega)]; frame_out; rw [pay_cast]

/-! ### The result array: the product where the blocks are written, the argument elsewhere -/

/-- The result array as the points leave it, at an index. -/
def res (a : FVec Ideal ⟨2, ![8192, 512]⟩ .bf16) (b : FVec Ideal ⟨2, ![8192, 1024]⟩ .bf16) (d : FVec Ideal ⟨2, ![5632, 1024]⟩ .bf16)
    (i : Fin 5632) (l : Fin 1024) : EReal :=
  if h : 3072 ≤ i.val ∧ i.val < 3584 then prod a b ⟨i.val - 3072, by omega⟩ l else d (ix2 i l)

theorem entry (c : Dev nD) : V m c main_v0 = m (c.tc.loc main_arg2) := by unfold V; after_results; try rfl

theorem final2 (c : Dev nD) : (dats m 0 c).arrAt 2 cfg0.N = fun i => res (m (c.tc.loc main_arg0)) (m (c.tc.loc main_arg1)) (m (c.tc.loc main_arg2)) (i 0) (i 1) := by
  have e : (fun i : S5632x1024.Idx => res (m (c.tc.loc main_arg0)) (m (c.tc.loc main_arg1)) (m (c.tc.loc main_arg2)) (i 0) (i 1))
      = fun i : S5632x1024.Idx => if 3072 ≤ (i 0).val ∧ (i 0).val < 3584 then res (m (c.tc.loc main_arg0)) (m (c.tc.loc main_arg1)) (m (c.tc.loc main_arg2)) (i 0) (i 1)
        else V m c main_v0 i := by
    funext i
    by_cases h : 3072 ≤ (i 0).val ∧ (i 0).val < 3584
    · rw [if_pos h]
    · rw [if_neg h, entry]
      unfold res
      rw [dif_neg h]
      idx_vars i
  refine Eq.trans ?_ e.symm
  refine (dats m 0 c).arrAt_eq_of_coversWhere 2 _ (fun β => 6 ≤ β 0 ∧ β 0 < 7) (by decide +kernel) (fun t hf y => ?_)
    (fun j => by blk_simp [Pipeline.Window.cell_apply]; omega)
  idx_vars y
  blk_simp
  rw [after0_2, out2 m c t ((flush0_2 t).mp hf)]
  refine Eq.trans (b := prod _ _ (col t y0) y1) rfl ?_
  symm
  refine (dif_pos ?_).trans (congrArg₂ _ (Fin.ext ?_) (Fin.ext ?_)) <;> blk_simp [idx t] <;> have := idx t <;> (try dsimp only) <;> omega

end Cert.Kernel18Ideal.DwInKv
-- ==== Proof.DwInKvClaim.lean ====
/-
  THE CLAIM: the gradient of the first matrix, transposed: the rows of keys and values. The reference's result is read at an index and is the
  kernel's, for all argument arrays: the factors of each product are exchanged, nothing more.
-/
module

public import proofs.«01_k».proof.Defs
public import proofs.«01_k».proof.Proof.DwInKvKernel
public import proofs.«01_k».proof.Proof.Gen.Reference18Ideal.Run
public import proofs.«01_k».proof.Proof.Gen.Reference18Ideal.Read
public import Idealize.ShloMosaic.Adequacy
public import Idealize.ShloMosaic.Init
public import Idealize.ShloMosaic.Lib.Claim

@[expose] public section

set_option maxRecDepth 16384

noncomputable section

namespace Cert.Reference18Ideal.DwInKv

open Cert.Reference18Ideal Cert.Reference18Ideal.Gen Cert.Reference18Ideal.Read Cert.Dw
open Idealize.ShloMosaic Idealize.ShloMosaic.TcCoe

variable (x0 : FVec Ideal ⟨2, ![8192, 512]⟩ .bf16) (x1 : FVec Ideal ⟨2, ![8192, 1024]⟩ .bf16) (x2 : FVec Ideal ⟨2, ![5632, 1024]⟩ .bf16)

theorem eq_prod (p : Fin 512) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

theorem eq_lo (p : Fin 5632) (l : Fin 1024) (h : p.val < 3072) : val_main_v9 (F := Ideal) x0 x1 x2 (ix2 p l) = x2 (ix2 p l) := by
  pointwise [val_main_v9, val_main_v8, val_main_v7]
  exact dif_pos h

theorem eq_mid (p : Fin 5632) (l : Fin 1024) (h : 3072 ≤ p.val) (h' : p.val < 3584) :
    val_main_v9 (F := Ideal) x0 x1 x2 (ix2 p l) = val_main_v6 (F := Ideal) x0 x1 (ix2 ⟨p.val - 3072, by omega⟩ l) := by
  pointwise [val_main_v9, val_main_v8, val_main_v7]
  exact (dif_neg (by omega)).trans (dif_pos (by omega))

theorem eq_hi (p : Fin 5632) (l : Fin 1024) (h : 3584 ≤ p.val) : val_main_v9 (F := Ideal) x0 x1 x2 (ix2 p l) = x2 (ix2 p l) := by
  pointwise [val_main_v9, val_main_v8, val_main_v7]
  refine (dif_neg (by omega)).trans ((dif_neg (by omega)).trans (congrArg _ (congrArg₂ ix2 (Fin.ext ?_) rfl)))
  dsimp only
  omega

theorem eq_res (p : Fin 5632) (l : Fin 1024) : val_main_v9 (F := Ideal) x0 x1 x2 (ix2 p l) = Cert.Kernel18Ideal.DwInKv.res x0 x1 x2 p l := by
  unfold Cert.Kernel18Ideal.DwInKv.res
  by_cases h : 3072 ≤ p.val ∧ p.val < 3584
  · rw [dif_pos h, eq_mid x0 x1 x2 p l h.1 h.2, eq_prod]
  · rw [dif_neg h]
    rcases Nat.lt_or_ge p.val 3072 with g | g
    · exact eq_lo x0 x1 x2 p l g
    · exact eq_hi x0 x1 x2 p l (by omega)

end Cert.Reference18Ideal.DwInKv

namespace Cert.DwInKv

open Idealize.ShloMosaic Idealize.SL.Sem

/-- The reference's frame: its run writes no argument, and it declares no semaphore. -/
theorem frame_reference : Cert.quiescent_Reference18Ideal (hReference18Ideal := Cert.Reference18Ideal.Gen.facts) := fun m ρ _ =>
  (θ_run (Cert.Reference18Ideal.defs (F := Ideal)) _ _).mono
    (fun r h => ⟨fun c => (h c).2, sem_eq_zero_of_no_sems (by decide) r.2⟩)
    (Cert.Reference18Ideal.Value.run (F := Ideal) m ρ)

theorem algebraic : Cert.algebraic_Kernel18Ideal_Reference18Ideal
    (hKernel18Ideal := Cert.Kernel18Ideal.Gen.facts) (hReference18Ideal := Cert.Reference18Ideal.Gen.facts) := by
  pair_intro
  · run_from Cert.Kernel18Ideal.Value.run_blocks m g
  · refine (θ_run (Cert.Reference18Ideal.defs (F := Ideal)) _ _).mono (fun r h c => ?_)
      (Cert.Reference18Ideal.Value.run (F := Ideal) m' g')
    obtain ⟨a0, hf⟩ := h c
    obtain ⟨e0, e1, e2⟩ := hagree c
    refine ⟨a0.trans ?_, hf⟩
    refine (Cert.Reference18Ideal.Read.val_main_v9_eq _ _ _).trans ?_
    rw [e0, e1, e2, Cert.Kernel18Ideal.DwInKv.final2]
    funext i; idx_vars i
    exact Cert.Reference18Ideal.DwInKv.eq_res _ _ _ _ _

end Cert.DwInKv
-- ==== Proof.DwInZKernel.lean ====
/-
  WHAT THE KERNEL'S RESULT HOLDS: the gradient of the first matrix, transposed: the rows of the gates. The points run over 4 blocks of 512 rows of the result and,
  within each, over 2 blocks of 4096 tokens; a point adds its tokens' part to a running sum, and a block's last point
  writes the sum out at row 3584.
-/
module

public import proofs.«01_k».proof.Proof.DwMath
public import proofs.«01_k».proof.Proof.Gen.Kernel19Ideal.Value

@[expose] public section

set_option maxRecDepth 16384

noncomputable section

namespace Cert.Kernel19Ideal.DwInZ

open Cert.Kernel19Ideal Cert.Kernel19Ideal.Gen Cert.Dw
open Idealize.ShloMosaic Idealize.ShloMosaic.TcCoe Idealize.SL.Sem
open Idealize.ShloMosaic.Pipeline (Dat)

/-! ### The body's arithmetic at one index of a block -/

section Body
variable (v0 : FVec Ideal S4096x512 .bf16) (v1 : FVec Ideal S4096x1024 .bf16) (v12 : FVec Ideal S512x1024 .f32)
  (p : Fin 512) (l : Fin 1024)

theorem pay_part : k0_pay1 (F := Ideal) v0 v1 (ix2 p l) = ∑ r : Fin 4096, v0 (ix2 r p) * v1 (ix2 r l) := by
  pointwise [k0_pay1]

theorem pay_first : k0_pay2 (F := Ideal) v0 v1 (ix2 p l) = ∑ r : Fin 4096, v0 (ix2 r p) * v1 (ix2 r l) := by
  rw [← pay_part]
  pointwise [k0_pay2]

theorem pay_step : k0_pay3 (F := Ideal) v0 v1 v12 (ix2 p l)
    = v12 (ix2 p l) + ∑ r : Fin 4096, v0 (ix2 r p) * v1 (ix2 r l) := by
  rw [← pay_part]
  pointwise [k0_pay3]

theorem pay_cast : k0_pay4 (F := Ideal) v12 (ix2 p l) = v12 (ix2 p l) := by
  pointwise [k0_pay4]

end Body

variable (m : (ℓ : Loc nD τ sig) → Buf (Elt Ideal) ℓ)

theorem idx : ∀ t : Fin cfg0.N, win0_0.index t = ![t.val % 2, t.val / 2] ∧ win0_1.index t = ![t.val % 2, 0]
    ∧ win0_2.index t = ![t.val / 2 + 7, 0] ∧ t.val < 8 :=
  (by decide +kernel : ∀ t : Fin grid0.N, _)

/-! ### The argument blocks at an index -/

/-- The token that row `r` of point `t`'s blocks is, and the column of the left array that column `p` is. -/
abbrev tok (t : Fin cfg0.N) (r : Fin 4096) : Fin 8192 := ⟨t.val % 2 * 4096 + r.val, by omega⟩
abbrev col (t : Fin cfg0.N) (p : Fin 512) : Fin 2048 := ⟨t.val / 2 * 512 + p.val, by have := idx t; omega⟩

theorem i0_apply (c : Dev nD) (t : Fin cfg0.N) (r : Fin 4096) (p : Fin 512) :
    iblk m c 0 t (ix2 r p) = m (c.tc.loc main_arg0) (ix2 (tok t r) (col t p)) := by blk_ext [iblk, V, idx t]
theorem i1_apply (c : Dev nD) (t : Fin cfg0.N) (r : Fin 4096) (l : Fin 1024) :
    iblk m c 1 t (ix2 r l) = m (c.tc.loc main_arg1) (ix2 (tok t r) l) := by blk_ext [iblk, V, idx t]

/-! ### What a block's last point writes out -/

abbrev A (c : Dev nD) (t : Fin cfg0.N) : FVec Ideal S4096x512 .bf16 := iblk m c 0 t
abbrev B (c : Dev nD) (t : Fin cfg0.N) : FVec Ideal S4096x1024 .bf16 := iblk m c 1 t

/-- The part of the sum that point `t`'s tokens contribute. -/
abbrev part (c : Dev nD) (t : Fin cfg0.N) (p : Fin 512) (l : Fin 1024) : EReal :=
  ∑ r : Fin 4096, A m c t (ix2 r p) * B m c t (ix2 r l)

/-- The running sum after a block's last point is the sum of all its points' parts. -/
theorem sum_after (c : Dev nD) (t : Fin cfg0.N) (ht : t.val % 2 = 2 - 1) (j) :
    (outsAt0 m c t.val t.isLt).2 j
      = 0 + ∑ s : Fin 2, part m c ⟨2 * (t.val / 2) + s.val, Pipeline.run_point_lt_of_flush t ht s⟩ (j 0) (j 1) := by
  refine Pipeline.eq_sum_fin_of_reset_step_apply_of_flush (fun n h => (outsAt0 m c n h).2) 2 (fun _ => 0)
    (fun t j => part m c t (j 0) (j 1)) (fun t h j => ?_) (fun t h j => ?_) t ht j <;> idx_vars j <;> beta_reduce
  · have hi := idx t; rw [outsAt0_A m c t h (by omega) (by omega)]; frame_out; rw [pay_first, zero_add]
  · rw [outsAt0_B m c t h (by omega) (by omega)]; frame_out; rw [pay_step, read_unread_whole]

/-- All of a block's points' tokens are all the tokens. -/
theorem sum_tokens (c : Dev nD) (t : Fin cfg0.N) (ht : t.val % 2 = 2 - 1) (p : Fin 512) (l : Fin 1024) :
    (∑ s : Fin 2, part m c ⟨2 * (t.val / 2) + s.val, Pipeline.run_point_lt_of_flush t ht s⟩ p l)
      = prod (m (c.tc.loc main_arg0)) (m (c.tc.loc main_arg1)) (col t p) l := by
  unfold prod
  refine Fin.sum_mul_add_congr (L := 8192) (S := 2) (n := 4096) (fun s k _ => ?_)
  refine congrArg₂ (· * ·) ((i0_apply m c _ k p).trans (congrArg _ (congrArg₂ ix2 (Fin.ext ?_) (Fin.ext ?_)))) ((i1_apply m c _ k l).trans (congrArg _ (congrArg₂ ix2 (Fin.ext ?_) rfl)))
    <;> dsimp only <;> have := s.isLt <;> omega

theorem out2 (c : Dev nD) (t : Fin cfg0.N) (ht : t.val % 2 = 2 - 1) (p : Fin 512) (l : Fin 1024) :
    (outsAt0 m c t.val t.isLt).1 (ix2 p l) = prod (m (c.tc.loc main_arg0)) (m (c.tc.loc main_arg1)) (col t p) l := by
  rw [← sum_tokens m c t ht, ← zero_add (Finset.sum _ _)]
  refine Eq.trans ?_ (sum_after m c t ht (ix2 p l))
  rw [outsAt0_B m c t (by omega) (by omega) (by omega)]; frame_out; rw [pay_cast]

/-! ### The result array: the product where the blocks are written, the argument elsewhere -/

/-- The result array as the points leave it, at an index. -/
def res (a : FVec Ideal ⟨2, ![8192, 2048]⟩ .bf16) (b : FVec Ideal ⟨2, ![8192, 1024]⟩ .bf16) (d : FVec Ideal ⟨2, ![5632, 1024]⟩ .bf16)
    (i : Fin 5632) (l : Fin 1024) : EReal :=
  if h : 3584 ≤ i.val ∧ i.val < 5632 then prod a b ⟨i.val - 3584, by omega⟩ l else d (ix2 i l)

theorem entry (c : Dev nD) : V m c main_v0 = m (c.tc.loc main_arg2) := by unfold V; after_results; try rfl

theorem final2 (c : Dev nD) : (dats m 0 c).arrAt 2 cfg0.N = fun i => res (m (c.tc.loc main_arg0)) (m (c.tc.loc main_arg1)) (m (c.tc.loc main_arg2)) (i 0) (i 1) := by
  have e : (fun i : S5632x1024.Idx => res (m (c.tc.loc main_arg0)) (m (c.tc.loc main_arg1)) (m (c.tc.loc main_arg2)) (i 0) (i 1))
      = fun i : S5632x1024.Idx => if 3584 ≤ (i 0).val ∧ (i 0).val < 5632 then res (m (c.tc.loc main_arg0)) (m (c.tc.loc main_arg1)) (m (c.tc.loc main_arg2)) (i 0) (i 1)
        else V m c main_v0 i := by
    funext i
    by_cases h : 3584 ≤ (i 0).val ∧ (i 0).val < 5632
    · rw [if_pos h]
    · rw [if_neg h, entry]
      unfold res
      rw [dif_neg h]
      idx_vars i
  refine Eq.trans ?_ e.symm
  refine (dats m 0 c).arrAt_eq_of_coversWhere 2 _ (fun β => 7 ≤ β 0 ∧ β 0 < 11) (by decide +kernel) (fun t hf y => ?_)
    (fun j => by blk_simp [Pipeline.Window.cell_apply]; omega)
  idx_vars y
  blk_simp
  rw [after0_2, out2 m c t ((flush0_2 t).mp hf)]
  refine Eq.trans (b := prod _ _ (col t y0) y1) rfl ?_
  symm
  refine (dif_pos ?_).trans (congrArg₂ _ (Fin.ext ?_) (Fin.ext ?_)) <;> blk_simp [idx t] <;> have := idx t <;> (try dsimp only) <;> omega

end Cert.Kernel19Ideal.DwInZ
-- ==== Proof.DwInZClaim.lean ====
/-
  THE CLAIM: the gradient of the first matrix, transposed: the rows of the gates. The reference's result is read at an index and is the
  kernel's, for all argument arrays: the factors of each product are exchanged, nothing more.
-/
module

public import proofs.«01_k».proof.Defs
public import proofs.«01_k».proof.Proof.DwInZKernel
public import proofs.«01_k».proof.Proof.Gen.Reference19Ideal.Run
public import proofs.«01_k».proof.Proof.Gen.Reference19Ideal.Read
public import Idealize.ShloMosaic.Adequacy
public import Idealize.ShloMosaic.Init
public import Idealize.ShloMosaic.Lib.Claim

@[expose] public section

set_option maxRecDepth 16384

noncomputable section

namespace Cert.Reference19Ideal.DwInZ

open Cert.Reference19Ideal Cert.Reference19Ideal.Gen Cert.Reference19Ideal.Read Cert.Dw
open Idealize.ShloMosaic Idealize.ShloMosaic.TcCoe

variable (x0 : FVec Ideal ⟨2, ![8192, 2048]⟩ .bf16) (x1 : FVec Ideal ⟨2, ![8192, 1024]⟩ .bf16) (x2 : FVec Ideal ⟨2, ![5632, 1024]⟩ .bf16)

theorem eq_prod (p : Fin 2048) (l : Fin 1024) : val_main_v6 (F := Ideal) x0 x1 (ix2 p l) = prod x0 x1 p l := by
  unfold prod
  pointwise [val_main_v6, val_main_v5, val_main_v4, val_main_v1, val_main_v0]
  exact Finset.sum_congr rfl fun r _ => mul_comm _ _

theorem eq_lo (p : Fin 5632) (l : Fin 1024) (h : p.val < 3584) : val_main_v8 (F := Ideal) x0 x1 x2 (ix2 p l) = x2 (ix2 p l) := by
  pointwise [val_main_v8, val_main_v7]
  exact dif_pos h

theorem eq_mid (p : Fin 5632) (l : Fin 1024) (h : 3584 ≤ p.val) (h' : p.val < 5632) :
    val_main_v8 (F := Ideal) x0 x1 x2 (ix2 p l) = val_main_v6 (F := Ideal) x0 x1 (ix2 ⟨p.val - 3584, by omega⟩ l) := by
  pointwise [val_main_v8, val_main_v7]
  exact dif_neg (by omega)

theorem eq_res (p : Fin 5632) (l : Fin 1024) : val_main_v8 (F := Ideal) x0 x1 x2 (ix2 p l) = Cert.Kernel19Ideal.DwInZ.res x0 x1 x2 p l := by
  unfold Cert.Kernel19Ideal.DwInZ.res
  by_cases h : 3584 ≤ p.val ∧ p.val < 5632
  · rw [dif_pos h, eq_mid x0 x1 x2 p l h.1 h.2, eq_prod]
  · rw [dif_neg h]
    exact eq_lo x0 x1 x2 p l (by omega)

end Cert.Reference19Ideal.DwInZ

namespace Cert.DwInZ

open Idealize.ShloMosaic Idealize.SL.Sem

/-- The reference's frame: its run writes no argument, and it declares no semaphore. -/
theorem frame_reference : Cert.quiescent_Reference19Ideal (hReference19Ideal := Cert.Reference19Ideal.Gen.facts) := fun m ρ _ =>
  (θ_run (Cert.Reference19Ideal.defs (F := Ideal)) _ _).mono
    (fun r h => ⟨fun c => (h c).2, sem_eq_zero_of_no_sems (by decide) r.2⟩)
    (Cert.Reference19Ideal.Value.run (F := Ideal) m ρ)

theorem algebraic : Cert.algebraic_Kernel19Ideal_Reference19Ideal
    (hKernel19Ideal := Cert.Kernel19Ideal.Gen.facts) (hReference19Ideal := Cert.Reference19Ideal.Gen.facts) := by
  pair_intro
  · run_from Cert.Kernel19Ideal.Value.run_blocks m g
  · refine (θ_run (Cert.Reference19Ideal.defs (F := Ideal)) _ _).mono (fun r h c => ?_)
      (Cert.Reference19Ideal.Value.run (F := Ideal) m' g')
    obtain ⟨a0, hf⟩ := h c
    obtain ⟨e0, e1, e2⟩ := hagree c
    refine ⟨a0.trans ?_, hf⟩
    refine (Cert.Reference19Ideal.Read.val_main_v8_eq _ _ _).trans ?_
    rw [e0, e1, e2, Cert.Kernel19Ideal.DwInZ.final2]
    funext i; idx_vars i
    exact Cert.Reference19Ideal.DwInZ.eq_res _ _ _ _ _

end Cert.DwInZ
-- ==== Proof.FNormMath.lean ====
/-
  A norm of the token rows with its gain, the mathematics.
-/
module

public import proofs.«01_k».proof.Proof.Norm

@[expose] public section

noncomputable section

namespace Cert.FNorm

open Idealize.ShloMosaic Cert.Norm

abbrev Tok : Shape := ⟨2, ![8192, 1024]⟩
abbrev Row : Shape := ⟨2, ![1, 1024]⟩

/-- The norm with its gain. -/
def xn (x0 : FVec Ideal Tok .f32) (x1 : FVec Ideal Row .f32) (r : Fin 8192) (l : Fin 1024) : EReal :=
  xh (fun k => x0 (ix2 r k)) l * x1 (ix2 0 l)

end Cert.FNorm
-- ==== Proof.FNormKernel.lean ====
/-
  THE FIRST NORM. Each of eight points normalises 1024 rows. The result array, index by index: the row's element over the
  root of the row's mean square, times the gain.
-/
module

public import proofs.«01_k».proof.Proof.FNormMath
public import proofs.«01_k».proof.Proof.Gen.Kernel9Ideal.Value
public import Idealize.ShloMosaic.Lib.Pipeline.ValueKit
public import Idealize.ShloMosaic.Lib.Pointwise

@[expose] public section

set_option maxRecDepth 16384

noncomputable section

namespace Cert.Kernel9Ideal.FNorm

open Cert.Kernel9Ideal Cert.Kernel9Ideal.Gen Cert.FNorm Cert.Norm
open Idealize.ShloMosaic Idealize.ShloMosaic.TcCoe Idealize.SL.Sem
open Idealize.ShloMosaic.Pipeline (Dat)

theorem pay_xn (v0 : FVec Ideal S1024x1024 .f32) (v11 : FVec Ideal S1x1024 .f32) (r l : Fin 1024) :
    k0_pay1 (F := Ideal) v0 v11 (ix2 r l) = xh (fun k => v0 (ix2 r k)) l * v11 (ix2 0 l) := by
  unfold xh rn ms
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ t.val < 8 :=
  (by decide +kernel : ∀ t : Fin grid0.N, _)

/-- The row of the whole array that row `r` of point `t`'s block is. -/
abbrev row (t : Fin cfg0.N) (r : Fin 1024) : Fin 8192 := ⟨t.val * 1024 + r.val, by have := idx t; omega⟩

theorem i0_apply (c : Dev nD) (t : Fin cfg0.N) (r l : Fin 1024) :
    iblk m c 0 t (ix2 r l) = m (c.tc.loc main_arg0) (ix2 (row t r) l) := by blk_ext [iblk, V, idx t]
theorem i1_apply (c : Dev nD) (t : Fin cfg0.N) (u : Fin 1) (l : Fin 1024) :
    iblk m c 1 t (ix2 u l) = m (c.tc.loc main_arg1) (ix2 u l) := by blk_ext [iblk, V, idx t]

abbrev A (c : Dev nD) (t : Fin cfg0.N) : FVec Ideal S1024x1024 .f32 := iblk m c 0 t
abbrev B (c : Dev nD) (t : Fin cfg0.N) : FVec Ideal S1x1024 .f32 := iblk m c 1 t

theorem out2 (c : Dev nD) (t : Fin cfg0.N) : out0_2 (iblk m c 0 t) (iblk m c 1 t) = k0_pay1 (F := Ideal) (A m c t) (B m c t) := by
  frame_out

theorem out_apply (c : Dev nD) (t : Fin cfg0.N) (r l : Fin 1024) : k0_pay1 (F := Ideal) (A m c t) (B m c t) (ix2 r l)
    = xn (m (c.tc.loc main_arg0)) (m (c.tc.loc main_arg1)) (row t r) l := by
  rw [pay_xn]; unfold xn A B
  rw [i1_apply]
  congr 2
  funext k
  exact i0_apply m c t r k

theorem final2 (c : Dev nD) : (dats m 0 c).arrAt 2 cfg0.N = fun i =>
    xn (m (c.tc.loc main_arg0)) (m (c.tc.loc main_arg1)) (i 0) (i 1) := by
  refine (dats m 0 c).arrAt_eq_of_covers 2 _ (by decide +kernel) fun t _ y => ?_
  idx_vars y
  blk_simp
  rw [after0_2, out2, out_apply]
  refine Eq.trans (b := xn _ _ (row t y0) y1) rfl (congrArg₂ _ (Fin.ext ?_) (Fin.ext ?_)) <;> blk_simp [idx t]

end Cert.Kernel9Ideal.FNorm
-- ==== Proof.FNormClaim.lean ====
/-
  THE CLAIM: the first norm. The reference's result is read at an index and is the kernel's, for all argument arrays.
-/
module

public import proofs.«01_k».proof.Defs
public import proofs.«01_k».proof.Proof.FNormKernel
public import proofs.«01_k».proof.Proof.Gen.Reference9Ideal.Run
public import proofs.«01_k».proof.Proof.Gen.Reference9Ideal.Read
public import Idealize.ShloMosaic.Adequacy
public import Idealize.ShloMosaic.Init
public import Idealize.ShloMosaic.Lib.Claim

@[expose] public section

set_option maxRecDepth 16384

noncomputable section

namespace Cert.Reference9Ideal.FNorm

open Cert.Reference9Ideal Cert.Reference9Ideal.Gen Cert.Reference9Ideal.Read Cert.FNorm Cert.Norm
open Idealize.ShloMosaic Idealize.ShloMosaic.TcCoe

theorem eq_xn (x0 : FVec Ideal Tok .f32) (x1 : FVec Ideal Row .f32) (r : Fin 8192) (l : Fin 1024) :
    val_main_v12 (F := Ideal) x0 x1 (ix2 r l) = xn x0 x1 r l := by
  unfold xn xh rn ms
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

end Cert.Reference9Ideal.FNorm

namespace Cert.FNorm

open Idealize.ShloMosaic Idealize.SL.Sem

/-- The reference's frame: its run writes no argument, and it declares no semaphore. -/
theorem frame_reference : Cert.quiescent_Reference9Ideal (hReference9Ideal := Cert.Reference9Ideal.Gen.facts) := fun m ρ _ =>
  (θ_run (Cert.Reference9Ideal.defs (F := Ideal)) _ _).mono
    (fun r h => ⟨fun c => (h c).2, sem_eq_zero_of_no_sems (by decide) r.2⟩)
    (Cert.Reference9Ideal.Value.run (F := Ideal) m ρ)

theorem algebraic : Cert.algebraic_Kernel9Ideal_Reference9Ideal
    (hKernel9Ideal := Cert.Kernel9Ideal.Gen.facts) (hReference9Ideal := Cert.Reference9Ideal.Gen.facts) := by
  pair_intro
  · run_from Cert.Kernel9Ideal.Value.run_blocks m g
  · refine (θ_run (Cert.Reference9Ideal.defs (F := Ideal)) _ _).mono (fun r h c => ?_)
      (Cert.Reference9Ideal.Value.run (F := Ideal) m' g')
    obtain ⟨a0, hf⟩ := h c
    obtain ⟨e0, e1⟩ := hagree c
    refine ⟨a0.trans ?_, hf⟩
    · refine (Cert.Reference9Ideal.Read.val_main_v12_eq _ _).trans ?_
      rw [e0, e1, Cert.Kernel9Ideal.FNorm.final2]
      funext i; idx_vars i
      exact Cert.Reference9Ideal.FNorm.eq_xn _ _ _ _

end Cert.FNorm
-- ==== Proof.FProjKernel.lean ====
/-
  THE INPUT PROJECTION. The points run over 2 blocks of 4096 tokens and, within each, over 11 blocks of 512 columns. Column
  block `j` of the result is the product with row block `pm j` of the transposed matrix: the version keeps the keys and
  values, block 6 of the matrix, last.
-/
module

public import proofs.«01_k».proof.Proof.Gen.Kernel10Ideal.Value
public import Idealize.ShloMosaic.Lib.Pipeline.ValueKit
public import Idealize.ShloMosaic.Lib.Pointwise

@[expose] public section

set_option maxRecDepth 16384

noncomputable section

namespace Cert.FProj

open Idealize.ShloMosaic

abbrev Tok : Shape := ⟨2, ![8192, 1024]⟩
abbrev Wgt : Shape := ⟨2, ![5632, 1024]⟩

/-- The matrix's column that column `q` of the result is the product with. -/
def src (q : Fin 5632) : Fin 5632 :=
  if h : q.val < 3072 then q else if h' : q.val < 5120 then ⟨q.val + 512, by omega⟩ else ⟨q.val - 2048, by omega⟩

theorem src_val (q : Fin 5632) :
    (src q).val = if q.val < 3072 then q.val else if q.val < 5120 then q.val + 512 else q.val - 2048 := by
  unfold src; split_ifs <;> rfl

def proj (x0 : FVec Ideal Tok .bf16) (x1 : FVec Ideal Wgt .bf16) (r : Fin 8192) (q : Fin 5632) : EReal :=
  ∑ k : Fin 1024, x0 (ix2 r k) * x1 (ix2 (src q) k)

end Cert.FProj

namespace Cert.Kernel10Ideal.FProj

open Cert.Kernel10Ideal Cert.Kernel10Ideal.Gen Cert.FProj
open Idealize.ShloMosaic Idealize.ShloMosaic.TcCoe Idealize.SL.Sem
open Idealize.ShloMosaic.Pipeline (Dat)

theorem pay_proj (v0 : FVec Ideal S4096x1024 .bf16) (v1 : FVec Ideal S512x1024 .bf16) (r : Fin 4096) (s : Fin 512) :
    k0_pay1 (F := Ideal) v0 v1 (ix2 r s) = ∑ k : Fin 1024, v0 (ix2 r k) * v1 (ix2 s k) := by
  pointwise [k0_pay1]

variable (m : (ℓ : Loc nD τ sig) → Buf (Elt Ideal) ℓ)

/-- The row block of the matrix that column block `j` of the result is the product with. -/
abbrev pm (j : ℕ) : ℕ := if j < 6 then j else if j < 10 then j + 1 else 6

theorem idx : ∀ t : Fin cfg0.N, win0_0.index t = ![t.val / 11, 0] ∧ win0_1.index t = ![pm (t.val % 11), 0]
    ∧ win0_2.index t = ![t.val / 11, t.val % 11] ∧ t.val < 22 :=
  (by decide +kernel : ∀ t : Fin grid0.N, _)

theorem pm_lt (j : ℕ) (h : j < 11) : pm j < 11 := by unfold pm; split_ifs <;> omega

/-- The row of the whole array that row `r` of point `t`'s block is, the column that column `s` is, and the row of the
    matrix. -/
abbrev row (t : Fin cfg0.N) (r : Fin 4096) : Fin 8192 := ⟨t.val / 11 * 4096 + r.val, by have := idx t; omega⟩
abbrev col (t : Fin cfg0.N) (s : Fin 512) : Fin 5632 := ⟨t.val % 11 * 512 + s.val, by omega⟩
abbrev wrow (t : Fin cfg0.N) (s : Fin 512) : Fin 5632 :=
  ⟨pm (t.val % 11) * 512 + s.val, by have := pm_lt (t.val % 11) (Nat.mod_lt _ (by decide)); omega⟩

theorem src_col (t : Fin cfg0.N) (s : Fin 512) : src (col t s) = wrow t s := by
  have hs := s.isLt
  apply Fin.ext
  rw [src_val]
  show (if t.val % 11 * 512 + s.val < 3072 then t.val % 11 * 512 + s.val else if t.val % 11 * 512 + s.val < 5120 then
    t.val % 11 * 512 + s.val + 512 else t.val % 11 * 512 + s.val - 2048) = pm (t.val % 11) * 512 + s.val
  unfold pm
  split_ifs <;> omega

theorem i0_apply (c : Dev nD) (t : Fin cfg0.N) (r : Fin 4096) (k : Fin 1024) :
    iblk m c 0 t (ix2 r k) = m (c.tc.loc main_arg0) (ix2 (row t r) k) := by blk_ext [iblk, V, idx t]
theorem i1_apply (c : Dev nD) (t : Fin cfg0.N) (s : Fin 512) (k : Fin 1024) :
    iblk m c 1 t (ix2 s k) = m (c.tc.loc main_arg1) (ix2 (wrow t s) k) := by blk_ext [iblk, V, idx t]

abbrev A (c : Dev nD) (t : Fin cfg0.N) : FVec Ideal S4096x1024 .bf16 := iblk m c 0 t
abbrev B (c : Dev nD) (t : Fin cfg0.N) : FVec Ideal S512x1024 .bf16 := iblk m c 1 t

theorem out2 (c : Dev nD) (t : Fin cfg0.N) : out0_2 (iblk m c 0 t) (iblk m c 1 t) = k0_pay1 (F := Ideal) (A m c t) (B m c t) := by
  frame_out

theorem out_apply (c : Dev nD) (t : Fin cfg0.N) (r : Fin 4096) (s : Fin 512) : k0_pay1 (F := Ideal) (A m c t) (B m c t) (ix2 r s)
    = proj (m (c.tc.loc main_arg0)) (m (c.tc.loc main_arg1)) (row t r) (col t s) := by
  rw [pay_proj]; unfold proj A B
  rw [src_col]
  exact Finset.sum_congr rfl fun k _ => by rw [i0_apply, i1_apply]

theorem final2 (c : Dev nD) : (dats m 0 c).arrAt 2 cfg0.N = fun i =>
    proj (m (c.tc.loc main_arg0)) (m (c.tc.loc main_arg1)) (i 0) (i 1) := by
  refine (dats m 0 c).arrAt_eq_of_covers 2 _ (by decide +kernel) fun t _ y => ?_
  idx_vars y
  blk_simp
  rw [after0_2, out2, out_apply]
  refine Eq.trans (b := proj _ _ (row t y0) (col t y1)) rfl (congrArg₂ _ (Fin.ext ?_) (Fin.ext ?_)) <;> blk_simp [idx t]

end Cert.Kernel10Ideal.FProj
-- ==== Proof.FProjClaim.lean ====
/-
  THE CLAIM: the input projection. The reference's result is read at an index and is the kernel's, for all argument arrays.
-/
module

public import proofs.«01_k».proof.Defs
public import proofs.«01_k».proof.Proof.FProjKernel
public import proofs.«01_k».proof.Proof.Gen.Reference10Ideal.Run
public import proofs.«01_k».proof.Proof.Gen.Reference10Ideal.Read
public import Idealize.ShloMosaic.Adequacy
public import Idealize.ShloMosaic.Init
public import Idealize.ShloMosaic.Lib.Claim

@[expose] public section

set_option maxRecDepth 16384

noncomputable section

namespace Cert.Reference10Ideal.FProj

open Cert.Reference10Ideal Cert.Reference10Ideal.Gen Cert.Reference10Ideal.Read Cert.FProj
open Idealize.ShloMosaic Idealize.ShloMosaic.TcCoe

variable (x0 : FVec Ideal Tok .bf16) (x1 : FVec Ideal Wgt .bf16) (r : Fin 8192)

/-- The projection before its columns are put in the version's order. -/
theorem v3 (q : Fin 5632) : val_main_v3 (F := Ideal) x0 x1 (ix2 r q) = ∑ k : Fin 1024, x0 (ix2 r k) * x1 (ix2 q k) := by
  pointwise [val_main_v3, val_main_v2, val_main_v1, val_main_v0]

theorem v8 (q : Fin 5632) : val_main_v8 (F := Ideal) x0 x1 (ix2 r q) = val_main_v3 (F := Ideal) x0 x1 (ix2 r (src q)) := by
  have hs := src_val q
  have hq := q.isLt
  generalize src q = s at hs ⊢
  pointwise [val_main_v8, val_main_v7, val_main_v6, val_main_v5, val_main_v4]
  by_cases h1 : q.val < 3072
  · rw [dif_pos h1]
    rw [if_pos h1] at hs
    exact congrArg (fun k => val_main_v3 (F := Ideal) x0 x1 (ix2 r k)) (Fin.ext hs.symm)
  · rw [dif_neg h1]
    rw [if_neg h1] at hs
    by_cases h2 : q.val < 5120
    · rw [dif_pos (by omega)]
      rw [if_pos h2] at hs
      exact congrArg (fun k => val_main_v3 (F := Ideal) x0 x1 (ix2 r k)) (Fin.ext (by dsimp only; omega))
    · rw [dif_neg (by omega)]
      rw [if_neg h2] at hs
      exact congrArg (fun k => val_main_v3 (F := Ideal) x0 x1 (ix2 r k)) (Fin.ext (by dsimp only; omega))

theorem eq_proj (q : Fin 5632) : val_main_v8 (F := Ideal) x0 x1 (ix2 r q) = proj x0 x1 r q := by
  rw [v8, v3]; rfl

end Cert.Reference10Ideal.FProj

namespace Cert.FProj

open Idealize.ShloMosaic Idealize.SL.Sem

/-- The reference's frame: its run writes no argument, and it declares no semaphore. -/
theorem frame_reference : Cert.quiescent_Reference10Ideal (hReference10Ideal := Cert.Reference10Ideal.Gen.facts) := fun m ρ _ =>
  (θ_run (Cert.Reference10Ideal.defs (F := Ideal)) _ _).mono
    (fun r h => ⟨fun c => (h c).2, sem_eq_zero_of_no_sems (by decide) r.2⟩)
    (Cert.Reference10Ideal.Value.run (F := Ideal) m ρ)

theorem algebraic : Cert.algebraic_Kernel10Ideal_Reference10Ideal
    (hKernel10Ideal := Cert.Kernel10Ideal.Gen.facts) (hReference10Ideal := Cert.Reference10Ideal.Gen.facts) := by
  pair_intro
  · run_from Cert.Kernel10Ideal.Value.run_blocks m g
  · refine (θ_run (Cert.Reference10Ideal.defs (F := Ideal)) _ _).mono (fun r h c => ?_)
      (Cert.Reference10Ideal.Value.run (F := Ideal) m' g')
    obtain ⟨a0, hf⟩ := h c
    obtain ⟨e0, e1⟩ := hagree c
    refine ⟨a0.trans ?_, hf⟩
    · refine (Cert.Reference10Ideal.Read.val_main_v8_eq _ _).trans ?_
      rw [e0, e1, Cert.Kernel10Ideal.FProj.final2]
      funext i; idx_vars i
      exact Cert.Reference10Ideal.FProj.eq_proj _ _ _ _

end Cert.FProj
-- ==== Proof.FMergeMath.lean ====
/-
  THE GATED MERGE, its projection and the residual, as functions of the argument arrays. `x0` is the residual stream, `x1` and
  `x2` the recurrence's two directions, `x3` the input projection (GELU's argument in columns 1024 to 2047, the gates' in
  columns 3072 to 5119), `x4` the second mixer's output, `x5` the gates' bias, `x6` the projection matrix. The logistic
  function by the hyperbolic tangent, as the kernel has it, is the one by the exponential, at the infinities too.
-/
module

public import proofs.«01_k».proof.Proof.Reals
public import proofs.«01_k».proof.Proof.Gen.Kernel12Ideal

@[expose] public section

noncomputable section

namespace Cert.FMerge

open Idealize.ShloMosaic Cert.Reals

/-- The two ways to evaluate the logistic function are one, everywhere. -/
theorem lgs_eq_sgm (x : EReal) : lgs x = sgm x := by
  induction x with
  | coe x => rw [lgs_coe, sgm_coe]
  | top =>
    have hh : half = ((1 / 2 : ℝ) : EReal) := ofBits_half_bf16
    have e0 : Ideal.exp (-(⊤ : EReal)) = 0 := rfl
    have t1 : Ideal.tanh (⊤ : EReal) = 1 := rfl
    unfold lgs sgm
    rw [e0, hh, EReal.coe_mul_top_of_pos (by norm_num), t1, add_zero, mul_one, one_coe, div_coe 1 one_ne_zero,
      ← EReal.coe_add]
    norm_num
  | bot =>
    have hh : half = ((1 / 2 : ℝ) : EReal) := ofBits_half_bf16
    have e0 : Ideal.exp (-(⊥ : EReal)) = ⊤ := rfl
    have t1 : Ideal.tanh (⊥ : EReal) = -1 := rfl
    have d1 : Ideal.div 1 (⊤ : EReal) = 0 := by simp [Ideal.div]
    unfold lgs sgm
    rw [e0, hh, EReal.coe_mul_bot_of_pos (by norm_num), t1, one_coe, EReal.coe_add_top, ← one_coe, d1, one_coe,
      ← EReal.coe_neg, ← EReal.coe_mul, ← EReal.coe_add]
    norm_num

/-- The named constants of the kernel's GELU, and the real numbers their float32 words are. -/
abbrev cC : EReal := Named.named (F := Ideal) Cert.Kernel12Ideal.κ "gelu_c" (φ := .bf16) 0x3F4C#16
abbrev cA : EReal := Named.named (F := Ideal) Cert.Kernel12Ideal.κ "gelu_a" (φ := .bf16) 0x3D37#16
def rA : ℝ := 12003091 / 268435456
def rC : ℝ := 6693141 / 8388608

theorem cC_eq : cC = ((rC : ℝ) : EReal) := rfl
theorem cA_eq : cA = ((rA : ℝ) : EReal) := rfl

theorem ofBits_rC : Ideal.ofBits .f32 0x3F4C422A#32 = ((rC : ℝ) : EReal) := by
  unfold rC; simp [Ideal.ofBits, Ideal.ieee, -EReal.coe_mul]; norm_num

theorem ofBits_rA : Ideal.ofBits .f32 0x3D372713#32 = ((rA : ℝ) : EReal) := by
  unfold rA; simp [Ideal.ofBits, Ideal.ieee, -EReal.coe_mul]; norm_num

/-- The hyperbolic tangent inside GELU, and GELU. -/
def th (g : EReal) : EReal := Ideal.tanh (cC * (g + cA * (g * g * g)))
def gelu (g : EReal) : EReal := half * g * (1 + th g)

abbrev Tok : Shape := ⟨2, ![8192, 1024]⟩
abbrev Mat : Shape := ⟨2, ![1024, 1024]⟩
abbrev Prj : Shape := ⟨2, ![8192, 5632]⟩
abbrev Bia : Shape := ⟨2, ![1, 2048]⟩

variable (x0 : FVec Ideal Tok .f32) (x1 x2 : FVec Ideal Tok .bf16) (x3 : FVec Ideal Prj .bf16) (x4 : FVec Ideal Tok .bf16)
  (x5 : FVec Ideal Bia .f32) (x6 : FVec Ideal Mat .bf16) (r : Fin 8192) (l : Fin 1024)

abbrev gArg : EReal := x3 (ix2 r ⟨1024 + l.val, by omega⟩)
abbrev zA : EReal := x3 (ix2 r ⟨3072 + l.val, by omega⟩) + x5 (ix2 0 ⟨l.val, by omega⟩)
abbrev zB : EReal := x3 (ix2 r ⟨4096 + l.val, by omega⟩) + x5 (ix2 0 ⟨1024 + l.val, by omega⟩)

/-- The merged mixers. -/
def merged : EReal := sgm (zA x3 x5 r l) * ((x1 (ix2 r l) + x2 (ix2 r l)) * gelu (gArg x3 r l)) + sgm (zB x3 x5 r l) * x4 (ix2 r l)

/-- The residual stream after them. -/
def out : EReal := x0 (ix2 r l) + ∑ k : Fin 1024, merged x1 x2 x3 x4 x5 r k * x6 (ix2 k l)

end Cert.FMerge
-- ==== Proof.FMergeKernel.lean ====
/-
  WHAT THE KERNEL'S RESULTS HOLD. The gated merge runs over eight points; point `t` reads rows `1024 t … 1024 t + 1023` of the
  token arrays and writes the same rows of both results.
-/
module

public import proofs.«01_k».proof.Proof.FMergeMath
public import proofs.«01_k».proof.Proof.Gen.Kernel12Ideal.Value
public import Idealize.ShloMosaic.Lib.Pipeline.ValueKit
public import Idealize.ShloMosaic.Lib.Pointwise

@[expose] public section

set_option maxRecDepth 16384

noncomputable section

namespace Cert.Kernel12Ideal.FMerge

open Cert.Kernel12Ideal Cert.Kernel12Ideal.Gen Cert.FMerge Cert.Reals
open Idealize.ShloMosaic Idealize.ShloMosaic.TcCoe Idealize.SL.Sem
open Idealize.ShloMosaic.Pipeline (Dat)

/-! ### The body's arithmetic at one index of a block -/

section Body
variable (v0 v1 v2 v3 v4 v5 s s' : FVec Ideal S1024x1024 .bf16) (v6 : FVec Ideal S1x2048 .f32) (r l : Fin 1024)

theorem pay_sigA : k0_pay3 (F := Ideal) v4 v6 (ix2 r l) = sgm (v4 (ix2 r l) + v6 (ix2 0 ⟨l.val, by omega⟩)) := by
  unfold sgm
  pointwise [k0_pay3]

theorem pay_sigB : k0_pay4 (F := Ideal) v5 v6 (ix2 r l) = sgm (v5 (ix2 r l) + v6 (ix2 0 ⟨1024 + l.val, by omega⟩)) := by
  unfold sgm
  pointwise [k0_pay4]

theorem pay_merged : k0_pay1 (F := Ideal) v0 v1 v2 v3 s s' (k0_pay5 v3) (ix2 r l)
    = s (ix2 r l) * ((v1 (ix2 r l) + v2 (ix2 r l)) * gelu (v3 (ix2 r l))) + s' (ix2 r l) * v0 (ix2 r l) := by
  unfold gelu th
  pointwise [k0_pay1, k0_pay5]

theorem pay_out (t : FVec Ideal S1024x1024 .bf16) (x : FVec Ideal S1024x1024 .f32) (w : FVec Ideal S1024x1024 .bf16) :
    k0_pay2 (F := Ideal) v0 v1 v2 v3 s s' t x w (ix2 r l)
    = x (ix2 r l) + ∑ k : Fin 1024, k0_pay1 (F := Ideal) v0 v1 v2 v3 s s' t (ix2 r k) * w (ix2 k l) := by
  pointwise [k0_pay2]

end Body

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 1] ∧ win0_4.index t = ![t.val, 3] ∧ win0_5.index t = ![t.val, 4] ∧ win0_6.index t = ![t.val, 0]
    ∧ win0_7.index t = ![0, 0] ∧ win0_8.index t = ![0, 0] ∧ win0_9.index t = ![t.val, 0] ∧ win0_10.index t = ![t.val, 0]
    ∧ t.val < 8 :=
  (by decide +kernel : ∀ t : Fin grid0.N, _)

/-! ### The argument blocks at an index -/

/-- The row of the whole array that row `r` of point `t`'s block is. -/
abbrev row (t : Fin cfg0.N) (r : Fin 1024) : Fin 8192 := ⟨t.val * 1024 + r.val, by have := idx t; omega⟩

theorem x3_apply (c : Dev nD) (t : Fin cfg0.N) (r l : Fin 1024) :
    X0_3 m c t (ix2 r l) = m (c.tc.loc main_arg3) (ix2 (row t r) ⟨1024 + l.val, by omega⟩) := by
  unfold X0_3 Pipeline.Window.fill
  rw [dif_pos (moved0_3 t _)]
  blk_ext [iblk, V, idx t]
theorem x4_apply (c : Dev nD) (t : Fin cfg0.N) (r l : Fin 1024) :
    X0_4 m c t (ix2 r l) = m (c.tc.loc main_arg3) (ix2 (row t r) ⟨3072 + l.val, by omega⟩) := by
  unfold X0_4 Pipeline.Window.fill
  rw [dif_pos (moved0_4 t _)]
  blk_ext [iblk, V, idx t]
theorem x5_apply (c : Dev nD) (t : Fin cfg0.N) (r l : Fin 1024) :
    X0_5 m c t (ix2 r l) = m (c.tc.loc main_arg3) (ix2 (row t r) ⟨4096 + l.val, by omega⟩) := by
  unfold X0_5 Pipeline.Window.fill
  rw [dif_pos (moved0_5 t _)]
  blk_ext [iblk, V, idx t]
theorem i0_apply (c : Dev nD) (t : Fin cfg0.N) (r l : Fin 1024) :
    iblk m c 0 t (ix2 r l) = m (c.tc.loc main_arg0) (ix2 (row t r) l) := by blk_ext [iblk, V, idx t]
theorem i1_apply (c : Dev nD) (t : Fin cfg0.N) (r l : Fin 1024) :
    iblk m c 1 t (ix2 r l) = m (c.tc.loc main_arg1) (ix2 (row t r) l) := by blk_ext [iblk, V, idx t]
theorem i2_apply (c : Dev nD) (t : Fin cfg0.N) (r l : Fin 1024) :
    iblk m c 2 t (ix2 r l) = m (c.tc.loc main_arg2) (ix2 (row t r) l) := by blk_ext [iblk, V, idx t]
theorem i6_apply (c : Dev nD) (t : Fin cfg0.N) (r l : Fin 1024) :
    iblk m c 6 t (ix2 r l) = m (c.tc.loc main_arg4) (ix2 (row t r) l) := by blk_ext [iblk, V, idx t]
theorem i7_apply (c : Dev nD) (t : Fin cfg0.N) (u : Fin 1) (q : Fin 2048) :
    iblk m c 7 t (ix2 u q) = m (c.tc.loc main_arg5) (ix2 u q) := by blk_ext [iblk, V, idx t]
theorem i8_apply (c : Dev nD) (t : Fin cfg0.N) (r l : Fin 1024) :
    iblk m c 8 t (ix2 r l) = m (c.tc.loc main_arg6) (ix2 r l) := by blk_ext [iblk, V, idx t]

/-! ### What one point leaves in each result's block -/

abbrev SA (c : Dev nD) (t : Fin cfg0.N) : FVec Ideal S1024x1024 .bf16 := k0_pay3 (X0_4 m c t) (iblk m c 7 t)
abbrev SB (c : Dev nD) (t : Fin cfg0.N) : FVec Ideal S1024x1024 .bf16 := k0_pay4 (X0_5 m c t) (iblk m c 7 t)
abbrev MG (c : Dev nD) (t : Fin cfg0.N) : FVec Ideal S1024x1024 .bf16 :=
  k0_pay1 (iblk m c 6 t) (iblk m c 1 t) (iblk m c 2 t) (X0_3 m c t) (SA m c t) (SB m c t) (k0_pay5 (X0_3 m c t))

theorem out9 (c : Dev nD) (t : Fin cfg0.N) : (outsAt0 m c t).1 = MG m c t := by
  unfold outsAt0; frame_out

theorem out10 (c : Dev nD) (t : Fin cfg0.N) : (outsAt0 m c t).2
    = k0_pay2 (iblk m c 6 t) (iblk m c 1 t) (iblk m c 2 t) (X0_3 m c t) (SA m c t) (SB m c t) (k0_pay5 (X0_3 m c t))
      (iblk m c 0 t) (iblk m c 8 t) := by
  unfold outsAt0; frame_out

section Blocks
variable (c : Dev nD) (t : Fin cfg0.N) (r l : Fin 1024)

theorem SA_apply : SA m c t (ix2 r l) = sgm (zA (m (c.tc.loc main_arg3)) (m (c.tc.loc main_arg5)) (row t r) l) := by
  unfold SA
  rw [pay_sigA, x4_apply, i7_apply]

theorem SB_apply : SB m c t (ix2 r l) = sgm (zB (m (c.tc.loc main_arg3)) (m (c.tc.loc main_arg5)) (row t r) l) := by
  unfold SB
  rw [pay_sigB, x5_apply, i7_apply]

theorem MG_apply : MG m c t (ix2 r l) = merged (m (c.tc.loc main_arg1)) (m (c.tc.loc main_arg2)) (m (c.tc.loc main_arg3))
    (m (c.tc.loc main_arg4)) (m (c.tc.loc main_arg5)) (row t r) l := by
  unfold MG
  rw [pay_merged]; unfold merged
  rw [SA_apply, SB_apply, x3_apply, i1_apply, i2_apply, i6_apply]

end Blocks

/-! ### The result arrays -/

theorem final9 (c : Dev nD) : (dats m 0 c).arrAt 9 cfg0.N = fun i =>
    merged (m (c.tc.loc main_arg1)) (m (c.tc.loc main_arg2)) (m (c.tc.loc main_arg3)) (m (c.tc.loc main_arg4))
      (m (c.tc.loc main_arg5)) (i 0) (i 1) := by
  refine (dats m 0 c).arrAt_eq_of_covers 9 _ (by decide +kernel) fun t _ y => ?_
  idx_vars y
  blk_simp
  rw [after0_9, out9, MG_apply]
  refine Eq.trans (b := merged _ _ _ _ _ (row t y0) y1) rfl (congrArg₂ _ (Fin.ext ?_) (Fin.ext ?_)) <;> blk_simp [idx t]

theorem final10 (c : Dev nD) : (dats m 0 c).arrAt 10 cfg0.N = fun i =>
    out (m (c.tc.loc main_arg0)) (m (c.tc.loc main_arg1)) (m (c.tc.loc main_arg2)) (m (c.tc.loc main_arg3))
      (m (c.tc.loc main_arg4)) (m (c.tc.loc main_arg5)) (m (c.tc.loc main_arg6)) (i 0) (i 1) := by
  refine (dats m 0 c).arrAt_eq_of_covers 10 _ (by decide +kernel) fun t _ y => ?_
  idx_vars y
  blk_simp
  rw [after0_10, out10, pay_out, i0_apply]
  refine Eq.trans (b := out _ _ _ _ _ _ _ (row t y0) y1) ?_ (congrArg₂ _ (Fin.ext ?_) (Fin.ext ?_))
  · unfold out
    congr 1
    exact Finset.sum_congr rfl fun k _ => congrArg₂ (· * ·) (MG_apply m c t y0 k) (i8_apply m c t k y1)
  all_goals blk_simp [idx t]

end Cert.Kernel12Ideal.FMerge
-- ==== Proof.FMergeClaim.lean ====
/-
  THE CLAIM: the gated merge, its projection and the residual. The reference's two results are read at an index and are the
  kernel's, for all argument arrays.
-/
module

public import proofs.«01_k».proof.Defs
public import proofs.«01_k».proof.Proof.FMergeKernel
public import proofs.«01_k».proof.Proof.Gen.Reference12Ideal.Run
public import proofs.«01_k».proof.Proof.Gen.Reference12Ideal.Read
public import Idealize.ShloMosaic.Adequacy
public import Idealize.ShloMosaic.Init
public import Idealize.ShloMosaic.Lib.Claim

@[expose] public section

set_option maxRecDepth 16384

noncomputable section

namespace Cert.Reference12Ideal.FMerge

open Cert.Reference12Ideal Cert.Reference12Ideal.Gen Cert.Reference12Ideal.Read Cert.FMerge Cert.Reals
open Idealize.ShloMosaic Idealize.ShloMosaic.TcCoe

variable (x0 : FVec Ideal Tok .f32) (x1 x2 : FVec Ideal Tok .bf16) (x3 : FVec Ideal Prj .bf16) (x4 : FVec Ideal Tok .bf16)
  (x5 : FVec Ideal Bia .f32) (x6 : FVec Ideal Mat .bf16) (r : Fin 8192) (l : Fin 1024)

/-- Both gates' argument, side by side. -/
abbrev zz (q : Fin 2048) : EReal := x3 (ix2 r ⟨3072 + q.val, by omega⟩) + x5 (ix2 0 q)

theorem v29 (q : Fin 2048) : val_main_v29 (F := Ideal) x3 x5 (ix2 r q) = lgs (zz x3 x5 r q) := by
  unfold lgs
  pointwise [val_main_v29, val_main_v28, val_main_v27, val_main_v26, val_main_v25, val_main_v24, val_main_v23, val_main_v22,
    val_main_v21, val_main_v2, val_main_cst_3, val_main_cst_4]

theorem v32 : val_main_v32 (F := Ideal) x3 x5 (ix2 r l) = sgm (zA x3 x5 r l) := by
  rw [show zA x3 x5 r l = zz x3 x5 r ⟨l.val, by omega⟩ from rfl, ← lgs_eq_sgm, ← v29]
  pointwise [val_main_v32, val_main_v31, val_main_v30]

theorem v35 : val_main_v35 (F := Ideal) x3 x5 (ix2 r l) = sgm (zB x3 x5 r l) := by
  rw [show zB x3 x5 r l = zz x3 x5 r ⟨1024 + l.val, by omega⟩ by
    unfold zB zz; congr 3; exact Fin.ext (by show 4096 + l.val = 3072 + (1024 + l.val); omega), ← lgs_eq_sgm, ← v29]
  pointwise [val_main_v35, val_main_v34, val_main_v30]

theorem v6 : val_main_v6 (F := Ideal) x3 (ix2 r l) = gArg x3 r l := by
  pointwise [val_main_v6, val_main_v2]

theorem v14 : val_main_v14 (F := Ideal) x3 (ix2 r l) = th (gArg x3 r l) := by
  unfold th
  rw [cC_eq, cA_eq, ← ofBits_rC, ← ofBits_rA, ← v6]
  pointwise [val_main_v14, val_main_v13, val_main_v12, val_main_v11, val_main_v10, val_main_v9, val_main_v8, val_main_v7,
    val_main_cst, val_main_cst_0]

theorem v19 : val_main_v19 (F := Ideal) x3 (ix2 r l) = gelu (gArg x3 r l) := by
  have e : val_main_v19 (F := Ideal) x3 (ix2 r l)
      = gArg x3 r l * (Ideal.ofBits .f32 0x3F000000#32 * (1 + th (gArg x3 r l))) := by
    rw [← v14, ← v6]
    pointwise [val_main_v19, val_main_v18, val_main_v17, val_main_v16, val_main_v15, val_main_cst_1, val_main_cst_2]
  rw [e, ofBits_half_f32, ← ofBits_half_bf16]
  unfold gelu half
  rw [mul_left_comm, ← mul_assoc]

theorem v37 : val_main_v37 (F := Ideal) x1 x2 x3 x4 x5 (ix2 r l) = merged x1 x2 x3 x4 x5 r l := by
  unfold merged
  rw [← v32, ← v35, ← v19]
  pointwise [val_main_v37, val_main_v36, val_main_v33, val_main_v20, val_main_v5, val_main_v3, val_main_v1, val_main_v0]

theorem eq_merged : val_main_v38 (F := Ideal) x1 x2 x3 x4 x5 (ix2 r l) = merged x1 x2 x3 x4 x5 r l := by
  rw [← v37]
  pointwise [val_main_v38]

theorem eq_out : val_main_v40 (F := Ideal) x0 x1 x2 x3 x4 x5 x6 (ix2 r l) = out x0 x1 x2 x3 x4 x5 x6 r l := by
  unfold out
  simp only [← v37]
  pointwise [val_main_v40, val_main_v39, val_main_v4]

end Cert.Reference12Ideal.FMerge

namespace Cert.FMerge

open Idealize.ShloMosaic Idealize.SL.Sem

/-- The reference's frame: its run writes no argument, and it declares no semaphore. -/
theorem frame_reference : Cert.quiescent_Reference12Ideal (hReference12Ideal := Cert.Reference12Ideal.Gen.facts) := fun m ρ _ =>
  (θ_run (Cert.Reference12Ideal.defs (F := Ideal)) _ _).mono
    (fun r h => ⟨fun c => (h c).2.2, sem_eq_zero_of_no_sems (by decide) r.2⟩)
    (Cert.Reference12Ideal.Value.run (F := Ideal) m ρ)

theorem algebraic : Cert.algebraic_Kernel12Ideal_Reference12Ideal
    (hKernel12Ideal := Cert.Kernel12Ideal.Gen.facts) (hReference12Ideal := Cert.Reference12Ideal.Gen.facts) := by
  pair_intro
  · run_from Cert.Kernel12Ideal.Value.run_blocks m g
  · refine (θ_run (Cert.Reference12Ideal.defs (F := Ideal)) _ _).mono (fun r h c => ?_)
      (Cert.Reference12Ideal.Value.run (F := Ideal) m' g')
    obtain ⟨a0, a1, hf⟩ := h c
    obtain ⟨e0, e1, e2, e3, e4, e5, e6⟩ := hagree c
    refine ⟨a0.trans ?_, a1.trans ?_, hf⟩
    · refine (Cert.Reference12Ideal.Read.val_main_v38_eq _ _ _ _ _).trans ?_
      rw [e1, e2, e3, e4, e5, Cert.Kernel12Ideal.FMerge.final9]
      funext i; idx_vars i
      exact Cert.Reference12Ideal.FMerge.eq_merged _ _ _ _ _ _ _
    · rw [Cert.Reference12Ideal.Read.val_main_v40_eq, e0, e1, e2, e3, e4, e5, e6, Cert.Kernel12Ideal.FMerge.final10]
      funext i; idx_vars i
      exact Cert.Reference12Ideal.FMerge.eq_out _ _ _ _ _ _ _ _ _

end Cert.FMerge
-- ==== Proof.FFfnInFrame.lean ====
/-
  THE CHANNEL MIXER'S NORM AND FIRST PRODUCT: THE RUN. The points run over eight blocks of 1024 tokens and, within each, over
  the two halves of the product's columns. The first half's point normalises the block into the first result's buffer; both
  halves' points multiply what that buffer holds. The buffer is written back after the second half's point, which stores nothing
  into it, so what it holds is followed across the two points.
-/
module

public import proofs.«01_k».proof.Proof.Gen.Kernel11Ideal.Frame
public import proofs.«01_k».proof.Proof.Gen.Kernel11Ideal.Skeleton
public import Idealize.ShloMosaic.Lib.Claim
public import Idealize.ShloMosaic.Lib.Pipeline.ValueKit
public import Idealize.ShloMosaic.Lib.Pipeline.ReadBack
public import Idealize.ShloMosaic.Lib.Pointwise
public import Idealize.ShloMosaic.Lib.VecWindow

@[expose] public section

set_option maxRecDepth 16384

noncomputable section

namespace Cert.Kernel11Ideal.FFfnIn

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## The condition of the norm -/

abbrev first (i : grid0.Coords) : Prop := k0_cond1 i = 1#1

theorem first_iff : ∀ t : Fin cfg0.N, first (grid0.coords t) ↔ t.val % 2 = 0 :=
  (fun t => by
    have ht : t.val < 16 := Nat.lt_of_lt_of_eq t.isLt N_0
    have e0 : (grid0.coords t 0).val = t.val / 2 % 8 := Pipeline.Grid.coords_val t 0 (by decide) rfl
    have e1 : (grid0.coords t 1).val = t.val / 1 % 2 := Pipeline.Grid.coords_val t 1 (by decide) rfl
    simp only [first, k0_cond1, e0, e1]
    word_cmp
   : ∀ t : Fin grid0.N, first (grid0.coords t) ↔ t.val % 2 = 0)

/-! ## The body's triple, point by point -/

section Body
variable (c : Dev nD) (i : grid0.Coords) (arg2 : Memref sig .tc .vmem S1024x1024 .f32) (harg2 : arg2.IsWhole)
  (arg3 : Memref sig .tc .vmem S1x1024 .f32) (harg3 : arg3.IsWhole) (arg4 : Memref sig .tc .vmem S2816x1024 .bf16)
  (harg4 : arg4.IsWhole) (arg5 : Memref sig .tc .vmem S1024x1024 .bf16) (harg5 : arg5.IsWhole)
  (arg6 : Memref sig .tc .vmem S1024x2816 .bf16) (harg6 : arg6.IsWhole)
  (x0 : Vec F S1024x1024 .f32) (x1 : Vec F S1x1024 .f32) (x2 : Vec F S2816x1024 .bf16) (x3 : Vec F S1024x1024 .bf16)

set_option maxHeartbeats 1000000 in
/-- At a first half's point the buffers end at the norm and at its product. -/
theorem run_first (hc : first i) (E : Set ℕ) (K : PUnit → sProp (MT nD τ sig Unit (Elt F) ℕ (UR sig nD τ) ℕ)) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (k0_pay1 x0 x1)
            ∗ owns (c : Thread nD τ) arg6 fullShare (k0_pay2 (k0_pay1 x0 x1) x2)) -∗ K ⟨⟩))
      ⊢ wp frame (wpE (defs₀ (F := F)) Variants.none c none) E
        (cc0_norm_ffn_in i arg2 harg2 arg3 harg3 arg4 harg4 arg5 harg5 arg6 harg6) K := by
  simp only [cc0_norm_ffn_in_eq_skeleton]; unfold cc0_norm_ffn_in_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro
    sl_unfold_words
    simp (disch := decide) only [View.readAt_eq_ld, View.ld_unit_lit, View.readCov_unit_lit]
    exact View.read_writes_full _ _ _ _ _
  iexists _; isplitr; swap; · iexact H4
  ipureintro
  sl_unfold_words
  simp (disch := decide) only [View.readAt_eq_ld, View.ld_unit_lit, View.readCov_unit_lit]
  exact View.read_writes_full _ _ _ _ _

set_option maxHeartbeats 1000000 in
/-- At a second half's point the norm's buffer is only read. -/
theorem run_second (hc : ¬first i) (E : Set ℕ) (K : PUnit → sProp (MT nD τ sig Unit (Elt F) ℕ (UR sig nD τ) ℕ)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x3 x2)) -∗ K ⟨⟩))
      ⊢ wp frame (wpE (defs₀ (F := F)) Variants.none c none) E
        (cc0_norm_ffn_in i arg2 harg2 arg3 harg3 arg4 harg4 arg5 harg5 arg6 harg6) K := by
  simp only [cc0_norm_ffn_in_eq_skeleton]; unfold cc0_norm_ffn_in_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec (disch := first | sl_exact hc)
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  iexists _; isplitr; swap; · iexact H4
  ipureintro
  sl_unfold_words
  simp (disch := decide) only [View.readAt_eq_ld, View.ld_unit_lit, View.readCov_unit_lit]
  exact View.read_writes_full _ _ _ _ _

end Body

/-! ## The pipeline's proof data -/

/-- After the body at point `t` each input's buffer is at its block, the first result's at the norm of the block and the
    second's at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (iblk m c 1 t)
    | ⟨4, _⟩ => k0_pay2 (k0_pay1 (iblk m c 0 t) (iblk m c 1 t)) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay1 (iblk m c 0 t) (iblk m c 1 t) := by
  dsimp only [dats]
theorem after0_4 (c : Dev nD) (t : Fin cfg0.N) :
    (dats m 0 c).after 4 t = k0_pay2 (k0_pay1 (iblk m c 0 t) (iblk m c 1 t)) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idx : ∀ t : Fin cfg0.N, win0_0.index t = ![t.val / 2, 0] ∧ win0_1.index t = ![0, 0] ∧ win0_2.index t = ![t.val % 2, 0]
    ∧ win0_3.index t = ![t.val / 2, 0] ∧ win0_4.index t = ![t.val / 2, t.val % 2] ∧ t.val < 16 :=
  (by decide +kernel : ∀ t : Fin grid0.N, _)

/-- The row of the whole array that row `r` of point `t`'s block is. -/
abbrev row (t : Fin cfg0.N) (r : Fin 1024) : Fin 8192 := ⟨t.val / 2 * 1024 + r.val, by have := idx t; omega⟩
abbrev col (t : Fin cfg0.N) (s : Fin 2816) : Fin 5632 := ⟨t.val % 2 * 2816 + s.val, by omega⟩

theorem i0_apply (c : Dev nD) (t : Fin cfg0.N) (r l : Fin 1024) :
    iblk m c 0 t (ix2 r l) = m (c.tc.loc main_arg0) (ix2 (row t r) l) := by blk_ext [iblk, V, idx t]
theorem i1_apply (c : Dev nD) (t : Fin cfg0.N) (u : Fin 1) (l : Fin 1024) :
    iblk m c 1 t (ix2 u l) = m (c.tc.loc main_arg1) (ix2 u l) := by blk_ext [iblk, V, idx t]
theorem i2_apply (c : Dev nD) (t : Fin cfg0.N) (s : Fin 2816) (l : Fin 1024) :
    iblk m c 2 t (ix2 s l) = m (c.tc.loc main_arg2) (ix2 (col t s) l) := by blk_ext [iblk, V, idx t]

/-- The point before `t`. -/
abbrev prev (t : Fin cfg0.N) : Fin cfg0.N := ⟨t.val - 1, Nat.lt_of_le_of_lt (Nat.sub_le _ _) t.isLt⟩

/-- The two points of one block of tokens read the same block. -/
theorem i0_prev (c : Dev nD) (t : Fin cfg0.N) (h : ¬t.val % 2 = 0) : (iblk m c 0 (prev t) : Vec F S1024x1024 .f32) = iblk m c 0 t := by
  funext y
  idx_vars y
  refine (i0_apply m c (prev t) y0 y1).trans (Eq.trans ?_ (i0_apply m c t y0 y1).symm)
  have e : row (prev t) y0 = row t y0 := Fin.ext (by show (t.val - 1) / 2 * 1024 + y0.val = t.val / 2 * 1024 + y0.val; omega)
  rw [e]
theorem i1_prev (c : Dev nD) (t : Fin cfg0.N) : (iblk m c 1 (prev t) : Vec F S1x1024 .f32) = iblk m c 1 t := by
  funext y
  idx_vars y
  exact (i1_apply m c (prev t) y0 y1).trans (i1_apply m c t y0 y1).symm

/-- At a second half's point the first result's buffer holds the block's norm. -/
theorem before0_3 (c : Dev nD) (t : Fin cfg0.N) (h : ¬t.val % 2 = 0) (d) :
    (dats m 0 c).before 3 t d = k0_pay1 (iblk m c 0 t) (iblk m c 1 t) := by
  have hN := (idx t).2.2.2.2.2
  have hfl : (cfg0.win 3).flush (prev t) = false := by
    rw [← Bool.not_eq_true]; intro hh
    have := (flush0_3 (prev t)).mp hh
    dsimp only at this; omega
  have hid : cfg0.idle 3 (cfg0.grid.coords (prev t)) = false := by
    have hc := (first_iff (prev t)).mpr (by dsimp only; omega)
    show (!(k0_cond1 _ == 1#1)) = false
    rw [show k0_cond1 (cfg0.grid.coords (prev t)) = 1#1 from hc]; rfl
  rw [(dats m 0 c).before_of_pos 3 t (by omega) rfl d, if_neg (by rw [hfl]; decide)]
  unfold Dat.left
  rw [hid]
  unfold Dat.kept
  rw [after0_3, i0_prev m c t h, i1_prev]
  rfl

/-! ## The body obligation, at a generic point -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The first result's buffer is stated exactly at every point: stored into at a first half's, written back at a second's. -/
theorem leaves3 (c : Dev nD) (t : Fin cfg0.N) : (dats m 0 c).leavesExact 3 t
    = owns (c : Thread nD τ) (st0_3 t) fullShare (k0_pay1 (iblk m c 0 t) (iblk m c 1 t)) := by
  rw [← after0_3]
  unfold Dat.leavesExact
  by_cases h : t.val % 2 = 0
  · have hid : cfg0.idle 3 (cfg0.grid.coords t) = false := by
      show (!(k0_cond1 _ == 1#1)) = false
      rw [show k0_cond1 (cfg0.grid.coords t) = 1#1 from (first_iff t).mpr h]; rfl
    rw [hid]
  · have hfl : (cfg0.win 3).flush t = true := (flush0_3 t).mpr (by omega)
    cases cfg0.idle 3 (cfg0.grid.coords t) <;> rw [hfl]

theorem leaves_live (c : Dev nD) (t : Fin cfg0.N) : (dats m 0 c).leavesExact 0 t = owns (c : Thread nD τ) (st0_0 t) fullShare (iblk m c 0 t)
    ∧ (dats m 0 c).leavesExact 1 t = owns (c : Thread nD τ) (st0_1 t) fullShare (iblk m c 1 t)
    ∧ (dats m 0 c).leavesExact 2 t = owns (c : Thread nD τ) (st0_2 t) fullShare (iblk m c 2 t)
    ∧ (dats m 0 c).leavesExact 4 t = owns (c : Thread nD τ) (st0_4 t) fullShare (k0_pay2 (k0_pay1 (iblk m c 0 t) (iblk m c 1 t)) (iblk m c 2 t)) := by
  rw [← after0_4, ← after0_0, ← after0_1, ← after0_2]
  exact ⟨rfl, rfl, rfl, rfl⟩

set_option maxHeartbeats 800000 in
/-- The body at any point: the inputs' buffers hold their blocks and, at a second half's point, the first result's the norm. -/
theorem sound_body (c : Dev nD) (t : Fin cfg0.N) :
    bodyPre m c t ⊢ wp frame (wpE (defs₀ (F := F)) Variants.none c none) Set.univ (bodyAt0 t) (fun _ => bodyPost m c t) := by
  obtain ⟨l0, l1, l2, l4⟩ := leaves_live m c t
  unfold bodyPre bodyPost bodyAt0
  rw [l0, l1, l2, leaves3, l4]
  simp only [before0_0, before0_1, before0_2]
  rw [show (dats m 0 c).Φ t.succ = (dats m 0 c).Φ t.castSucc from rfl,
    show (dats m 0 c).owesAt () t.succ = (dats m 0 c).owesAt () t.castSucc from rfl]
  by_cases h : t.val % 2 = 0
  · iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ (iblk m c 0 t) (iblk m c 1 t) (iblk m c 2 t) ((first_iff t).mpr h) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_3 m c t h]
    iintro ⟨HΦ, Ho, ⟨%d0, H0⟩, ⟨%d1, H1⟩, ⟨%d2, H2⟩, ⟨%d3, H3⟩, ⟨%d4, H4⟩⟩
    iapply (run_second c (grid0.coords t) _ _ _ _ _ _ _ _ _ _ (iblk m c 0 t) (iblk m c 1 t) (iblk m c 2 t)
      (k0_pay1 (iblk m c 0 t) (iblk m c 1 t)) (fun hh => h ((first_iff t).mp hh)) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run's frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- The run with each result array named, the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 3 cfg0.N
      ∧ r.2.mem ((c : Thread nD τ).loc main_v0_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 3, (h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩)
    (run_quiescent m ρ)

end Cert.Kernel11Ideal.FFfnIn
-- ==== Proof.FFfnInFloat.lean ====
/-
  THE CHANNEL MIXER'S NORM AND FIRST PRODUCT: THE FRAME OF THE PRINTED PROGRAM. It is the idealized program's text (no rule was
  applied), whose run was followed at every instance of the floats; the two programs' tables of bodies are one table.
-/
module

public import proofs.«01_k».proof.Defs
public import proofs.«01_k».proof.Proof.FFfnInFrame
public import proofs.«01_k».proof.Proof.Gen.Kernel11.Frame

@[expose] public section

noncomputable section

namespace Cert.FFfnIn

open Idealize.ShloMosaic Idealize.SL.Sem

/-- The tables of bodies agree at their one label. -/
theorem bodies_eq : @Cert.Kernel11.defs₀ Bits _ Cert.Kernel11.Gen.facts = @Cert.Kernel11Ideal.defs₀ Bits _ Cert.Kernel11Ideal.Gen.facts := by
  unfold Cert.Kernel11.defs₀ Cert.Kernel11Ideal.defs₀
  refine congrArg Defs.onTc ?_
  funext l a
  obtain ⟨_ | n, h⟩ := l
  · obtain ⟨t, s⟩ := a; rfl
  · exact absurd h (by omega)

theorem defs_eq : @Cert.Kernel11.defs Bits _ Cert.Kernel11.Gen.facts = @Cert.Kernel11Ideal.defs Bits _ Cert.Kernel11Ideal.Gen.facts :=
  congrArg (Pipeline.defs _) bodies_eq

theorem frame_kernel : Cert.quiescent_Kernel11 (hKernel11 := Cert.Kernel11.Gen.facts) := fun m ρ _ => by
  rw [defs_eq]
  exact (θ_run (Cert.Kernel11Ideal.defs (F := Bits)) _ _).mono (fun _ h => h) (Cert.Kernel11Ideal.FFfnIn.frame (F := Bits) m ρ)

end Cert.FFfnIn
-- ==== Proof.FFfnInKernel.lean ====
/-
  THE CHANNEL MIXER'S NORM AND FIRST PRODUCT: WHAT THE RESULTS HOLD, index by index: the row's norm, and its product with a row
  of the transposed matrix.
-/
module

public import proofs.«01_k».proof.Proof.FNormMath
public import proofs.«01_k».proof.Proof.FFfnInFrame

@[expose] public section

set_option maxRecDepth 16384

noncomputable section

namespace Cert.FFfnIn

open Idealize.ShloMosaic Cert.FNorm

abbrev Wgt : Shape := ⟨2, ![5632, 1024]⟩

def gu (x0 : FVec Ideal Tok .f32) (x1 : FVec Ideal Row .f32) (x2 : FVec Ideal Wgt .bf16) (r : Fin 8192) (q : Fin 5632) : EReal :=
  ∑ k : Fin 1024, xn x0 x1 r k * x2 (ix2 q k)

end Cert.FFfnIn

namespace Cert.Kernel11Ideal.FFfnIn

open Cert.Kernel11Ideal Cert.Kernel11Ideal.Gen Cert.FFfnIn Cert.FNorm Cert.Norm
open Idealize.ShloMosaic Idealize.ShloMosaic.TcCoe Idealize.SL.Sem
open Idealize.ShloMosaic.Pipeline (Dat)

theorem pay_xn (v0 : FVec Ideal S1024x1024 .f32) (v11 : FVec Ideal S1x1024 .f32) (r l : Fin 1024) :
    k0_pay1 (F := Ideal) v0 v11 (ix2 r l) = xh (fun k => v0 (ix2 r k)) l * v11 (ix2 0 l) := by
  unfold xh rn ms
  pointwise [k0_pay1]

theorem pay_gu (v3 : FVec Ideal S1024x1024 .bf16) (v5 : FVec Ideal S2816x1024 .bf16) (r : Fin 1024) (s : Fin 2816) :
    k0_pay2 (F := Ideal) v3 v5 (ix2 r s) = ∑ k : Fin 1024, v3 (ix2 r k) * v5 (ix2 s k) := by
  pointwise [k0_pay2]

variable (m : (ℓ : Loc nD τ sig) → Buf (Elt Ideal) ℓ)

abbrev A (c : Dev nD) (t : Fin cfg0.N) : FVec Ideal S1024x1024 .f32 := iblk m c 0 t
abbrev B (c : Dev nD) (t : Fin cfg0.N) : FVec Ideal S1x1024 .f32 := iblk m c 1 t
abbrev W (c : Dev nD) (t : Fin cfg0.N) : FVec Ideal S2816x1024 .bf16 := iblk m c 2 t

theorem xn_apply (c : Dev nD) (t : Fin cfg0.N) (r l : Fin 1024) : k0_pay1 (F := Ideal) (A m c t) (B m c t) (ix2 r l)
    = xn (m (c.tc.loc main_arg0)) (m (c.tc.loc main_arg1)) (row t r) l := by
  rw [pay_xn]; unfold xn A B
  rw [i1_apply]
  congr 2
  funext k
  exact i0_apply m c t r k

theorem gu_apply (c : Dev nD) (t : Fin cfg0.N) (r : Fin 1024) (s : Fin 2816) :
    k0_pay2 (F := Ideal) (k0_pay1 (F := Ideal) (A m c t) (B m c t)) (W m c t) (ix2 r s)
    = gu (m (c.tc.loc main_arg0)) (m (c.tc.loc main_arg1)) (m (c.tc.loc main_arg2)) (row t r) (col t s) := by
  rw [pay_gu]; unfold gu W
  exact Finset.sum_congr rfl fun k _ => by rw [xn_apply, i2_apply]

theorem final3 (c : Dev nD) : (dats m 0 c).arrAt 3 cfg0.N = fun i =>
    xn (m (c.tc.loc main_arg0)) (m (c.tc.loc main_arg1)) (i 0) (i 1) := by
  refine (dats m 0 c).arrAt_eq_of_covers 3 _ (by decide +kernel) fun t _ y => ?_
  idx_vars y
  blk_simp
  rw [after0_3, xn_apply]
  refine Eq.trans (b := xn _ _ (row t y0) y1) rfl (congrArg₂ _ (Fin.ext ?_) (Fin.ext ?_)) <;> blk_simp [idx t]

theorem final4 (c : Dev nD) : (dats m 0 c).arrAt 4 cfg0.N = fun i =>
    gu (m (c.tc.loc main_arg0)) (m (c.tc.loc main_arg1)) (m (c.tc.loc main_arg2)) (i 0) (i 1) := by
  refine (dats m 0 c).arrAt_eq_of_covers 4 _ (by decide +kernel) fun t _ y => ?_
  idx_vars y
  blk_simp
  rw [after0_4, gu_apply]
  refine Eq.trans (b := gu _ _ _ (row t y0) (col t y1)) rfl (congrArg₂ _ (Fin.ext ?_) (Fin.ext ?_)) <;> blk_simp [idx t]

end Cert.Kernel11Ideal.FFfnIn
-- ==== Proof.FFfnInClaim.lean ====
/-
  THE CLAIM: the channel mixer's norm and first product. The reference's two results are read at an index and are the
  kernel's, for all argument arrays.
-/
module

public import proofs.«01_k».proof.Defs
public import proofs.«01_k».proof.Proof.FFfnInKernel
public import proofs.«01_k».proof.Proof.Gen.Reference11Ideal.Run
public import proofs.«01_k».proof.Proof.Gen.Reference11Ideal.Read
public import Idealize.ShloMosaic.Adequacy
public import Idealize.ShloMosaic.Init
public import Idealize.ShloMosaic.Lib.Claim

@[expose] public section

set_option maxRecDepth 16384

noncomputable section

namespace Cert.Reference11Ideal.FFfnIn

open Cert.Reference11Ideal Cert.Reference11Ideal.Gen Cert.Reference11Ideal.Read Cert.FNorm Cert.FFfnIn Cert.Norm
open Idealize.ShloMosaic Idealize.ShloMosaic.TcCoe

theorem v11 (x0 : FVec Ideal Tok .f32) (x1 : FVec Ideal Row .f32) (r : Fin 8192) (l : Fin 1024) :
    val_main_v11 (F := Ideal) x0 x1 (ix2 r l) = xn x0 x1 r l := by
  unfold xn xh rn ms
  pointwise [val_main_v11, val_main_v10, val_main_v9, val_main_v8, val_main_v7, val_main_v6, val_main_v5,
    val_main_v4, val_main_v3, val_main_v2, val_main_v1, val_main_v0, val_main_cst, val_main_cst_0, val_main_cst_1]

theorem eq_xn (x0 : FVec Ideal Tok .f32) (x1 : FVec Ideal Row .f32) (r : Fin 8192) (l : Fin 1024) :
    val_main_v15 (F := Ideal) x0 x1 (ix2 r l) = xn x0 x1 r l := by
  rw [← v11]
  pointwise [val_main_v15]

theorem eq_gu (x0 : FVec Ideal Tok .f32) (x1 : FVec Ideal Row .f32) (x2 : FVec Ideal Wgt .bf16) (r : Fin 8192) (q : Fin 5632) :
    val_main_v16 (F := Ideal) x0 x1 x2 (ix2 r q) = gu x0 x1 x2 r q := by
  unfold gu
  simp only [← v11]
  pointwise [val_main_v16, val_main_v14, val_main_v13, val_main_v12]

end Cert.Reference11Ideal.FFfnIn

namespace Cert.FFfnIn

open Idealize.ShloMosaic Idealize.SL.Sem

/-- The reference's frame: its run writes no argument, and it declares no semaphore. -/
theorem frame_reference : Cert.quiescent_Reference11Ideal (hReference11Ideal := Cert.Reference11Ideal.Gen.facts) := fun m ρ _ =>
  (θ_run (Cert.Reference11Ideal.defs (F := Ideal)) _ _).mono
    (fun r h => ⟨fun c => (h c).2.2, sem_eq_zero_of_no_sems (by decide) r.2⟩)
    (Cert.Reference11Ideal.Value.run (F := Ideal) m ρ)

theorem algebraic : Cert.algebraic_Kernel11Ideal_Reference11Ideal
    (hKernel11Ideal := Cert.Kernel11Ideal.Gen.facts) (hReference11Ideal := Cert.Reference11Ideal.Gen.facts) := by
  pair_intro
  · run_from Cert.Kernel11Ideal.FFfnIn.run_blocks m g
  · refine (θ_run (Cert.Reference11Ideal.defs (F := Ideal)) _ _).mono (fun r h c => ?_)
      (Cert.Reference11Ideal.Value.run (F := Ideal) m' g')
    obtain ⟨a0, a1, hf⟩ := h c
    obtain ⟨e0, e1, e2⟩ := hagree c
    refine ⟨a0.trans ?_, a1.trans ?_, hf⟩
    · refine (Cert.Reference11Ideal.Read.val_main_v15_eq _ _).trans ?_
      rw [e0, e1, Cert.Kernel11Ideal.FFfnIn.final3]
      funext i; idx_vars i
      exact Cert.Reference11Ideal.FFfnIn.eq_xn _ _ _ _
    · rw [Cert.Reference11Ideal.Read.val_main_v16_eq, e0, e1, e2, Cert.Kernel11Ideal.FFfnIn.final4]
      funext i; idx_vars i
      exact Cert.Reference11Ideal.FFfnIn.eq_gu _ _ _ _ _

end Cert.FFfnIn
-- ==== Proof.ConvMath.lean ====
/-
  THE CENTRED CONVOLUTION ALONG THE TOKENS AND ITS GRADIENT, the mathematics: four taps per channel, tap `k` of token `r` at
  token `r + k - 2`, with zeros before the first and after the last token.
-/
module

public import Idealize.ShloMosaic.Lib.Pipeline.ValueKit
public import Idealize.ShloMosaic.Lib.Pipeline.ReadBack
public import Idealize.ShloMosaic.Lib.Pointwise

@[expose] public section

noncomputable section

namespace Cert.Conv

open Idealize.ShloMosaic

abbrev Tok : Shape := ⟨2, ![8192, 1024]⟩
abbrev Prj : Shape := ⟨2, ![8192, 5632]⟩
abbrev Taps : Shape := ⟨2, ![4, 1024]⟩

/-- A channel over the tokens, with sixteen zeros put before it and zeros after it: position `p` is token `p - 16`. -/
def pd (f : Fin 8192 → EReal) (p : ℕ) : EReal := if h : 16 ≤ p ∧ p - 16 < 8192 then f ⟨p - 16, h.2⟩ else 0

theorem pd_in (f : Fin 8192 → EReal) (p : ℕ) (r : Fin 8192) (h : p = 16 + r.val) : pd f p = f r := by
  subst h
  unfold pd
  rw [dif_pos ⟨by omega, by omega⟩]
  exact congrArg f (Fin.ext (by simp))

theorem pd_out (f : Fin 8192 → EReal) (p : ℕ) (h : p < 16 ∨ 8208 ≤ p) : pd f p = 0 := by
  unfold pd
  rw [dif_neg (by omega)]

theorem pd_add (f g : Fin 8192 → EReal) (p : ℕ) : pd (fun r => f r + g r) p = pd f p + pd g p := by
  unfold pd
  split
  · rfl
  · exact (add_zero 0).symm

/-- A read that is zero outside the tokens is the padded channel's. -/
theorem dite_pd (f : Fin 8192 → EReal) (p : ℕ) {P : Prop} [Decidable P] (n : P → Fin 8192) (h : P ↔ 16 ≤ p ∧ p - 16 < 8192)
    (hn : ∀ a, (n a).val = p - 16) : (if a : P then f (n a) else 0) = pd f p := by
  unfold pd
  by_cases a : P
  · rw [dif_pos a, dif_pos (h.1 a)]
    exact congrArg f (Fin.ext (hn a))
  · rw [dif_neg a, dif_neg (fun b => a (h.2 b))]

/-! ### The stacked blocks -/

/-- Three pieces stacked: sixteen rows, the block's, sixteen rows. -/
def ext (a : Fin 16 → EReal) (b : Fin 1024 → EReal) (c : Fin 16 → EReal) (p : Fin 1056) : EReal :=
  if h : p.val < 16 then a ⟨p.val, h⟩ else if h' : p.val - 16 < 1024 then b ⟨p.val - 16, h'⟩ else c ⟨p.val - 16 - 1024, by omega⟩

theorem select_if {α : Type} (P : Prop) [Decidable P] (x y : α) :
    Scalar.select (if P then 0#1 else 1#1) x y = if P then y else x := by
  by_cases h : P <;> simp [Scalar.select, h]
theorem select_ne {α : Type} (a b : BitVec 32) (h : a ≠ b) (x y : α) : Scalar.select (IntOp.cmpi .eq a b) x y = y := by
  have e : (a == b) = false := by simpa using h
  simp [Scalar.select, IntOp.cmpi, e]

/-- A turn of the 1056 rows down by 1054 or 1055 is one up by two or one. -/
theorem turn (r : Fin 1024) : (16 + r.val + 1056 - 1054) % 1056 = 18 + r.val ∧ (16 + r.val + 1056 - 1055) % 1056 = 17 + r.val
    ∧ (16 + r.val + 1056 - 1) % 1056 = 15 + r.val ∧ (16 + r.val + 1056 - 2) % 1056 = 14 + r.val := by omega

/-- Block `t` of eight with its neighbours' rows, zeros in their place at either end. -/
def blk (t : ℕ) (a c : FVec Ideal ⟨2, ![16, 1024]⟩ .bf16) (b : FVec Ideal ⟨2, ![1024, 1024]⟩ .bf16) (l : Fin 1024) (p : Fin 1056) : EReal :=
  ext (fun q => if t = 0 then 0 else a (ix2 q l)) (fun q => b (ix2 q l)) (fun q => if t = 7 then 0 else c (ix2 q l)) p

/-- Position `p` of a stacked block is position `1024 t + p` of the padded sequence. -/
theorem blk_eq (f : Fin 8192 → EReal) (t : ℕ) (ht : t < 8) (a c : FVec Ideal ⟨2, ![16, 1024]⟩ .bf16)
    (b : FVec Ideal ⟨2, ![1024, 1024]⟩ .bf16) (l : Fin 1024) (p : Fin 1056)
    (ha : ∀ q : Fin 16, a (ix2 q l) = f ⟨(64 * t - 1) * 16 + q.val, by omega⟩)
    (hb : ∀ q : Fin 1024, b (ix2 q l) = f ⟨t * 1024 + q.val, by omega⟩)
    (hc : ∀ q : Fin 16, c (ix2 q l) = f ⟨min (64 * (t + 1)) 511 * 16 + q.val, by omega⟩) :
    blk t a c b l p = pd f (t * 1024 + p.val) := by
  have hp := p.isLt
  unfold blk ext
  simp only [ha, hb, hc]
  split
  · split
    · exact (pd_out f _ (by omega)).symm
    · exact (pd_in f _ _ (by dsimp only; omega)).symm
  · split
    · exact (pd_in f _ _ (by dsimp only; omega)).symm
    · split
      · exact (pd_out f _ (by omega)).symm
      · exact (pd_in f _ _ (by dsimp only; omega)).symm

/-! ### The convolution and its gradient -/

variable (x0 x1 : FVec Ideal Tok .bf16) (x2 : FVec Ideal Prj .bf16) (x3 : FVec Ideal Taps .f32)

/-- The output's gradient: the sum of the two recurrences'. -/
def d (l : Fin 1024) (r : Fin 8192) : EReal := x0 (ix2 r l) + x1 (ix2 r l)

/-- The convolution's argument: the projection's first columns. -/
def u (l : Fin 1024) (r : Fin 8192) : EReal := x2 (ix2 r ⟨l.val, by omega⟩)

/-- The convolution itself: tap `k` of token `r` is token `r + k - 2`. -/
def cv (x0 : FVec Ideal Prj .bf16) (x1 : FVec Ideal Taps .f32) (x2 : FVec Ideal ⟨2, ![1, 1024]⟩ .f32) (r : Fin 8192) (l : Fin 1024) : EReal :=
  pd (u x0 l) (14 + r.val) * x1 (ix2 0 l) + pd (u x0 l) (15 + r.val) * x1 (ix2 1 l)
    + pd (u x0 l) (16 + r.val) * x1 (ix2 2 l) + pd (u x0 l) (17 + r.val) * x1 (ix2 3 l) + x2 (ix2 0 l)

/-- The argument's gradient at token `r`: tap `k` comes from token `r + 2 - k`. -/
def du (r : Fin 8192) (l : Fin 1024) : EReal :=
  pd (d x0 x1 l) (18 + r.val) * x3 (ix2 0 l) + pd (d x0 x1 l) (17 + r.val) * x3 (ix2 1 l)
    + pd (d x0 x1 l) (16 + r.val) * x3 (ix2 2 l) + pd (d x0 x1 l) (15 + r.val) * x3 (ix2 3 l)

/-- The taps' gradient. -/
def dw (k : Fin 4) (l : Fin 1024) : EReal := ∑ r : Fin 8192, d x0 x1 l r * pd (u x2 l) (14 + k.val + r.val)

/-- The bias's gradient. -/
def db (l : Fin 1024) : EReal := ∑ r : Fin 8192, d x0 x1 l r

end Cert.Conv
-- ==== Proof.ConvKernel.lean ====
/-
  WHAT THE GRADIENT OF THE CONVOLUTION LEAVES IN ITS RESULTS. Eight points; point `t` reads rows `1024 t … 1024 t + 1023` of
  three token arrays and, of each, the sixteen rows before and after, with zeros where the sequence ends. It writes the same
  rows of the argument's gradient and adds its rows' part to the taps' and the bias's gradients.
-/
module

public import proofs.«01_k».proof.Proof.ConvMath
public import proofs.«01_k».proof.Proof.Gen.Kernel2Ideal.Value

@[expose] public section

set_option maxRecDepth 16384

noncomputable section

namespace Cert.Kernel2Ideal.Conv

open Cert.Kernel2Ideal Cert.Kernel2Ideal.Gen Cert.Conv
open Idealize.ShloMosaic Idealize.ShloMosaic.TcCoe Idealize.SL.Sem
open Idealize.ShloMosaic.Pipeline (Dat)

/-! ### The body's arithmetic at one index of a block -/

section Body

theorem first_pt : ∀ t : Fin grid0.N, Scalar.cmpi .sgt (BitVec.ofNat 32 (grid0.coords t 0).val) 0#32 = if t.val = 0 then 0#1 else 1#1 := by
  decide +kernel
theorem last_pt : ∀ t : Fin grid0.N, Scalar.cmpi .slt (BitVec.ofNat 32 (grid0.coords t 0).val) 7#32 = if t.val = 7 then 0#1 else 1#1 := by
  decide +kernel

variable (t : Fin grid0.N) (a a' c c' : FVec Ideal S16x1024 .bf16) (b b' : FVec Ideal S1024x1024 .bf16)
  (l : Fin 1024) (p : Fin 1056) (r : Fin 1024)

theorem pay_u : k0_pay8 (F := Ideal) (BitVec.ofNat 32 (grid0.coords t 0).val) (Scalar.cmpi .sgt (BitVec.ofNat 32 (grid0.coords t 0).val) 0#32)
    (k0_pay7 a) c b (ix2 p l) = blk t.val a c b l p := by
  unfold blk ext
  pointwise [k0_pay8, k0_pay7]
  rw [first_pt, last_pt]
  simp only [select_if]

theorem pay_d : k0_pay6 (F := Ideal) (grid0.coords t) a c b a' c' b' (ix2 p l) = blk t.val a c b l p + blk t.val a' c' b' l p := by
  unfold blk ext
  pointwise [k0_pay6]
  rw [first_pt, last_pt]
  simp only [select_if]

variable (e : FVec Ideal S1056x1024 .f32) (g : FVec Ideal S1024x1024 .f32) (w0 w1 w2 w3 : FVec Ideal S1x1024 .f32)

theorem pay_mid : k0_pay9 (F := Ideal) e (ix2 r l) = e (ix2 ⟨16 + r.val, by omega⟩ l) := by
  pointwise [k0_pay9]

theorem pay_du : k0_pay10 (F := Ideal) e w0 w1 w2 w3 (ix2 r l) = e (ix2 ⟨18 + r.val, by omega⟩ l) * w0 (ix2 0 l)
    + e (ix2 ⟨17 + r.val, by omega⟩ l) * w1 (ix2 0 l) + e (ix2 ⟨16 + r.val, by omega⟩ l) * w2 (ix2 0 l)
    + e (ix2 ⟨15 + r.val, by omega⟩ l) * w3 (ix2 0 l) := by
  pointwise [k0_pay10]
  simp only [turn r]

/-- The number of each of the four taps' rows. -/
abbrev taps : IVec S4x1024 32 := iota .tc S4x1024 32 [0] iota_S4x1024_d0_w32

/-- The taps' gradient after a point, over what it was before: one store per tap. -/
abbrev step (v : FVec Ideal S4x1024 .f32) : FVec Ideal S4x1024 .f32 :=
  k0_pay2 (F := Ideal) e g taps (k0_pay1 (F := Ideal) (k0_pay13 (k0_pay12 e g taps (k0_pay11 e g taps v)))
    (k0_pay14 taps) (Scalar.ofBits .f32 0x00000000#32) (k0_pay15 e g))

theorem pay_step (v : FVec Ideal S4x1024 .f32) (k : Fin 4) : step e g v (ix2 k l) = v (ix2 k l)
    + ∑ r : Fin 1024, g (ix2 r l) * e (ix2 ⟨14 + k.val + r.val, by omega⟩ l) := by
  unfold step
  fin_cases k <;> pointwise [k0_pay2, k0_pay1, k0_pay13, k0_pay12, k0_pay11, k0_pay14, k0_pay15] <;>
    simp (disch := decide) only [select_ne, add_zero, fun r => (turn r).2.1, fun r => (turn r).2.2.1, fun r => (turn r).2.2.2]

theorem pay_db (v : FVec Ideal S1x1024 .f32) (q : Fin 1) : k0_pay3 (F := Ideal) g v (ix2 q l) = v (ix2 q l) + ∑ r : Fin 1024, g (ix2 r l) := by
  pointwise [k0_pay3]

theorem pay_zero4 (j) : k0_pay4 (F := Ideal) j = (0 : EReal) := by pointwise [k0_pay4]
theorem pay_zero1 (j) : k0_pay5 (F := Ideal) j = (0 : EReal) := by pointwise [k0_pay5]

end Body

variable (m : (ℓ : Loc nD τ sig) → Buf (Elt Ideal) ℓ)

theorem idx : ∀ t : Fin cfg0.N, win0_0.index t = ![t.val, 0] ∧ win0_1.index t = ![64 * t.val - 1, 0] ∧ win0_2.index t = ![min (64 * (t.val + 1)) 511, 0]
    ∧ win0_3.index t = ![t.val, 0] ∧ win0_4.index t = ![64 * t.val - 1, 0] ∧ win0_5.index t = ![min (64 * (t.val + 1)) 511, 0]
    ∧ win0_6.index t = ![t.val, 0] ∧ win0_7.index t = ![64 * t.val - 1, 0] ∧ win0_8.index t = ![min (64 * (t.val + 1)) 511, 0]
    ∧ win0_9.index t = ![0, 0] ∧ win0_10.index t = ![t.val, 0] ∧ win0_11.index t = ![0, 0] ∧ win0_12.index t = ![0, 0] ∧ t.val < 8 :=
  (by decide +kernel : ∀ t : Fin grid0.N, _)

/-! ### The argument blocks at an index -/

/-- The row of the whole array that row `r` of point `t`'s block is, and the rows before and after the block. -/
abbrev row (t : Fin cfg0.N) (r : Fin 1024) : Fin 8192 := ⟨t.val * 1024 + r.val, by have := idx t; omega⟩
abbrev rowP (t : Fin cfg0.N) (q : Fin 16) : Fin 8192 := ⟨(64 * t.val - 1) * 16 + q.val, by have := idx t; omega⟩
abbrev rowN (t : Fin cfg0.N) (q : Fin 16) : Fin 8192 := ⟨min (64 * (t.val + 1)) 511 * 16 + q.val, by have := idx t; omega⟩

section
variable (c : Dev nD) (t : Fin cfg0.N) (r l : Fin 1024) (q : Fin 16)

theorem i0_apply : iblk m c 0 t (ix2 r l) = m (c.tc.loc main_arg0) (ix2 (row t r) l) := by blk_ext [iblk, V, idx t]
theorem i1_apply : iblk m c 1 t (ix2 q l) = m (c.tc.loc main_arg0) (ix2 (rowP t q) l) := by blk_ext [iblk, V, idx t]
theorem i2_apply : iblk m c 2 t (ix2 q l) = m (c.tc.loc main_arg0) (ix2 (rowN t q) l) := by blk_ext [iblk, V, idx t]
theorem i3_apply : iblk m c 3 t (ix2 r l) = m (c.tc.loc main_arg1) (ix2 (row t r) l) := by blk_ext [iblk, V, idx t]
theorem i4_apply : iblk m c 4 t (ix2 q l) = m (c.tc.loc main_arg1) (ix2 (rowP t q) l) := by blk_ext [iblk, V, idx t]
theorem i5_apply : iblk m c 5 t (ix2 q l) = m (c.tc.loc main_arg1) (ix2 (rowN t q) l) := by blk_ext [iblk, V, idx t]
theorem i9_apply (k : Fin 4) : iblk m c 9 t (ix2 k l) = m (c.tc.loc main_arg3) (ix2 k l) := by blk_ext [iblk, V, idx t]

theorem x6_apply : X0_6 m c t (ix2 r l) = m (c.tc.loc main_arg2) (ix2 (row t r) ⟨l.val, by omega⟩) := by
  unfold X0_6 Pipeline.Window.fill
  rw [dif_pos (moved0_6 t _)]
  blk_ext [iblk, V, idx t]
theorem x7_apply : X0_7 m c t (ix2 q l) = m (c.tc.loc main_arg2) (ix2 (rowP t q) ⟨l.val, by omega⟩) := by
  unfold X0_7 Pipeline.Window.fill
  rw [dif_pos (moved0_7 t _)]
  blk_ext [iblk, V, idx t]
theorem x8_apply : X0_8 m c t (ix2 q l) = m (c.tc.loc main_arg2) (ix2 (rowN t q) ⟨l.val, by omega⟩) := by
  unfold X0_8 Pipeline.Window.fill
  rw [dif_pos (moved0_8 t _)]
  blk_ext [iblk, V, idx t]

end

/-! ### A point's two stacked arrays, and what it leaves in each result's block -/

abbrev DD (c : Dev nD) (t : Fin cfg0.N) : FVec Ideal S1056x1024 .f32 :=
  k0_pay6 (F := Ideal) (grid0.coords t) (iblk m c 1 t) (iblk m c 2 t) (iblk m c 0 t) (iblk m c 4 t) (iblk m c 5 t) (iblk m c 3 t)
abbrev UU (c : Dev nD) (t : Fin cfg0.N) : FVec Ideal S1056x1024 .f32 :=
  k0_pay8 (F := Ideal) (BitVec.ofNat 32 (grid0.coords t 0).val) (Scalar.cmpi .sgt (BitVec.ofNat 32 (grid0.coords t 0).val) 0#32)
    (k0_pay7 (X0_7 m c t)) (X0_8 m c t) (X0_6 m c t)

theorem ld0 (x : Vec Ideal S4x1024 .f32) (l : Fin 1024) :
    View.ld x (Rect.unit ![0, 0] ![1, 1024] inb_S4x1024_S1x1024_0_0) (ix2 0 l) = x (ix2 0 l) := by pointwise [View.ld]
theorem ld1 (x : Vec Ideal S4x1024 .f32) (l : Fin 1024) :
    View.ld x (Rect.unit ![1, 0] ![1, 1024] inb_S4x1024_S1x1024_1_0) (ix2 0 l) = x (ix2 1 l) := by pointwise [View.ld]
theorem ld2 (x : Vec Ideal S4x1024 .f32) (l : Fin 1024) :
    View.ld x (Rect.unit ![2, 0] ![1, 1024] inb_S4x1024_S1x1024_2_0) (ix2 0 l) = x (ix2 2 l) := by pointwise [View.ld]
theorem ld3 (x : Vec Ideal S4x1024 .f32) (l : Fin 1024) :
    View.ld x (Rect.unit ![3, 0] ![1, 1024] inb_S4x1024_S1x1024_3_0) (ix2 0 l) = x (ix2 3 l) := by pointwise [View.ld]

theorem out10 (c : Dev nD) (t : Fin cfg0.N) (r l : Fin 1024) : (outsAt0 m c t.val t.isLt).1 (ix2 r l)
    = DD m c t (ix2 ⟨18 + r.val, by omega⟩ l) * iblk m c 9 t (ix2 0 l) + DD m c t (ix2 ⟨17 + r.val, by omega⟩ l) * iblk m c 9 t (ix2 1 l)
    + DD m c t (ix2 ⟨16 + r.val, by omega⟩ l) * iblk m c 9 t (ix2 2 l) + DD m c t (ix2 ⟨15 + r.val, by omega⟩ l) * iblk m c 9 t (ix2 3 l) := by
  by_cases h0 : t.val % 8 = 0
  · rw [outsAt0_A m c t h0]; frame_out
    rw [pay_du, ld0, ld1, ld2, ld3]
  · rw [outsAt0_B m c t h0]; frame_out
    rw [pay_du, ld0, ld1, ld2, ld3]

theorem out11 (c : Dev nD) (t : Fin cfg0.N) (ht : t.val + 1 = cfg0.N) (j) :
    (outsAt0 m c t.val t.isLt).2.1 j = 0 + ∑ p : Fin cfg0.N, ∑ r : Fin 1024, DD m c p (ix2 ⟨16 + r.val, by omega⟩ (j 1))
      * UU m c p (ix2 ⟨14 + (j 0).val + r.val, by have := (j 0).isLt; simp at this; omega⟩ (j 1)) := by
  refine Pipeline.eq_sum_fin_of_reset_step_apply_last (fun n h => (outsAt0 m c n h).2.1) 8 (fun _ => 0)
    (fun p j => ∑ r : Fin 1024, DD m c p (ix2 ⟨16 + r.val, by omega⟩ (j 1))
      * UU m c p (ix2 ⟨14 + (j 0).val + r.val, by have := (j 0).isLt; simp at this; omega⟩ (j 1)))
    (fun t h j => ?_) (fun t h j => ?_) (le_of_eq N_0) t ht j
  · idx_vars j
    beta_reduce
    rw [outsAt0_A m c t h]; frame_out
    refine (pay_step _ (UU m c t) _ _ _).trans ?_
    rw [pay_zero4]
    exact congrArg (0 + ·) (Finset.sum_congr rfl fun r _ => by rw [pay_mid])
  · idx_vars j
    beta_reduce
    rw [outsAt0_B m c t h]; frame_out
    refine (pay_step _ (UU m c t) _ _ _).trans ?_
    exact congrArg (_ + ·) (Finset.sum_congr rfl fun r _ => by rw [pay_mid])

theorem out12 (c : Dev nD) (t : Fin cfg0.N) (ht : t.val + 1 = cfg0.N) (j) :
    (outsAt0 m c t.val t.isLt).2.2 j = 0 + ∑ p : Fin cfg0.N, ∑ r : Fin 1024, DD m c p (ix2 ⟨16 + r.val, by omega⟩ (j 1)) := by
  refine Pipeline.eq_sum_fin_of_reset_step_apply_last (fun n h => (outsAt0 m c n h).2.2) 8 (fun _ => 0)
    (fun p j => ∑ r : Fin 1024, DD m c p (ix2 ⟨16 + r.val, by omega⟩ (j 1)))
    (fun t h j => ?_) (fun t h j => ?_) (le_of_eq N_0) t ht j
  · idx_vars j
    beta_reduce
    rw [outsAt0_A m c t h]; frame_out; rw [pay_db, pay_zero1]
    exact congrArg (0 + ·) (Finset.sum_congr rfl fun r _ => pay_mid _ _ _)
  · idx_vars j
    beta_reduce
    rw [outsAt0_B m c t h]; frame_out; rw [pay_db]
    exact congrArg (_ + ·) (Finset.sum_congr rfl fun r _ => pay_mid _ _ _)

/-! ### From the argument arrays -/

theorem DD_apply (c : Dev nD) (t : Fin cfg0.N) (p : Fin 1056) (l : Fin 1024) :
    DD m c t (ix2 p l) = pd (d (m (c.tc.loc main_arg0)) (m (c.tc.loc main_arg1)) l) (t.val * 1024 + p.val) := by
  unfold DD
  rw [pay_d, blk_eq (fun r => m (c.tc.loc main_arg0) (ix2 r l)) t.val (by have := idx t; omega) _ _ _ l p (fun q => i1_apply m c t l q) (fun q => i0_apply m c t q l)
      (fun q => i2_apply m c t l q),
    blk_eq (fun r => m (c.tc.loc main_arg1) (ix2 r l)) t.val (by have := idx t; omega) _ _ _ l p (fun q => i4_apply m c t l q) (fun q => i3_apply m c t q l)
      (fun q => i5_apply m c t l q), ← pd_add]
  rfl

theorem UU_apply (c : Dev nD) (t : Fin cfg0.N) (p : Fin 1056) (l : Fin 1024) :
    UU m c t (ix2 p l) = pd (u (m (c.tc.loc main_arg2)) l) (t.val * 1024 + p.val) := by
  unfold UU
  rw [pay_u, blk_eq (u (m (c.tc.loc main_arg2)) l) t.val (by have := idx t; omega) _ _ _ l p (fun q => x7_apply m c t l q) (fun q => x6_apply m c t q l)
    (fun q => x8_apply m c t l q)]

/-! ### The result arrays -/

theorem final10 (c : Dev nD) : (dats m 0 c).arrAt 10 cfg0.N = fun i =>
    du (m (c.tc.loc main_arg0)) (m (c.tc.loc main_arg1)) (m (c.tc.loc main_arg3)) (i 0) (i 1) := by
  refine (dats m 0 c).arrAt_eq_of_covers 10 _ (by decide +kernel) fun t _ y => ?_
  idx_vars y
  blk_simp
  rw [after0_10, out10]
  simp only [DD_apply, i9_apply]
  refine Eq.trans (b := du _ _ _ (row t y0) y1) ?_ (congrArg₂ _ (Fin.ext ?_) (Fin.ext ?_))
  · unfold du
    simp only [show ∀ a : ℕ, t.val * 1024 + (a + y0.val) = a + (row t y0).val from fun a => by dsimp only; omega]
  all_goals blk_simp [idx t]

theorem sum_dw (c : Dev nD) (k : Fin 4) (l : Fin 1024) : (∑ p : Fin cfg0.N, ∑ r : Fin 1024, DD m c p (ix2 ⟨16 + r.val, by omega⟩ l)
      * UU m c p (ix2 ⟨14 + k.val + r.val, by omega⟩ l))
    = dw (m (c.tc.loc main_arg0)) (m (c.tc.loc main_arg1)) (m (c.tc.loc main_arg2)) k l := by
  unfold dw
  refine Fin.sum_mul_add_congr (L := 8192) (S := 8) (n := 1024) (fun s r _ => ?_)
  refine congrArg₂ (· * ·) ((DD_apply m c s _ l).trans (pd_in _ _ (row s r) (by dsimp only; omega)))
    ((UU_apply m c s _ l).trans (congrArg (pd _) (by dsimp only; omega)))

theorem final11 (c : Dev nD) : (dats m 0 c).arrAt 11 cfg0.N = fun i =>
    dw (m (c.tc.loc main_arg0)) (m (c.tc.loc main_arg1)) (m (c.tc.loc main_arg2)) (i 0) (i 1) := by
  refine (dats m 0 c).arrAt_eq_of_after_last 11 t0_7 (by decide +kernel) _ fun j => ?_
  blk_simp
  rw [after0_11, out11 m c t0_7 (by decide +kernel), zero_add]
  exact sum_dw m c (j 0) (j 1)

theorem sum_db (c : Dev nD) (l : Fin 1024) : (∑ p : Fin cfg0.N, ∑ r : Fin 1024, DD m c p (ix2 ⟨16 + r.val, by omega⟩ l))
    = db (m (c.tc.loc main_arg0)) (m (c.tc.loc main_arg1)) l := by
  unfold db
  refine Fin.sum_mul_add_congr (L := 8192) (S := 8) (n := 1024) (fun s r _ => ?_)
  exact (DD_apply m c s _ l).trans (pd_in _ _ (row s r) (by dsimp only; omega))

theorem final12 (c : Dev nD) : (dats m 0 c).arrAt 12 cfg0.N = fun i =>
    db (m (c.tc.loc main_arg0)) (m (c.tc.loc main_arg1)) (i 1) := by
  refine (dats m 0 c).arrAt_eq_of_after_last 12 t0_7 (by decide +kernel) _ fun j => ?_
  blk_simp
  rw [after0_12, out12 m c t0_7 (by decide +kernel), zero_add]
  exact sum_db m c (j 1)

end Cert.Kernel2Ideal.Conv
-- ==== Proof.ConvReference.lean ====
/-
  THE CONVOLUTION'S GRADIENT, the reference read at an index: the argument's gradient is four shifted products put among zeros,
  the taps' gradient four sums over the tokens.
-/
module

public import proofs.«01_k».proof.Proof.ConvMath
public import proofs.«01_k».proof.Proof.Gen.Reference2Ideal.Read

@[expose] public section

set_option maxRecDepth 16384

noncomputable section

namespace Cert.Reference2Ideal.Conv

open Cert.Reference2Ideal Cert.Reference2Ideal.Gen Cert.Reference2Ideal.Read Cert.Conv
open Idealize.ShloMosaic Idealize.ShloMosaic.TcCoe

variable (x0 x1 : FVec Ideal Tok .bf16) (x2 : FVec Ideal Prj .bf16) (x3 : FVec Ideal Taps .f32) (r : Fin 8192) (l : Fin 1024)

theorem v39 : val_main_v39 (F := Ideal) x0 x1 (ix2 r l) = d x0 x1 l r := by
  unfold d
  pointwise [val_main_v39, val_main_v0, val_main_v1]

theorem v41 : val_main_v41 (F := Ideal) x0 x1 (ix2 0 l) = db x0 x1 l := by
  unfold db
  have e : val_main_v41 (F := Ideal) x0 x1 (ix2 0 l) = ∑ q : Fin 8192, val_main_v39 (F := Ideal) x0 x1 (ix2 q l) := by
    pointwise [val_main_v41, val_main_v40, val_main_cst_4]
  rw [e]
  exact Finset.sum_congr rfl fun q _ => v39 x0 x1 q l

/-! ### The argument's gradient: four shifted products, each put at its place among zeros -/

theorem pd_mul (f : Fin 8192 → EReal) (w : EReal) (p : ℕ) : pd (fun q => f q * w) p = pd f p * w := by
  unfold pd
  split
  · rfl
  · exact (zero_mul w).symm

theorem v46 : val_main_v46 (F := Ideal) x0 x1 x3 (ix2 r l) = d x0 x1 l r * x3 (ix2 3 l) := by
  rw [← v39]
  pointwise [val_main_v46, val_main_v45, val_main_v33, val_main_v32, val_main_v31]

theorem v50 : val_main_v50 (F := Ideal) x0 x1 x3 (ix2 ⟨2 + r.val, by omega⟩ l) = pd (d x0 x1 l) (15 + r.val) * x3 (ix2 3 l) := by
  rw [← pd_mul, ← funext fun q => v46 x0 x1 x3 q l]
  pointwise [val_main_v50, val_main_cst_8]
  exact dite_pd (fun q => val_main_v46 (F := Ideal) x0 x1 x3 (ix2 q l)) _ _ (by omega) (fun _ => by dsimp only; omega)

theorem v55 : val_main_v55 (F := Ideal) x0 x1 x3 (ix2 r l) = d x0 x1 l r * x3 (ix2 2 l) := by
  rw [← v39]
  pointwise [val_main_v55, val_main_v54, val_main_v26, val_main_v25, val_main_v24]

theorem v60 : val_main_v60 (F := Ideal) x0 x1 x3 (ix2 ⟨2 + r.val, by omega⟩ l) = pd (d x0 x1 l) (16 + r.val) * x3 (ix2 2 l) := by
  rw [← pd_mul, ← funext fun q => v55 x0 x1 x3 q l]
  pointwise [val_main_v60, val_main_cst_12]
  exact (pd_in (fun q => val_main_v55 (F := Ideal) x0 x1 x3 (ix2 q l)) _ r (by omega)).symm

theorem v66 : val_main_v66 (F := Ideal) x0 x1 x3 (ix2 r l) = d x0 x1 l r * x3 (ix2 1 l) := by
  rw [← v39]
  pointwise [val_main_v66, val_main_v65, val_main_v19, val_main_v18, val_main_v17]

theorem v71 : val_main_v71 (F := Ideal) x0 x1 x3 (ix2 ⟨2 + r.val, by omega⟩ l) = pd (d x0 x1 l) (17 + r.val) * x3 (ix2 1 l) := by
  rw [← pd_mul, ← funext fun q => v66 x0 x1 x3 q l]
  pointwise [val_main_v71, val_main_cst_16]
  exact dite_pd (fun q => val_main_v66 (F := Ideal) x0 x1 x3 (ix2 q l)) _ _ (by omega) (fun _ => by dsimp only; omega)

theorem v77 : val_main_v77 (F := Ideal) x0 x1 x3 (ix2 r l) = d x0 x1 l r * x3 (ix2 0 l) := by
  rw [← v39]
  pointwise [val_main_v77, val_main_v76, val_main_v13, val_main_v12, val_main_v11]

theorem v82 : val_main_v82 (F := Ideal) x0 x1 x3 (ix2 ⟨2 + r.val, by omega⟩ l) = pd (d x0 x1 l) (18 + r.val) * x3 (ix2 0 l) := by
  rw [← pd_mul, ← funext fun q => v77 x0 x1 x3 q l]
  pointwise [val_main_v82, val_main_cst_20]
  exact dite_pd (fun q => val_main_v77 (F := Ideal) x0 x1 x3 (ix2 q l)) _ _ (by omega) (fun _ => by dsimp only; omega)

theorem v87 : val_main_v87 (F := Ideal) x0 x1 x3 (ix2 r l) = du x0 x1 x3 r l := by
  have e : val_main_v87 (F := Ideal) x0 x1 x3 (ix2 r l) = val_main_v50 (F := Ideal) x0 x1 x3 (ix2 ⟨2 + r.val, by omega⟩ l)
      + val_main_v60 (F := Ideal) x0 x1 x3 (ix2 ⟨2 + r.val, by omega⟩ l) + val_main_v71 (F := Ideal) x0 x1 x3 (ix2 ⟨2 + r.val, by omega⟩ l)
      + val_main_v82 (F := Ideal) x0 x1 x3 (ix2 ⟨2 + r.val, by omega⟩ l) := by
    pointwise [val_main_v87, val_main_v85, val_main_v83, val_main_v72, val_main_v61]
  rw [e, v50, v60, v71, v82]
  unfold du
  abel

/-! ### The taps' gradient -/

theorem v7 (p : Fin 8195) : val_main_v7 (F := Ideal) x2 (ix2 p l) = pd (u x2 l) (14 + p.val) := by
  have e (q : Fin 8192) : val_main_v3 (F := Ideal) x2 (ix2 q l) = u x2 l q := by
    unfold u
    pointwise [val_main_v3, val_main_v2]
  pointwise [val_main_v7, val_main_v5, val_main_v6, val_main_cst_0, val_main_cst_1]
  by_cases h : p.val < 2
  · rw [dif_pos h, pd_out _ _ (by omega)]
  · rw [dif_neg h]
    simp only [e]
    exact dite_pd (u x2 l) _ _ (by omega) (fun _ => by dsimp only; omega)

theorem v48 : val_main_v48 (F := Ideal) x0 x1 x2 (ix2 0 l) = dw x0 x1 x2 3 l := by
  have e : val_main_v48 (F := Ideal) x0 x1 x2 (ix2 0 l)
      = ∑ q : Fin 8192, val_main_v7 (F := Ideal) x2 (ix2 ⟨3 + q.val, by omega⟩ l) * val_main_v39 (F := Ideal) x0 x1 (ix2 q l) := by
    pointwise [val_main_v48, val_main_v47, val_main_v44, val_main_v43, val_main_v42, val_main_v30, val_main_cst_5, val_main_cst_6]
    exact Fin.sum_univ_one _
  rw [e]
  refine Finset.sum_congr rfl fun q _ => ?_
  rw [v7, v39, mul_comm]
  exact congrArg (fun p => _ * pd _ p) (by simp <;> omega)

theorem v57 : val_main_v57 (F := Ideal) x0 x1 x2 (ix2 0 l) = dw x0 x1 x2 2 l := by
  have e : val_main_v57 (F := Ideal) x0 x1 x2 (ix2 0 l)
      = ∑ q : Fin 8192, val_main_v7 (F := Ideal) x2 (ix2 ⟨2 + q.val, by omega⟩ l) * val_main_v39 (F := Ideal) x0 x1 (ix2 q l) := by
    pointwise [val_main_v57, val_main_v56, val_main_v53, val_main_v52, val_main_v51, val_main_v23, val_main_cst_9, val_main_cst_10]
    exact Fin.sum_univ_one _
  rw [e]
  refine Finset.sum_congr rfl fun q _ => ?_
  rw [v7, v39, mul_comm]
  exact congrArg (fun p => _ * pd _ p) (by simp <;> omega)

theorem v68 : val_main_v68 (F := Ideal) x0 x1 x2 (ix2 0 l) = dw x0 x1 x2 1 l := by
  have e : val_main_v68 (F := Ideal) x0 x1 x2 (ix2 0 l)
      = ∑ q : Fin 8192, val_main_v7 (F := Ideal) x2 (ix2 ⟨1 + q.val, by omega⟩ l) * val_main_v39 (F := Ideal) x0 x1 (ix2 q l) := by
    pointwise [val_main_v68, val_main_v67, val_main_v64, val_main_v63, val_main_v62, val_main_v16, val_main_cst_13, val_main_cst_14]
    exact Fin.sum_univ_one _
  rw [e]
  refine Finset.sum_congr rfl fun q _ => ?_
  rw [v7, v39, mul_comm]
  exact congrArg (fun p => _ * pd _ p) (by simp <;> omega)

theorem v79 : val_main_v79 (F := Ideal) x0 x1 x2 (ix2 0 l) = dw x0 x1 x2 0 l := by
  have e : val_main_v79 (F := Ideal) x0 x1 x2 (ix2 0 l)
      = ∑ q : Fin 8192, val_main_v7 (F := Ideal) x2 (ix2 ⟨q.val, by omega⟩ l) * val_main_v39 (F := Ideal) x0 x1 (ix2 q l) := by
    pointwise [val_main_v79, val_main_v78, val_main_v75, val_main_v74, val_main_v73, val_main_v10, val_main_cst_17, val_main_cst_18]
    exact Fin.sum_univ_one _
  rw [e]
  refine Finset.sum_congr rfl fun q _ => ?_
  rw [v7, v39, mul_comm]
  exact congrArg (fun p => _ * pd _ p) (by simp <;> omega)

theorem v81 (k : Fin 4) : val_main_v81 (F := Ideal) x0 x1 x2 (ix2 k l) = dw x0 x1 x2 k l := by
  match k with
  | 0 =>
    rw [← v79]
    pointwise [val_main_v81, val_main_v80, val_main_v70, val_main_v69, val_main_v59, val_main_v58, val_main_v49, val_main_cst_7,
      val_main_cst_11, val_main_cst_15, val_main_cst_19]
  | 1 =>
    rw [← v68]
    pointwise [val_main_v81, val_main_v80, val_main_v70, val_main_v69, val_main_v59, val_main_v58, val_main_v49, val_main_cst_7,
      val_main_cst_11, val_main_cst_15, val_main_cst_19]
  | 2 =>
    rw [← v57]
    pointwise [val_main_v81, val_main_v80, val_main_v70, val_main_v69, val_main_v59, val_main_v58, val_main_v49, val_main_cst_7,
      val_main_cst_11, val_main_cst_15, val_main_cst_19]
  | 3 =>
    rw [← v48]
    pointwise [val_main_v81, val_main_v80, val_main_v70, val_main_v69, val_main_v59, val_main_v58, val_main_v49, val_main_cst_7,
      val_main_cst_11, val_main_cst_15, val_main_cst_19]

end Cert.Reference2Ideal.Conv
-- ==== Proof.ConvClaim.lean ====
/-
  THE CLAIM: the convolution's gradient. The reference's three results are read at an index and are the kernel's, for all argument
  arrays.
-/
module

public import proofs.«01_k».proof.Defs
public import proofs.«01_k».proof.Proof.ConvKernel
public import proofs.«01_k».proof.Proof.ConvReference
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Claim

@[expose] public section

set_option maxRecDepth 16384

noncomputable section

namespace Cert.Conv

open Idealize.ShloMosaic Idealize.SL.Sem

/-- The reference's frame: its run writes no argument, and it declares no semaphore. -/
theorem frame_reference : Cert.quiescent_Reference2Ideal (hReference2Ideal := Cert.Reference2Ideal.Gen.facts) := fun m ρ _ =>
  (θ_run (Cert.Reference2Ideal.defs (F := Ideal)) _ _).mono
    (fun r h => ⟨fun c => (h c).2.2.2, sem_eq_zero_of_no_sems (by decide) r.2⟩)
    (Cert.Reference2Ideal.Value.run (F := Ideal) m ρ)

theorem algebraic : Cert.algebraic_Kernel2Ideal_Reference2Ideal
    (hKernel2Ideal := Cert.Kernel2Ideal.Gen.facts) (hReference2Ideal := Cert.Reference2Ideal.Gen.facts) := by
  pair_intro
  · run_from Cert.Kernel2Ideal.Value.run_blocks m g
  · refine (θ_run (Cert.Reference2Ideal.defs (F := Ideal)) _ _).mono (fun r h c => ?_)
      (Cert.Reference2Ideal.Value.run (F := Ideal) m' g')
    obtain ⟨a0, a1, a2, hf⟩ := h c
    obtain ⟨e0, e1, e2, e3⟩ := hagree c
    refine ⟨a0.trans ?_, a1.trans ?_, a2.trans ?_, hf⟩
    · refine (Cert.Reference2Ideal.Read.val_main_v87_eq _ _ _).trans ?_
      rw [e0, e1, e3, Cert.Kernel2Ideal.Conv.final10]
      funext i; idx_vars i
      exact Cert.Reference2Ideal.Conv.v87 _ _ _ i0 i1
    · rw [Cert.Reference2Ideal.Read.val_main_v81_eq, e0, e1, e2, Cert.Kernel2Ideal.Conv.final11]
      funext i; idx_vars i
      exact Cert.Reference2Ideal.Conv.v81 _ _ _ i1 i0
    · refine (Cert.Reference2Ideal.Read.val_main_v41_eq _ _).trans ?_
      rw [e0, e1, Cert.Kernel2Ideal.Conv.final12]
      funext i; idx_vars i
      exact (by rw [Fin.fin_one_eq_zero i0]; exact Cert.Reference2Ideal.Conv.v41 _ _ i1)

end Cert.Conv
-- ==== Proof.FConvKernel.lean ====
/-
  WHAT THE CONVOLUTION LEAVES IN ITS RESULT. Eight points; point `t` reads rows `1024 t … 1024 t + 1023` of the projection's
  first columns and the sixteen rows before and after, with zeros where the sequence ends, and writes the same rows of the result.
-/
module

public import proofs.«01_k».proof.Proof.ConvMath
public import proofs.«01_k».proof.Proof.Gen.Kernel13Ideal.Value

@[expose] public section

set_option maxRecDepth 16384

noncomputable section

namespace Cert.Kernel13Ideal.FConv

open Cert.Kernel13Ideal Cert.Kernel13Ideal.Gen Cert.Conv
open Idealize.ShloMosaic Idealize.ShloMosaic.TcCoe Idealize.SL.Sem
open Idealize.ShloMosaic.Pipeline (Dat)

theorem first_pt : ∀ t : Fin grid0.N, Scalar.cmpi .sgt (BitVec.ofNat 32 (grid0.coords t 0).val) 0#32 = if t.val = 0 then 0#1 else 1#1 := by
  decide +kernel
theorem last_pt : ∀ t : Fin grid0.N, Scalar.cmpi .slt (BitVec.ofNat 32 (grid0.coords t 0).val) 7#32 = if t.val = 7 then 0#1 else 1#1 := by
  decide +kernel

theorem pay_cv (t : Fin grid0.N) (a c : FVec Ideal S16x1024 .bf16) (b : FVec Ideal S1024x1024 .bf16)
    (w0 w1 w2 w3 s : FVec Ideal S1x1024 .f32) (r l : Fin 1024) :
    k0_pay1 (F := Ideal) (k0_pay2 (F := Ideal) (grid0.coords t) a c b w0 w1 w2 w3) s (ix2 r l)
      = blk t.val a c b l ⟨14 + r.val, by omega⟩ * w0 (ix2 0 l) + blk t.val a c b l ⟨15 + r.val, by omega⟩ * w1 (ix2 0 l)
        + blk t.val a c b l ⟨16 + r.val, by omega⟩ * w2 (ix2 0 l) + blk t.val a c b l ⟨17 + r.val, by omega⟩ * w3 (ix2 0 l)
        + s (ix2 0 l) := by
  unfold blk ext
  pointwise [k0_pay1, k0_pay2]
  rw [first_pt, last_pt]
  simp only [select_if, turn r]

variable (m : (ℓ : Loc nD τ sig) → Buf (Elt Ideal) ℓ)

theorem idx : ∀ t : Fin cfg0.N, win0_0.index t = ![t.val, 0] ∧ win0_1.index t = ![64 * t.val - 1, 0] ∧ win0_2.index t = ![min (64 * (t.val + 1)) 511, 0]
    ∧ win0_3.index t = ![0, 0] ∧ win0_4.index t = ![0, 0] ∧ win0_5.index t = ![t.val, 0] ∧ t.val < 8 :=
  (by decide +kernel : ∀ t : Fin grid0.N, _)

/-- The row of the whole array that row `r` of point `t`'s block is, and the rows before and after the block. -/
abbrev row (t : Fin cfg0.N) (r : Fin 1024) : Fin 8192 := ⟨t.val * 1024 + r.val, by have := idx t; omega⟩
abbrev rowP (t : Fin cfg0.N) (q : Fin 16) : Fin 8192 := ⟨(64 * t.val - 1) * 16 + q.val, by have := idx t; omega⟩
abbrev rowN (t : Fin cfg0.N) (q : Fin 16) : Fin 8192 := ⟨min (64 * (t.val + 1)) 511 * 16 + q.val, by have := idx t; omega⟩

section
variable (c : Dev nD) (t : Fin cfg0.N) (r l : Fin 1024) (q : Fin 16)

theorem x0_apply : X0_0 m c t (ix2 r l) = m (c.tc.loc main_arg0) (ix2 (row t r) ⟨l.val, by omega⟩) := by
  unfold X0_0 Pipeline.Window.fill
  rw [dif_pos (moved0_0 t _)]
  blk_ext [iblk, V, idx t]
theorem x1_apply : X0_1 m c t (ix2 q l) = m (c.tc.loc main_arg0) (ix2 (rowP t q) ⟨l.val, by omega⟩) := by
  unfold X0_1 Pipeline.Window.fill
  rw [dif_pos (moved0_1 t _)]
  blk_ext [iblk, V, idx t]
theorem x2_apply : X0_2 m c t (ix2 q l) = m (c.tc.loc main_arg0) (ix2 (rowN t q) ⟨l.val, by omega⟩) := by
  unfold X0_2 Pipeline.Window.fill
  rw [dif_pos (moved0_2 t _)]
  blk_ext [iblk, V, idx t]
theorem i3_apply (k : Fin 4) : iblk m c 3 t (ix2 k l) = m (c.tc.loc main_arg1) (ix2 k l) := by blk_ext [iblk, V, idx t]
theorem i4_apply (k : Fin 1) : iblk m c 4 t (ix2 k l) = m (c.tc.loc main_arg2) (ix2 k l) := by blk_ext [iblk, V, idx t]

end

theorem ld0 (x : Vec Ideal S4x1024 .f32) (l : Fin 1024) :
    View.ld x (Rect.unit ![0, 0] ![1, 1024] inb_S4x1024_S1x1024_0_0) (ix2 0 l) = x (ix2 0 l) := by pointwise [View.ld]
theorem ld1 (x : Vec Ideal S4x1024 .f32) (l : Fin 1024) :
    View.ld x (Rect.unit ![1, 0] ![1, 1024] inb_S4x1024_S1x1024_1_0) (ix2 0 l) = x (ix2 1 l) := by pointwise [View.ld]
theorem ld2 (x : Vec Ideal S4x1024 .f32) (l : Fin 1024) :
    View.ld x (Rect.unit ![2, 0] ![1, 1024] inb_S4x1024_S1x1024_2_0) (ix2 0 l) = x (ix2 2 l) := by pointwise [View.ld]
theorem ld3 (x : Vec Ideal S4x1024 .f32) (l : Fin 1024) :
    View.ld x (Rect.unit ![3, 0] ![1, 1024] inb_S4x1024_S1x1024_3_0) (ix2 0 l) = x (ix2 3 l) := by pointwise [View.ld]

/-- Position `p` of a point's stacked block is position `1024 t + p` of the padded channel. -/
theorem blk_apply (c : Dev nD) (t : Fin cfg0.N) (l : Fin 1024) (p : Fin 1056) : blk t.val (X0_1 m c t) (X0_2 m c t) (X0_0 m c t) l p
    = pd (u (m (c.tc.loc main_arg0)) l) (t.val * 1024 + p.val) :=
  blk_eq (u (m (c.tc.loc main_arg0)) l) t.val (by have := idx t; omega) _ _ _ l p (fun q => x1_apply m c t l q)
    (fun q => x0_apply m c t q l) (fun q => x2_apply m c t l q)

theorem out5 (c : Dev nD) (t : Fin cfg0.N) (r l : Fin 1024) :
    outsAt0 m c t (ix2 r l) = cv (m (c.tc.loc main_arg0)) (m (c.tc.loc main_arg1)) (m (c.tc.loc main_arg2)) (row t r) l := by
  unfold outsAt0; frame_out
  rw [pay_cv, ld0, ld1, ld2, ld3]
  simp only [blk_apply, i3_apply, i4_apply]
  unfold cv
  simp only [show ∀ a : ℕ, t.val * 1024 + (a + r.val) = a + (row t r).val from fun a => by dsimp only; omega]

theorem final5 (c : Dev nD) : (dats m 0 c).arrAt 5 cfg0.N = fun i =>
    cv (m (c.tc.loc main_arg0)) (m (c.tc.loc main_arg1)) (m (c.tc.loc main_arg2)) (i 0) (i 1) := by
  refine (dats m 0 c).arrAt_eq_of_covers 5 _ (by decide +kernel) fun t _ y => ?_
  idx_vars y
  blk_simp
  rw [after0_5, out5]
  refine Eq.trans (b := cv _ _ _ (row t y0) y1) rfl (congrArg₂ _ (Fin.ext ?_) (Fin.ext ?_)) <;> blk_simp [idx t]

end Cert.Kernel13Ideal.FConv
-- ==== Proof.FConvClaim.lean ====
/-
  THE CLAIM: the convolution. The reference's result is read at an index and is the kernel's, for all argument arrays.
-/
module

public import proofs.«01_k».proof.Defs
public import proofs.«01_k».proof.Proof.FConvKernel
public import proofs.«01_k».proof.Proof.Gen.Reference13Ideal.Run
public import proofs.«01_k».proof.Proof.Gen.Reference13Ideal.Read
public import Idealize.ShloMosaic.Adequacy
public import Idealize.ShloMosaic.Init
public import Idealize.ShloMosaic.Lib.Claim

@[expose] public section

set_option maxRecDepth 16384

noncomputable section

namespace Cert.Reference13Ideal.FConv

open Cert.Reference13Ideal Cert.Reference13Ideal.Gen Cert.Reference13Ideal.Read Cert.Conv
open Idealize.ShloMosaic Idealize.ShloMosaic.TcCoe

variable (x0 : FVec Ideal Prj .bf16) (x1 : FVec Ideal Taps .f32) (x2 : FVec Ideal ⟨2, ![1, 1024]⟩ .f32) (r : Fin 8192) (l : Fin 1024)

theorem v4 (p : Fin 8195) : val_main_v4 (F := Ideal) x0 (ix2 p l) = pd (u x0 l) (14 + p.val) := by
  have e (q : Fin 8192) : val_main_v1 (F := Ideal) x0 (ix2 q l) = u x0 l q := by
    unfold u
    pointwise [val_main_v1, val_main_v0]
  pointwise [val_main_v4, val_main_v2, val_main_v3, val_main_cst, val_main_cst_0]
  by_cases h : p.val < 2
  · rw [dif_pos h, pd_out _ _ (by omega)]
  · rw [dif_neg h]
    simp only [e]
    exact dite_pd (u x0 l) _ _ (by omega) (fun _ => by dsimp only; omega)

theorem v33 : val_main_v33 (F := Ideal) x0 x1 x2 (ix2 r l) = cv x0 x1 x2 r l := by
  unfold cv
  pointwise [val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8,
    val_main_v7, val_main_v6, val_main_v5]
  rw [v4, v4, v4, v4]
  simp only [← Nat.add_assoc, Nat.reduceAdd]

end Cert.Reference13Ideal.FConv

namespace Cert.FConv

open Idealize.ShloMosaic Idealize.SL.Sem

/-- The reference's frame: its run writes no argument, and it declares no semaphore. -/
theorem frame_reference : Cert.quiescent_Reference13Ideal (hReference13Ideal := Cert.Reference13Ideal.Gen.facts) := fun m ρ _ =>
  (θ_run (Cert.Reference13Ideal.defs (F := Ideal)) _ _).mono
    (fun r h => ⟨fun c => (h c).2, sem_eq_zero_of_no_sems (by decide) r.2⟩)
    (Cert.Reference13Ideal.Value.run (F := Ideal) m ρ)

theorem algebraic : Cert.algebraic_Kernel13Ideal_Reference13Ideal
    (hKernel13Ideal := Cert.Kernel13Ideal.Gen.facts) (hReference13Ideal := Cert.Reference13Ideal.Gen.facts) := by
  pair_intro
  · run_from Cert.Kernel13Ideal.Value.run_blocks m g
  · refine (θ_run (Cert.Reference13Ideal.defs (F := Ideal)) _ _).mono (fun r h c => ?_)
      (Cert.Reference13Ideal.Value.run (F := Ideal) m' g')
    obtain ⟨a0, hf⟩ := h c
    obtain ⟨e0, e1, e2⟩ := hagree c
    refine ⟨a0.trans ?_, hf⟩
    · refine (Cert.Reference13Ideal.Read.val_main_v33_eq _ _ _).trans ?_
      rw [e0, e1, e2, Cert.Kernel13Ideal.FConv.final5]
      funext i; idx_vars i
      exact Cert.Reference13Ideal.FConv.v33 _ _ _ i0 i1

end Cert.FConv
-- ==== Proof.AdamMath.lean ====
/-
  THE OPTIMISER'S STEP on one weight, the mathematics: the gradient summed over the eight devices, the two moments, and AdamW's
  change of the weight, with the constants as the programs' words.
-/
module

public import Idealize.ShloMosaic.Lib.Pipeline.ValueKit
public import Idealize.ShloMosaic.Lib.Pipeline.ReadBack
public import Idealize.ShloMosaic.Lib.Pointwise

@[expose] public section

noncomputable section

namespace Cert.Adam

open Idealize.ShloMosaic

/-- The sum of the eight devices' parts, in the devices' order. -/
def sum8 (f : Fin 8 → EReal) : EReal := f 0 + f 1 + f 2 + f 3 + f 4 + f 5 + f 6 + f 7

theorem sum8_eq (f : Fin 8 → EReal) : ∑ k, f k = sum8 f := Fin.sum_univ_eight f

/-- The new first moment from the gradient and the old one. -/
def mN (g m : EReal) : EReal := Ideal.ofBits .f32 0x3F666666#32 * m + Ideal.ofBits .f32 0x3DCCCCCD#32 * g

/-- The new second moment. -/
def vN (g v : EReal) : EReal := Ideal.ofBits .f32 0x3F7FBE77#32 * v + Ideal.ofBits .f32 0x3A83126F#32 * (g * g)

/-- The change of the weight. -/
def dN (g w m v : EReal) : EReal := Ideal.ofBits .f32 0xBA83126F#32 *
  (Ideal.div (Ideal.div (mN g m) (Ideal.ofBits .f32 0x3F26BD02#32))
      (Ideal.sqrt (Ideal.div (vN g v) (Ideal.ofBits .f32 0x3C231ACC#32)) + Ideal.ofBits .f32 0x322BCC77#32)
    + Ideal.ofBits .f32 0x3C23D70A#32 * w)

end Cert.Adam
-- ==== Proof.AdamInKernel.lean ====
/-
  WHAT THE OPTIMISER of w_in and w_ffn_in LEAVES IN ITS FOUR RESULTS: the gradient, the weight's change and the two moments, each index
  from the same index of the arguments. Points of 176 rows.
-/
module

public import proofs.«01_k».proof.Proof.AdamMath
public import proofs.«01_k».proof.Proof.Gen.Kernel20Ideal.Value

@[expose] public section

set_option maxRecDepth 16384

noncomputable section

namespace Cert.Kernel20Ideal.AdamIn

open Cert.Kernel20Ideal Cert.Kernel20Ideal.Gen Cert.Adam
open Idealize.ShloMosaic Idealize.ShloMosaic.TcCoe Idealize.SL.Sem
open Idealize.ShloMosaic.Pipeline (Dat)

/-! ### The results from the whole arrays -/

def gF (x0 : FVec Ideal ⟨3, ![8, 704, 1024]⟩ .bf16) (r : Fin 704) (l : Fin 1024) : EReal := sum8 (fun q => x0 (ix3 q r l))
def dF (x0 : FVec Ideal ⟨3, ![8, 704, 1024]⟩ .bf16) (x1 : FVec Ideal ⟨3, ![1, 704, 1024]⟩ .f32) (x2 : FVec Ideal ⟨3, ![1, 704, 1024]⟩ .f32) (x3 : FVec Ideal ⟨3, ![1, 704, 1024]⟩ .f32) (r : Fin 704) (l : Fin 1024) : EReal := dN (sum8 (fun q => x0 (ix3 q r l))) (x1 (ix3 0 r l)) (x2 (ix3 0 r l)) (x3 (ix3 0 r l))
def mF (x0 : FVec Ideal ⟨3, ![8, 704, 1024]⟩ .bf16) (x2 : FVec Ideal ⟨3, ![1, 704, 1024]⟩ .f32) (r : Fin 704) (l : Fin 1024) : EReal := mN (sum8 (fun q => x0 (ix3 q r l))) (x2 (ix3 0 r l))
def vF (x0 : FVec Ideal ⟨3, ![8, 704, 1024]⟩ .bf16) (x3 : FVec Ideal ⟨3, ![1, 704, 1024]⟩ .f32) (r : Fin 704) (l : Fin 1024) : EReal := vN (sum8 (fun q => x0 (ix3 q r l))) (x3 (ix3 0 r l))

/-! ### The body at one index of a block -/

section
variable (x0 : Vec Ideal S8x176x1024 .bf16) (x1 x2 x3 : Vec Ideal S1x176x1024 .f32) (r : Fin 176) (l : Fin 1024)

theorem out4 : out0_4 x0 x1 x2 x3 (ix3 0 r l) = sum8 (fun q => x0 (ix3 q r l)) := by
  unfold sum8
  frame_out
  pointwise [k0_pay1, k0_pay2, k0_pay3, k0_pay4, k0_pay5, k0_pay6, k0_pay7, k0_pay8, View.ld]

theorem out6 : out0_6 x0 x1 x2 x3 (ix3 0 r l) = mN (sum8 (fun q => x0 (ix3 q r l))) (x2 (ix3 0 r l)) := by
  unfold mN sum8
  frame_out
  pointwise [k0_pay1, k0_pay2, k0_pay3, k0_pay4, k0_pay5, k0_pay6, k0_pay7, k0_pay8, View.ld]

theorem out7 : out0_7 x0 x1 x2 x3 (ix3 0 r l) = vN (sum8 (fun q => x0 (ix3 q r l))) (x3 (ix3 0 r l)) := by
  unfold vN sum8
  frame_out
  pointwise [k0_pay1, k0_pay2, k0_pay3, k0_pay4, k0_pay5, k0_pay6, k0_pay7, k0_pay8, View.ld]

theorem out5 : out0_5 x0 x1 x2 x3 (ix3 0 r l) = dN (sum8 (fun q => x0 (ix3 q r l))) (x1 (ix3 0 r l)) (x2 (ix3 0 r l)) (x3 (ix3 0 r l)) := by
  unfold dN mN vN sum8
  frame_out
  pointwise [k0_pay1, k0_pay2, k0_pay3, k0_pay4, k0_pay5, k0_pay6, k0_pay7, k0_pay8, View.ld]

end

/-! ### The result arrays -/

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ t.val < 4 :=
  (by decide +kernel : ∀ t : Fin grid0.N, _)

/-- The row of the whole array that row `r` of point `t`'s block is. -/
abbrev row (t : Fin cfg0.N) (r : Fin 176) : Fin 704 := ⟨t.val * 176 + r.val, by have := idx t; omega⟩

section
variable (c : Dev nD) (t : Fin cfg0.N) (r : Fin 176) (l : Fin 1024)

theorem i0_apply (q : Fin 8) : iblk m c 0 t (ix3 q r l) = m (c.tc.loc main_arg0) (ix3 q (row t r) l) := by blk_ext [iblk, V, idx t]
theorem i1_apply : iblk m c 1 t (ix3 0 r l) = m (c.tc.loc main_arg1) (ix3 0 (row t r) l) := by blk_ext [iblk, V, idx t]
theorem i2_apply : iblk m c 2 t (ix3 0 r l) = m (c.tc.loc main_arg2) (ix3 0 (row t r) l) := by blk_ext [iblk, V, idx t]
theorem i3_apply : iblk m c 3 t (ix3 0 r l) = m (c.tc.loc main_arg3) (ix3 0 (row t r) l) := by blk_ext [iblk, V, idx t]

end

theorem final4 (c : Dev nD) : (dats m 0 c).arrAt 4 cfg0.N = fun i => gF (m (c.tc.loc main_arg0)) (i 1) (i 2) := by
  refine (dats m 0 c).arrAt_eq_of_covers 4 _ (by decide +kernel) fun t _ y => ?_
  idx_vars y
  blk_simp
  rw [after0_4, Fin.fin_one_eq_zero y0, out4]
  simp only [i0_apply]
  refine Eq.trans (b := gF _ (row t y1) y2) rfl (congrArg₂ _ (Fin.ext ?_) (Fin.ext ?_)) <;> blk_simp [idx t]

theorem final5 (c : Dev nD) : (dats m 0 c).arrAt 5 cfg0.N = fun i => dF (m (c.tc.loc main_arg0)) (m (c.tc.loc main_arg1)) (m (c.tc.loc main_arg2)) (m (c.tc.loc main_arg3)) (i 1) (i 2) := by
  refine (dats m 0 c).arrAt_eq_of_covers 5 _ (by decide +kernel) fun t _ y => ?_
  idx_vars y
  blk_simp
  rw [after0_5, Fin.fin_one_eq_zero y0, out5]
  simp only [i0_apply, i1_apply, i2_apply, i3_apply]
  refine Eq.trans (b := dF _ _ _ _ (row t y1) y2) rfl (congrArg₂ _ (Fin.ext ?_) (Fin.ext ?_)) <;> blk_simp [idx t]

theorem final6 (c : Dev nD) : (dats m 0 c).arrAt 6 cfg0.N = fun i => mF (m (c.tc.loc main_arg0)) (m (c.tc.loc main_arg2)) (i 1) (i 2) := by
  refine (dats m 0 c).arrAt_eq_of_covers 6 _ (by decide +kernel) fun t _ y => ?_
  idx_vars y
  blk_simp
  rw [after0_6, Fin.fin_one_eq_zero y0, out6]
  simp only [i0_apply, i2_apply]
  refine Eq.trans (b := mF _ _ (row t y1) y2) rfl (congrArg₂ _ (Fin.ext ?_) (Fin.ext ?_)) <;> blk_simp [idx t]

theorem final7 (c : Dev nD) : (dats m 0 c).arrAt 7 cfg0.N = fun i => vF (m (c.tc.loc main_arg0)) (m (c.tc.loc main_arg3)) (i 1) (i 2) := by
  refine (dats m 0 c).arrAt_eq_of_covers 7 _ (by decide +kernel) fun t _ y => ?_
  idx_vars y
  blk_simp
  rw [after0_7, Fin.fin_one_eq_zero y0, out7]
  simp only [i0_apply, i3_apply]
  refine Eq.trans (b := vF _ _ (row t y1) y2) rfl (congrArg₂ _ (Fin.ext ?_) (Fin.ext ?_)) <;> blk_simp [idx t]

end Cert.Kernel20Ideal.AdamIn
-- ==== Proof.AdamInClaim.lean ====
/-
  THE CLAIM: the optimiser of w_in and w_ffn_in. The reference's four results are read at an index and are the
  kernel's, for all argument arrays.
-/
module

public import proofs.«01_k».proof.Defs
public import proofs.«01_k».proof.Proof.AdamInKernel
public import proofs.«01_k».proof.Proof.Gen.Reference20Ideal.Run
public import proofs.«01_k».proof.Proof.Gen.Reference20Ideal.Read
public import Idealize.ShloMosaic.Adequacy
public import Idealize.ShloMosaic.Init
public import Idealize.ShloMosaic.Lib.Claim

@[expose] public section

set_option maxRecDepth 16384

noncomputable section

namespace Cert.Reference20Ideal.AdamIn

open Cert.Reference20Ideal Cert.Reference20Ideal.Gen Cert.Reference20Ideal.Read Cert.Adam
open Idealize.ShloMosaic Idealize.ShloMosaic.TcCoe

variable (x0 : FVec Ideal ⟨3, ![8, 704, 1024]⟩ .bf16) (x1 x2 x3 : FVec Ideal ⟨3, ![1, 704, 1024]⟩ .f32) (r : Fin 704) (l : Fin 1024)

open Cert.Kernel20Ideal.AdamIn (gF dF mF vF)

theorem v2 : val_main_v2 (F := Ideal) x0 (ix3 0 r l) = gF x0 r l := by
  unfold gF
  rw [← sum8_eq]
  pointwise [val_main_v2, val_main_v1, val_main_v0, val_main_cst]

theorem v7 : val_main_v7 (F := Ideal) x0 x2 (ix3 0 r l) = mF x0 x2 r l := by
  unfold mF mN
  rw [show sum8 (fun q => x0 (ix3 q r l)) = val_main_v2 (F := Ideal) x0 (ix3 0 r l) from (v2 x0 r l).symm]
  pointwise [val_main_v7, val_main_v6, val_main_v5, val_main_v4, val_main_v3, val_main_cst_0, val_main_cst_1]

theorem v13 : val_main_v13 (F := Ideal) x0 x3 (ix3 0 r l) = vF x0 x3 r l := by
  unfold vF vN
  rw [show sum8 (fun q => x0 (ix3 q r l)) = val_main_v2 (F := Ideal) x0 (ix3 0 r l) from (v2 x0 r l).symm]
  pointwise [val_main_v13, val_main_v12, val_main_v11, val_main_v10, val_main_v9, val_main_v8, val_main_cst_2, val_main_cst_3]

theorem v26 : val_main_v26 (F := Ideal) x0 x1 x2 x3 (ix3 0 r l) = dF x0 x1 x2 x3 r l := by
  unfold dF dN
  rw [show mN _ _ = val_main_v7 (F := Ideal) x0 x2 (ix3 0 r l) from (v7 x0 x2 r l).symm,
    show vN _ _ = val_main_v13 (F := Ideal) x0 x3 (ix3 0 r l) from (v13 x0 x3 r l).symm]
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

end Cert.Reference20Ideal.AdamIn

namespace Cert.AdamIn

open Idealize.ShloMosaic Idealize.SL.Sem

/-- The reference's frame: its run writes no argument, and it declares no semaphore. -/
theorem frame_reference : Cert.quiescent_Reference20Ideal (hReference20Ideal := Cert.Reference20Ideal.Gen.facts) := fun m ρ _ =>
  (θ_run (Cert.Reference20Ideal.defs (F := Ideal)) _ _).mono
    (fun r h => ⟨fun c => (h c).2.2.2.2, sem_eq_zero_of_no_sems (by decide) r.2⟩)
    (Cert.Reference20Ideal.Value.run (F := Ideal) m ρ)

theorem algebraic : Cert.algebraic_Kernel20Ideal_Reference20Ideal
    (hKernel20Ideal := Cert.Kernel20Ideal.Gen.facts) (hReference20Ideal := Cert.Reference20Ideal.Gen.facts) := by
  pair_intro
  · run_from Cert.Kernel20Ideal.Value.run_blocks m g
  · refine (θ_run (Cert.Reference20Ideal.defs (F := Ideal)) _ _).mono (fun r h c => ?_)
      (Cert.Reference20Ideal.Value.run (F := Ideal) m' g')
    obtain ⟨a0, a1, a2, a3, hf⟩ := h c
    obtain ⟨e0, e1, e2, e3⟩ := hagree c
    refine ⟨a0.trans ?_, a1.trans ?_, a2.trans ?_, a3.trans ?_, hf⟩
    · refine (Cert.Reference20Ideal.Read.val_main_v2_eq _).trans ?_
      rw [e0, Cert.Kernel20Ideal.AdamIn.final4]
      funext i; idx_vars i
      exact (by rw [Fin.fin_one_eq_zero i0]; exact Cert.Reference20Ideal.AdamIn.v2 _ i1 i2)
    · refine (Cert.Reference20Ideal.Read.val_main_v26_eq _ _ _ _).trans ?_
      rw [e0, e1, e2, e3, Cert.Kernel20Ideal.AdamIn.final5]
      funext i; idx_vars i
      exact (by rw [Fin.fin_one_eq_zero i0]; exact Cert.Reference20Ideal.AdamIn.v26 _ _ _ _ i1 i2)
    · refine (Cert.Reference20Ideal.Read.val_main_v7_eq _ _).trans ?_
      rw [e0, e2, Cert.Kernel20Ideal.AdamIn.final6]
      funext i; idx_vars i
      exact (by rw [Fin.fin_one_eq_zero i0]; exact Cert.Reference20Ideal.AdamIn.v7 _ _ i1 i2)
    · refine (Cert.Reference20Ideal.Read.val_main_v13_eq _ _).trans ?_
      rw [e0, e3, Cert.Kernel20Ideal.AdamIn.final7]
      funext i; idx_vars i
      exact (by rw [Fin.fin_one_eq_zero i0]; exact Cert.Reference20Ideal.AdamIn.v13 _ _ i1 i2)

end Cert.AdamIn
-- ==== Proof.AdamOutKernel.lean ====
/-
  WHAT THE OPTIMISER of w_out LEAVES IN ITS FOUR RESULTS: the gradient, the weight's change and the two moments, each index
  from the same index of the arguments. The one point of 128 rows.
-/
module

public import proofs.«01_k».proof.Proof.AdamMath
public import proofs.«01_k».proof.Proof.Gen.Kernel21Ideal.Value

@[expose] public section

set_option maxRecDepth 16384

noncomputable section

namespace Cert.Kernel21Ideal.AdamOut

open Cert.Kernel21Ideal Cert.Kernel21Ideal.Gen Cert.Adam
open Idealize.ShloMosaic Idealize.ShloMosaic.TcCoe Idealize.SL.Sem
open Idealize.ShloMosaic.Pipeline (Dat)

/-! ### The results from the whole arrays -/

def gF (x0 : FVec Ideal ⟨3, ![8, 128, 1024]⟩ .bf16) (r : Fin 128) (l : Fin 1024) : EReal := sum8 (fun q => x0 (ix3 q r l))
def dF (x0 : FVec Ideal ⟨3, ![8, 128, 1024]⟩ .bf16) (x1 : FVec Ideal ⟨3, ![1, 128, 1024]⟩ .f32) (x2 : FVec Ideal ⟨3, ![1, 128, 1024]⟩ .f32) (x3 : FVec Ideal ⟨3, ![1, 128, 1024]⟩ .f32) (r : Fin 128) (l : Fin 1024) : EReal := dN (sum8 (fun q => x0 (ix3 q r l))) (x1 (ix3 0 r l)) (x2 (ix3 0 r l)) (x3 (ix3 0 r l))
def mF (x0 : FVec Ideal ⟨3, ![8, 128, 1024]⟩ .bf16) (x2 : FVec Ideal ⟨3, ![1, 128, 1024]⟩ .f32) (r : Fin 128) (l : Fin 1024) : EReal := mN (sum8 (fun q => x0 (ix3 q r l))) (x2 (ix3 0 r l))
def vF (x0 : FVec Ideal ⟨3, ![8, 128, 1024]⟩ .bf16) (x3 : FVec Ideal ⟨3, ![1, 128, 1024]⟩ .f32) (r : Fin 128) (l : Fin 1024) : EReal := vN (sum8 (fun q => x0 (ix3 q r l))) (x3 (ix3 0 r l))

/-! ### The body at one index of a block -/

section
variable (x0 : Vec Ideal S8x128x1024 .bf16) (x1 x2 x3 : Vec Ideal S1x128x1024 .f32) (r : Fin 128) (l : Fin 1024)

theorem out4 : out0_4 x0 x1 x2 x3 (ix3 0 r l) = sum8 (fun q => x0 (ix3 q r l)) := by
  unfold sum8
  frame_out
  pointwise [k0_pay1, k0_pay2, k0_pay3, k0_pay4, k0_pay5, k0_pay6, k0_pay7, k0_pay8, View.ld]

theorem out6 : out0_6 x0 x1 x2 x3 (ix3 0 r l) = mN (sum8 (fun q => x0 (ix3 q r l))) (x2 (ix3 0 r l)) := by
  unfold mN sum8
  frame_out
  pointwise [k0_pay1, k0_pay2, k0_pay3, k0_pay4, k0_pay5, k0_pay6, k0_pay7, k0_pay8, View.ld]

theorem out7 : out0_7 x0 x1 x2 x3 (ix3 0 r l) = vN (sum8 (fun q => x0 (ix3 q r l))) (x3 (ix3 0 r l)) := by
  unfold vN sum8
  frame_out
  pointwise [k0_pay1, k0_pay2, k0_pay3, k0_pay4, k0_pay5, k0_pay6, k0_pay7, k0_pay8, View.ld]

theorem out5 : out0_5 x0 x1 x2 x3 (ix3 0 r l) = dN (sum8 (fun q => x0 (ix3 q r l))) (x1 (ix3 0 r l)) (x2 (ix3 0 r l)) (x3 (ix3 0 r l)) := by
  unfold dN mN vN sum8
  frame_out
  pointwise [k0_pay1, k0_pay2, k0_pay3, k0_pay4, k0_pay5, k0_pay6, k0_pay7, k0_pay8, View.ld]

end

/-! ### The result arrays -/

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ t.val < 1 :=
  (by decide +kernel : ∀ t : Fin grid0.N, _)

/-- The row of the whole array that row `r` of point `t`'s block is. -/
abbrev row (t : Fin cfg0.N) (r : Fin 128) : Fin 128 := r

section
variable (c : Dev nD) (t : Fin cfg0.N) (r : Fin 128) (l : Fin 1024)

theorem i0_apply (q : Fin 8) : iblk m c 0 t (ix3 q r l) = m (c.tc.loc main_arg0) (ix3 q (row t r) l) := by blk_ext [iblk, V, idx t]
theorem i1_apply : iblk m c 1 t (ix3 0 r l) = m (c.tc.loc main_arg1) (ix3 0 (row t r) l) := by blk_ext [iblk, V, idx t]
theorem i2_apply : iblk m c 2 t (ix3 0 r l) = m (c.tc.loc main_arg2) (ix3 0 (row t r) l) := by blk_ext [iblk, V, idx t]
theorem i3_apply : iblk m c 3 t (ix3 0 r l) = m (c.tc.loc main_arg3) (ix3 0 (row t r) l) := by blk_ext [iblk, V, idx t]

end

theorem final4 (c : Dev nD) : (dats m 0 c).arrAt 4 cfg0.N = fun i => gF (m (c.tc.loc main_arg0)) (i 1) (i 2) := by
  refine (dats m 0 c).arrAt_eq_of_covers 4 _ (by decide +kernel) fun t _ y => ?_
  idx_vars y
  blk_simp
  rw [after0_4, Fin.fin_one_eq_zero y0, out4]
  simp only [i0_apply]
  refine Eq.trans (b := gF _ (row t y1) y2) rfl (congrArg₂ _ (Fin.ext ?_) (Fin.ext ?_)) <;> blk_simp [idx t]

theorem final5 (c : Dev nD) : (dats m 0 c).arrAt 5 cfg0.N = fun i => dF (m (c.tc.loc main_arg0)) (m (c.tc.loc main_arg1)) (m (c.tc.loc main_arg2)) (m (c.tc.loc main_arg3)) (i 1) (i 2) := by
  refine (dats m 0 c).arrAt_eq_of_covers 5 _ (by decide +kernel) fun t _ y => ?_
  idx_vars y
  blk_simp
  rw [after0_5, Fin.fin_one_eq_zero y0, out5]
  simp only [i0_apply, i1_apply, i2_apply, i3_apply]
  refine Eq.trans (b := dF _ _ _ _ (row t y1) y2) rfl (congrArg₂ _ (Fin.ext ?_) (Fin.ext ?_)) <;> blk_simp [idx t]

theorem final6 (c : Dev nD) : (dats m 0 c).arrAt 6 cfg0.N = fun i => mF (m (c.tc.loc main_arg0)) (m (c.tc.loc main_arg2)) (i 1) (i 2) := by
  refine (dats m 0 c).arrAt_eq_of_covers 6 _ (by decide +kernel) fun t _ y => ?_
  idx_vars y
  blk_simp
  rw [after0_6, Fin.fin_one_eq_zero y0, out6]
  simp only [i0_apply, i2_apply]
  refine Eq.trans (b := mF _ _ (row t y1) y2) rfl (congrArg₂ _ (Fin.ext ?_) (Fin.ext ?_)) <;> blk_simp [idx t]

theorem final7 (c : Dev nD) : (dats m 0 c).arrAt 7 cfg0.N = fun i => vF (m (c.tc.loc main_arg0)) (m (c.tc.loc main_arg3)) (i 1) (i 2) := by
  refine (dats m 0 c).arrAt_eq_of_covers 7 _ (by decide +kernel) fun t _ y => ?_
  idx_vars y
  blk_simp
  rw [after0_7, Fin.fin_one_eq_zero y0, out7]
  simp only [i0_apply, i3_apply]
  refine Eq.trans (b := vF _ _ (row t y1) y2) rfl (congrArg₂ _ (Fin.ext ?_) (Fin.ext ?_)) <;> blk_simp [idx t]

end Cert.Kernel21Ideal.AdamOut
-- ==== Proof.AdamOutClaim.lean ====
/-
  THE CLAIM: the optimiser of w_out. The reference's four results are read at an index and are the kernel's, for all
  argument arrays.
-/
module

public import proofs.«01_k».proof.Defs
public import proofs.«01_k».proof.Proof.AdamOutKernel
public import proofs.«01_k».proof.Proof.Gen.Reference21Ideal.Run
public import proofs.«01_k».proof.Proof.Gen.Reference21Ideal.Read
public import Idealize.ShloMosaic.Adequacy
public import Idealize.ShloMosaic.Init
public import Idealize.ShloMosaic.Lib.Claim

@[expose] public section

set_option maxRecDepth 16384

noncomputable section

namespace Cert.Reference21Ideal.AdamOut

open Cert.Reference21Ideal Cert.Reference21Ideal.Gen Cert.Reference21Ideal.Read Cert.Adam
open Idealize.ShloMosaic Idealize.ShloMosaic.TcCoe

variable (x0 : FVec Ideal ⟨3, ![8, 128, 1024]⟩ .bf16) (x1 x2 x3 : FVec Ideal ⟨3, ![1, 128, 1024]⟩ .f32) (r : Fin 128) (l : Fin 1024)

open Cert.Kernel21Ideal.AdamOut (gF dF mF vF)

theorem v2 : val_main_v2 (F := Ideal) x0 (ix3 0 r l) = gF x0 r l := by
  unfold gF
  rw [← sum8_eq]
  pointwise [val_main_v2, val_main_v1, val_main_v0, val_main_cst]

theorem v7 : val_main_v7 (F := Ideal) x0 x2 (ix3 0 r l) = mF x0 x2 r l := by
  unfold mF mN
  rw [show sum8 (fun q => x0 (ix3 q r l)) = val_main_v2 (F := Ideal) x0 (ix3 0 r l) from (v2 x0 r l).symm]
  pointwise [val_main_v7, val_main_v6, val_main_v5, val_main_v4, val_main_v3, val_main_cst_0, val_main_cst_1]

theorem v13 : val_main_v13 (F := Ideal) x0 x3 (ix3 0 r l) = vF x0 x3 r l := by
  unfold vF vN
  rw [show sum8 (fun q => x0 (ix3 q r l)) = val_main_v2 (F := Ideal) x0 (ix3 0 r l) from (v2 x0 r l).symm]
  pointwise [val_main_v13, val_main_v12, val_main_v11, val_main_v10, val_main_v9, val_main_v8, val_main_cst_2, val_main_cst_3]

theorem v26 : val_main_v26 (F := Ideal) x0 x1 x2 x3 (ix3 0 r l) = dF x0 x1 x2 x3 r l := by
  unfold dF dN
  rw [show mN _ _ = val_main_v7 (F := Ideal) x0 x2 (ix3 0 r l) from (v7 x0 x2 r l).symm,
    show vN _ _ = val_main_v13 (F := Ideal) x0 x3 (ix3 0 r l) from (v13 x0 x3 r l).symm]
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

end Cert.Reference21Ideal.AdamOut

namespace Cert.AdamOut

open Idealize.ShloMosaic Idealize.SL.Sem

/-- The reference's frame: its run writes no argument, and it declares no semaphore. -/
theorem frame_reference : Cert.quiescent_Reference21Ideal (hReference21Ideal := Cert.Reference21Ideal.Gen.facts) := fun m ρ _ =>
  (θ_run (Cert.Reference21Ideal.defs (F := Ideal)) _ _).mono
    (fun r h => ⟨fun c => (h c).2.2.2.2, sem_eq_zero_of_no_sems (by decide) r.2⟩)
    (Cert.Reference21Ideal.Value.run (F := Ideal) m ρ)

theorem algebraic : Cert.algebraic_Kernel21Ideal_Reference21Ideal
    (hKernel21Ideal := Cert.Kernel21Ideal.Gen.facts) (hReference21Ideal := Cert.Reference21Ideal.Gen.facts) := by
  pair_intro
  · run_from Cert.Kernel21Ideal.Value.run_blocks m g
  · refine (θ_run (Cert.Reference21Ideal.defs (F := Ideal)) _ _).mono (fun r h c => ?_)
      (Cert.Reference21Ideal.Value.run (F := Ideal) m' g')
    obtain ⟨a0, a1, a2, a3, hf⟩ := h c
    obtain ⟨e0, e1, e2, e3⟩ := hagree c
    refine ⟨a0.trans ?_, a1.trans ?_, a2.trans ?_, a3.trans ?_, hf⟩
    · refine (Cert.Reference21Ideal.Read.val_main_v2_eq _).trans ?_
      rw [e0, Cert.Kernel21Ideal.AdamOut.final4]
      funext i; idx_vars i
      exact (by rw [Fin.fin_one_eq_zero i0]; exact Cert.Reference21Ideal.AdamOut.v2 _ i1 i2)
    · refine (Cert.Reference21Ideal.Read.val_main_v26_eq _ _ _ _).trans ?_
      rw [e0, e1, e2, e3, Cert.Kernel21Ideal.AdamOut.final5]
      funext i; idx_vars i
      exact (by rw [Fin.fin_one_eq_zero i0]; exact Cert.Reference21Ideal.AdamOut.v26 _ _ _ _ i1 i2)
    · refine (Cert.Reference21Ideal.Read.val_main_v7_eq _ _).trans ?_
      rw [e0, e2, Cert.Kernel21Ideal.AdamOut.final6]
      funext i; idx_vars i
      exact (by rw [Fin.fin_one_eq_zero i0]; exact Cert.Reference21Ideal.AdamOut.v7 _ _ i1 i2)
    · refine (Cert.Reference21Ideal.Read.val_main_v13_eq _ _).trans ?_
      rw [e0, e3, Cert.Kernel21Ideal.AdamOut.final7]
      funext i; idx_vars i
      exact (by rw [Fin.fin_one_eq_zero i0]; exact Cert.Reference21Ideal.AdamOut.v13 _ _ i1 i2)

end Cert.AdamOut
-- ==== Proof.AdamFfnKernel.lean ====
/-
  WHAT THE OPTIMISER of w_ffn_out LEAVES IN ITS FOUR RESULTS: the gradient, the weight's change and the two moments, each index
  from the same index of the arguments. Points of 176 rows.
-/
module

public import proofs.«01_k».proof.Proof.AdamMath
public import proofs.«01_k».proof.Proof.Gen.Kernel22Ideal.Value

@[expose] public section

set_option maxRecDepth 16384

noncomputable section

namespace Cert.Kernel22Ideal.AdamFfn

open Cert.Kernel22Ideal Cert.Kernel22Ideal.Gen Cert.Adam
open Idealize.ShloMosaic Idealize.ShloMosaic.TcCoe Idealize.SL.Sem
open Idealize.ShloMosaic.Pipeline (Dat)

/-! ### The results from the whole arrays -/

def gF (x0 : FVec Ideal ⟨3, ![8, 352, 1024]⟩ .bf16) (r : Fin 352) (l : Fin 1024) : EReal := sum8 (fun q => x0 (ix3 q r l))
def dF (x0 : FVec Ideal ⟨3, ![8, 352, 1024]⟩ .bf16) (x1 : FVec Ideal ⟨3, ![1, 352, 1024]⟩ .f32) (x2 : FVec Ideal ⟨3, ![1, 352, 1024]⟩ .f32) (x3 : FVec Ideal ⟨3, ![1, 352, 1024]⟩ .f32) (r : Fin 352) (l : Fin 1024) : EReal := dN (sum8 (fun q => x0 (ix3 q r l))) (x1 (ix3 0 r l)) (x2 (ix3 0 r l)) (x3 (ix3 0 r l))
def mF (x0 : FVec Ideal ⟨3, ![8, 352, 1024]⟩ .bf16) (x2 : FVec Ideal ⟨3, ![1, 352, 1024]⟩ .f32) (r : Fin 352) (l : Fin 1024) : EReal := mN (sum8 (fun q => x0 (ix3 q r l))) (x2 (ix3 0 r l))
def vF (x0 : FVec Ideal ⟨3, ![8, 352, 1024]⟩ .bf16) (x3 : FVec Ideal ⟨3, ![1, 352, 1024]⟩ .f32) (r : Fin 352) (l : Fin 1024) : EReal := vN (sum8 (fun q => x0 (ix3 q r l))) (x3 (ix3 0 r l))

/-! ### The body at one index of a block -/

section
variable (x0 : Vec Ideal S8x176x1024 .bf16) (x1 x2 x3 : Vec Ideal S1x176x1024 .f32) (r : Fin 176) (l : Fin 1024)

theorem out4 : out0_4 x0 x1 x2 x3 (ix3 0 r l) = sum8 (fun q => x0 (ix3 q r l)) := by
  unfold sum8
  frame_out
  pointwise [k0_pay1, k0_pay2, k0_pay3, k0_pay4, k0_pay5, k0_pay6, k0_pay7, k0_pay8, View.ld]

theorem out6 : out0_6 x0 x1 x2 x3 (ix3 0 r l) = mN (sum8 (fun q => x0 (ix3 q r l))) (x2 (ix3 0 r l)) := by
  unfold mN sum8
  frame_out
  pointwise [k0_pay1, k0_pay2, k0_pay3, k0_pay4, k0_pay5, k0_pay6, k0_pay7, k0_pay8, View.ld]

theorem out7 : out0_7 x0 x1 x2 x3 (ix3 0 r l) = vN (sum8 (fun q => x0 (ix3 q r l))) (x3 (ix3 0 r l)) := by
  unfold vN sum8
  frame_out
  pointwise [k0_pay1, k0_pay2, k0_pay3, k0_pay4, k0_pay5, k0_pay6, k0_pay7, k0_pay8, View.ld]

theorem out5 : out0_5 x0 x1 x2 x3 (ix3 0 r l) = dN (sum8 (fun q => x0 (ix3 q r l))) (x1 (ix3 0 r l)) (x2 (ix3 0 r l)) (x3 (ix3 0 r l)) := by
  unfold dN mN vN sum8
  frame_out
  pointwise [k0_pay1, k0_pay2, k0_pay3, k0_pay4, k0_pay5, k0_pay6, k0_pay7, k0_pay8, View.ld]

end

/-! ### The result arrays -/

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ t.val < 2 :=
  (by decide +kernel : ∀ t : Fin grid0.N, _)

/-- The row of the whole array that row `r` of point `t`'s block is. -/
abbrev row (t : Fin cfg0.N) (r : Fin 176) : Fin 352 := ⟨t.val * 176 + r.val, by have := idx t; omega⟩

section
variable (c : Dev nD) (t : Fin cfg0.N) (r : Fin 176) (l : Fin 1024)

theorem i0_apply (q : Fin 8) : iblk m c 0 t (ix3 q r l) = m (c.tc.loc main_arg0) (ix3 q (row t r) l) := by blk_ext [iblk, V, idx t]
theorem i1_apply : iblk m c 1 t (ix3 0 r l) = m (c.tc.loc main_arg1) (ix3 0 (row t r) l) := by blk_ext [iblk, V, idx t]
theorem i2_apply : iblk m c 2 t (ix3 0 r l) = m (c.tc.loc main_arg2) (ix3 0 (row t r) l) := by blk_ext [iblk, V, idx t]
theorem i3_apply : iblk m c 3 t (ix3 0 r l) = m (c.tc.loc main_arg3) (ix3 0 (row t r) l) := by blk_ext [iblk, V, idx t]

end

theorem final4 (c : Dev nD) : (dats m 0 c).arrAt 4 cfg0.N = fun i => gF (m (c.tc.loc main_arg0)) (i 1) (i 2) := by
  refine (dats m 0 c).arrAt_eq_of_covers 4 _ (by decide +kernel) fun t _ y => ?_
  idx_vars y
  blk_simp
  rw [after0_4, Fin.fin_one_eq_zero y0, out4]
  simp only [i0_apply]
  refine Eq.trans (b := gF _ (row t y1) y2) rfl (congrArg₂ _ (Fin.ext ?_) (Fin.ext ?_)) <;> blk_simp [idx t]

theorem final5 (c : Dev nD) : (dats m 0 c).arrAt 5 cfg0.N = fun i => dF (m (c.tc.loc main_arg0)) (m (c.tc.loc main_arg1)) (m (c.tc.loc main_arg2)) (m (c.tc.loc main_arg3)) (i 1) (i 2) := by
  refine (dats m 0 c).arrAt_eq_of_covers 5 _ (by decide +kernel) fun t _ y => ?_
  idx_vars y
  blk_simp
  rw [after0_5, Fin.fin_one_eq_zero y0, out5]
  simp only [i0_apply, i1_apply, i2_apply, i3_apply]
  refine Eq.trans (b := dF _ _ _ _ (row t y1) y2) rfl (congrArg₂ _ (Fin.ext ?_) (Fin.ext ?_)) <;> blk_simp [idx t]

theorem final6 (c : Dev nD) : (dats m 0 c).arrAt 6 cfg0.N = fun i => mF (m (c.tc.loc main_arg0)) (m (c.tc.loc main_arg2)) (i 1) (i 2) := by
  refine (dats m 0 c).arrAt_eq_of_covers 6 _ (by decide +kernel) fun t _ y => ?_
  idx_vars y
  blk_simp
  rw [after0_6, Fin.fin_one_eq_zero y0, out6]
  simp only [i0_apply, i2_apply]
  refine Eq.trans (b := mF _ _ (row t y1) y2) rfl (congrArg₂ _ (Fin.ext ?_) (Fin.ext ?_)) <;> blk_simp [idx t]

theorem final7 (c : Dev nD) : (dats m 0 c).arrAt 7 cfg0.N = fun i => vF (m (c.tc.loc main_arg0)) (m (c.tc.loc main_arg3)) (i 1) (i 2) := by
  refine (dats m 0 c).arrAt_eq_of_covers 7 _ (by decide +kernel) fun t _ y => ?_
  idx_vars y
  blk_simp
  rw [after0_7, Fin.fin_one_eq_zero y0, out7]
  simp only [i0_apply, i3_apply]
  refine Eq.trans (b := vF _ _ (row t y1) y2) rfl (congrArg₂ _ (Fin.ext ?_) (Fin.ext ?_)) <;> blk_simp [idx t]

end Cert.Kernel22Ideal.AdamFfn
-- ==== Proof.AdamFfnClaim.lean ====
/-
  THE CLAIM: the optimiser of w_ffn_out. The reference's four results are read at an index and are the kernel's, for
  all argument arrays.
-/
module

public import proofs.«01_k».proof.Defs
public import proofs.«01_k».proof.Proof.AdamFfnKernel
public import proofs.«01_k».proof.Proof.Gen.Reference22Ideal.Run
public import proofs.«01_k».proof.Proof.Gen.Reference22Ideal.Read
public import Idealize.ShloMosaic.Adequacy
public import Idealize.ShloMosaic.Init
public import Idealize.ShloMosaic.Lib.Claim

@[expose] public section

set_option maxRecDepth 16384

noncomputable section

namespace Cert.Reference22Ideal.AdamFfn

open Cert.Reference22Ideal Cert.Reference22Ideal.Gen Cert.Reference22Ideal.Read Cert.Adam
open Idealize.ShloMosaic Idealize.ShloMosaic.TcCoe

variable (x0 : FVec Ideal ⟨3, ![8, 352, 1024]⟩ .bf16) (x1 x2 x3 : FVec Ideal ⟨3, ![1, 352, 1024]⟩ .f32) (r : Fin 352) (l : Fin 1024)

open Cert.Kernel22Ideal.AdamFfn (gF dF mF vF)

theorem v2 : val_main_v2 (F := Ideal) x0 (ix3 0 r l) = gF x0 r l := by
  unfold gF
  rw [← sum8_eq]
  pointwise [val_main_v2, val_main_v1, val_main_v0, val_main_cst]

theorem v7 : val_main_v7 (F := Ideal) x0 x2 (ix3 0 r l) = mF x0 x2 r l := by
  unfold mF mN
  rw [show sum8 (fun q => x0 (ix3 q r l)) = val_main_v2 (F := Ideal) x0 (ix3 0 r l) from (v2 x0 r l).symm]
  pointwise [val_main_v7, val_main_v6, val_main_v5, val_main_v4, val_main_v3, val_main_cst_0, val_main_cst_1]

theorem v13 : val_main_v13 (F := Ideal) x0 x3 (ix3 0 r l) = vF x0 x3 r l := by
  unfold vF vN
  rw [show sum8 (fun q => x0 (ix3 q r l)) = val_main_v2 (F := Ideal) x0 (ix3 0 r l) from (v2 x0 r l).symm]
  pointwise [val_main_v13, val_main_v12, val_main_v11, val_main_v10, val_main_v9, val_main_v8, val_main_cst_2, val_main_cst_3]

theorem v26 : val_main_v26 (F := Ideal) x0 x1 x2 x3 (ix3 0 r l) = dF x0 x1 x2 x3 r l := by
  unfold dF dN
  rw [show mN _ _ = val_main_v7 (F := Ideal) x0 x2 (ix3 0 r l) from (v7 x0 x2 r l).symm,
    show vN _ _ = val_main_v13 (F := Ideal) x0 x3 (ix3 0 r l) from (v13 x0 x3 r l).symm]
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

end Cert.Reference22Ideal.AdamFfn

namespace Cert.AdamFfn

open Idealize.ShloMosaic Idealize.SL.Sem

/-- The reference's frame: its run writes no argument, and it declares no semaphore. -/
theorem frame_reference : Cert.quiescent_Reference22Ideal (hReference22Ideal := Cert.Reference22Ideal.Gen.facts) := fun m ρ _ =>
  (θ_run (Cert.Reference22Ideal.defs (F := Ideal)) _ _).mono
    (fun r h => ⟨fun c => (h c).2.2.2.2, sem_eq_zero_of_no_sems (by decide) r.2⟩)
    (Cert.Reference22Ideal.Value.run (F := Ideal) m ρ)

theorem algebraic : Cert.algebraic_Kernel22Ideal_Reference22Ideal
    (hKernel22Ideal := Cert.Kernel22Ideal.Gen.facts) (hReference22Ideal := Cert.Reference22Ideal.Gen.facts) := by
  pair_intro
  · run_from Cert.Kernel22Ideal.Value.run_blocks m g
  · refine (θ_run (Cert.Reference22Ideal.defs (F := Ideal)) _ _).mono (fun r h c => ?_)
      (Cert.Reference22Ideal.Value.run (F := Ideal) m' g')
    obtain ⟨a0, a1, a2, a3, hf⟩ := h c
    obtain ⟨e0, e1, e2, e3⟩ := hagree c
    refine ⟨a0.trans ?_, a1.trans ?_, a2.trans ?_, a3.trans ?_, hf⟩
    · refine (Cert.Reference22Ideal.Read.val_main_v2_eq _).trans ?_
      rw [e0, Cert.Kernel22Ideal.AdamFfn.final4]
      funext i; idx_vars i
      exact (by rw [Fin.fin_one_eq_zero i0]; exact Cert.Reference22Ideal.AdamFfn.v2 _ i1 i2)
    · refine (Cert.Reference22Ideal.Read.val_main_v26_eq _ _ _ _).trans ?_
      rw [e0, e1, e2, e3, Cert.Kernel22Ideal.AdamFfn.final5]
      funext i; idx_vars i
      exact (by rw [Fin.fin_one_eq_zero i0]; exact Cert.Reference22Ideal.AdamFfn.v26 _ _ _ _ i1 i2)
    · refine (Cert.Reference22Ideal.Read.val_main_v7_eq _ _).trans ?_
      rw [e0, e2, Cert.Kernel22Ideal.AdamFfn.final6]
      funext i; idx_vars i
      exact (by rw [Fin.fin_one_eq_zero i0]; exact Cert.Reference22Ideal.AdamFfn.v7 _ _ i1 i2)
    · refine (Cert.Reference22Ideal.Read.val_main_v13_eq _ _).trans ?_
      rw [e0, e3, Cert.Kernel22Ideal.AdamFfn.final7]
      funext i; idx_vars i
      exact (by rw [Fin.fin_one_eq_zero i0]; exact Cert.Reference22Ideal.AdamFfn.v13 _ _ i1 i2)

end Cert.AdamFfn
-- ==== Proof.AdamGateKernel.lean ====
/-
  WHAT THE OPTIMISER of lru_wa and lru_wx LEAVES IN ITS FOUR RESULTS: the gradient, the weight's change and the two moments, each index
  from the same index of the arguments. Points of 256 rows.
-/
module

public import proofs.«01_k».proof.Proof.AdamMath
public import proofs.«01_k».proof.Proof.Gen.Kernel23Ideal.Value

@[expose] public section

set_option maxRecDepth 16384

noncomputable section

namespace Cert.Kernel23Ideal.AdamGate

open Cert.Kernel23Ideal Cert.Kernel23Ideal.Gen Cert.Adam
open Idealize.ShloMosaic Idealize.ShloMosaic.TcCoe Idealize.SL.Sem
open Idealize.ShloMosaic.Pipeline (Dat)

/-! ### The results from the whole arrays -/

def gF (x0 : FVec Ideal ⟨3, ![8, 2048, 64]⟩ .bf16) (r : Fin 2048) (l : Fin 64) : EReal := sum8 (fun q => x0 (ix3 q r l))
def dF (x0 : FVec Ideal ⟨3, ![8, 2048, 64]⟩ .bf16) (x1 : FVec Ideal ⟨3, ![1, 2048, 64]⟩ .f32) (x2 : FVec Ideal ⟨3, ![1, 2048, 64]⟩ .f32) (x3 : FVec Ideal ⟨3, ![1, 2048, 64]⟩ .f32) (r : Fin 2048) (l : Fin 64) : EReal := dN (sum8 (fun q => x0 (ix3 q r l))) (x1 (ix3 0 r l)) (x2 (ix3 0 r l)) (x3 (ix3 0 r l))
def mF (x0 : FVec Ideal ⟨3, ![8, 2048, 64]⟩ .bf16) (x2 : FVec Ideal ⟨3, ![1, 2048, 64]⟩ .f32) (r : Fin 2048) (l : Fin 64) : EReal := mN (sum8 (fun q => x0 (ix3 q r l))) (x2 (ix3 0 r l))
def vF (x0 : FVec Ideal ⟨3, ![8, 2048, 64]⟩ .bf16) (x3 : FVec Ideal ⟨3, ![1, 2048, 64]⟩ .f32) (r : Fin 2048) (l : Fin 64) : EReal := vN (sum8 (fun q => x0 (ix3 q r l))) (x3 (ix3 0 r l))

/-! ### The body at one index of a block -/

section
variable (x0 : Vec Ideal S8x256x64 .bf16) (x1 x2 x3 : Vec Ideal S1x256x64 .f32) (r : Fin 256) (l : Fin 64)

theorem out4 : out0_4 x0 x1 x2 x3 (ix3 0 r l) = sum8 (fun q => x0 (ix3 q r l)) := by
  unfold sum8
  frame_out
  pointwise [k0_pay1, k0_pay2, k0_pay3, k0_pay4, k0_pay5, k0_pay6, k0_pay7, k0_pay8, View.ld]

theorem out6 : out0_6 x0 x1 x2 x3 (ix3 0 r l) = mN (sum8 (fun q => x0 (ix3 q r l))) (x2 (ix3 0 r l)) := by
  unfold mN sum8
  frame_out
  pointwise [k0_pay1, k0_pay2, k0_pay3, k0_pay4, k0_pay5, k0_pay6, k0_pay7, k0_pay8, View.ld]

theorem out7 : out0_7 x0 x1 x2 x3 (ix3 0 r l) = vN (sum8 (fun q => x0 (ix3 q r l))) (x3 (ix3 0 r l)) := by
  unfold vN sum8
  frame_out
  pointwise [k0_pay1, k0_pay2, k0_pay3, k0_pay4, k0_pay5, k0_pay6, k0_pay7, k0_pay8, View.ld]

theorem out5 : out0_5 x0 x1 x2 x3 (ix3 0 r l) = dN (sum8 (fun q => x0 (ix3 q r l))) (x1 (ix3 0 r l)) (x2 (ix3 0 r l)) (x3 (ix3 0 r l)) := by
  unfold dN mN vN sum8
  frame_out
  pointwise [k0_pay1, k0_pay2, k0_pay3, k0_pay4, k0_pay5, k0_pay6, k0_pay7, k0_pay8, View.ld]

end

/-! ### The result arrays -/

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] ∧ t.val < 8 :=
  (by decide +kernel : ∀ t : Fin grid0.N, _)

/-- The row of the whole array that row `r` of point `t`'s block is. -/
abbrev row (t : Fin cfg0.N) (r : Fin 256) : Fin 2048 := ⟨t.val * 256 + r.val, by have := idx t; omega⟩

section
variable (c : Dev nD) (t : Fin cfg0.N) (r : Fin 256) (l : Fin 64)

theorem i0_apply (q : Fin 8) : iblk m c 0 t (ix3 q r l) = m (c.tc.loc main_arg0) (ix3 q (row t r) l) := by blk_ext [iblk, V, idx t]
theorem i1_apply : iblk m c 1 t (ix3 0 r l) = m (c.tc.loc main_arg1) (ix3 0 (row t r) l) := by blk_ext [iblk, V, idx t]
theorem i2_apply : iblk m c 2 t (ix3 0 r l) = m (c.tc.loc main_arg2) (ix3 0 (row t r) l) := by blk_ext [iblk, V, idx t]
theorem i3_apply : iblk m c 3 t (ix3 0 r l) = m (c.tc.loc main_arg3) (ix3 0 (row t r) l) := by blk_ext [iblk, V, idx t]

end

theorem final4 (c : Dev nD) : (dats m 0 c).arrAt 4 cfg0.N = fun i => gF (m (c.tc.loc main_arg0)) (i 1) (i 2) := by
  refine (dats m 0 c).arrAt_eq_of_covers 4 _ (by decide +kernel) fun t _ y => ?_
  idx_vars y
  blk_simp
  rw [after0_4, Fin.fin_one_eq_zero y0, out4]
  simp only [i0_apply]
  refine Eq.trans (b := gF _ (row t y1) y2) rfl (congrArg₂ _ (Fin.ext ?_) (Fin.ext ?_)) <;> blk_simp [idx t]

theorem final5 (c : Dev nD) : (dats m 0 c).arrAt 5 cfg0.N = fun i => dF (m (c.tc.loc main_arg0)) (m (c.tc.loc main_arg1)) (m (c.tc.loc main_arg2)) (m (c.tc.loc main_arg3)) (i 1) (i 2) := by
  refine (dats m 0 c).arrAt_eq_of_covers 5 _ (by decide +kernel) fun t _ y => ?_
  idx_vars y
  blk_simp
  rw [after0_5, Fin.fin_one_eq_zero y0, out5]
  simp only [i0_apply, i1_apply, i2_apply, i3_apply]
  refine Eq.trans (b := dF _ _ _ _ (row t y1) y2) rfl (congrArg₂ _ (Fin.ext ?_) (Fin.ext ?_)) <;> blk_simp [idx t]

theorem final6 (c : Dev nD) : (dats m 0 c).arrAt 6 cfg0.N = fun i => mF (m (c.tc.loc main_arg0)) (m (c.tc.loc main_arg2)) (i 1) (i 2) := by
  refine (dats m 0 c).arrAt_eq_of_covers 6 _ (by decide +kernel) fun t _ y => ?_
  idx_vars y
  blk_simp
  rw [after0_6, Fin.fin_one_eq_zero y0, out6]
  simp only [i0_apply, i2_apply]
  refine Eq.trans (b := mF _ _ (row t y1) y2) rfl (congrArg₂ _ (Fin.ext ?_) (Fin.ext ?_)) <;> blk_simp [idx t]

theorem final7 (c : Dev nD) : (dats m 0 c).arrAt 7 cfg0.N = fun i => vF (m (c.tc.loc main_arg0)) (m (c.tc.loc main_arg3)) (i 1) (i 2) := by
  refine (dats m 0 c).arrAt_eq_of_covers 7 _ (by decide +kernel) fun t _ y => ?_
  idx_vars y
  blk_simp
  rw [after0_7, Fin.fin_one_eq_zero y0, out7]
  simp only [i0_apply, i3_apply]
  refine Eq.trans (b := vF _ _ (row t y1) y2) rfl (congrArg₂ _ (Fin.ext ?_) (Fin.ext ?_)) <;> blk_simp [idx t]

end Cert.Kernel23Ideal.AdamGate
-- ==== Proof.AdamGateClaim.lean ====
/-
  THE CLAIM: the optimiser of lru_wa and lru_wx. The reference's four results are read at an index and are the
  kernel's, for all argument arrays.
-/
module

public import proofs.«01_k».proof.Defs
public import proofs.«01_k».proof.Proof.AdamGateKernel
public import proofs.«01_k».proof.Proof.Gen.Reference23Ideal.Run
public import proofs.«01_k».proof.Proof.Gen.Reference23Ideal.Read
public import Idealize.ShloMosaic.Adequacy
public import Idealize.ShloMosaic.Init
public import Idealize.ShloMosaic.Lib.Claim

@[expose] public section

set_option maxRecDepth 16384

noncomputable section

namespace Cert.Reference23Ideal.AdamGate

open Cert.Reference23Ideal Cert.Reference23Ideal.Gen Cert.Reference23Ideal.Read Cert.Adam
open Idealize.ShloMosaic Idealize.ShloMosaic.TcCoe

variable (x0 : FVec Ideal ⟨3, ![8, 2048, 64]⟩ .bf16) (x1 x2 x3 : FVec Ideal ⟨3, ![1, 2048, 64]⟩ .f32) (r : Fin 2048) (l : Fin 64)

open Cert.Kernel23Ideal.AdamGate (gF dF mF vF)

theorem v2 : val_main_v2 (F := Ideal) x0 (ix3 0 r l) = gF x0 r l := by
  unfold gF
  rw [← sum8_eq]
  pointwise [val_main_v2, val_main_v1, val_main_v0, val_main_cst]

theorem v7 : val_main_v7 (F := Ideal) x0 x2 (ix3 0 r l) = mF x0 x2 r l := by
  unfold mF mN
  rw [show sum8 (fun q => x0 (ix3 q r l)) = val_main_v2 (F := Ideal) x0 (ix3 0 r l) from (v2 x0 r l).symm]
  pointwise [val_main_v7, val_main_v6, val_main_v5, val_main_v4, val_main_v3, val_main_cst_0, val_main_cst_1]

theorem v13 : val_main_v13 (F := Ideal) x0 x3 (ix3 0 r l) = vF x0 x3 r l := by
  unfold vF vN
  rw [show sum8 (fun q => x0 (ix3 q r l)) = val_main_v2 (F := Ideal) x0 (ix3 0 r l) from (v2 x0 r l).symm]
  pointwise [val_main_v13, val_main_v12, val_main_v11, val_main_v10, val_main_v9, val_main_v8, val_main_cst_2, val_main_cst_3]

theorem v26 : val_main_v26 (F := Ideal) x0 x1 x2 x3 (ix3 0 r l) = dF x0 x1 x2 x3 r l := by
  unfold dF dN
  rw [show mN _ _ = val_main_v7 (F := Ideal) x0 x2 (ix3 0 r l) from (v7 x0 x2 r l).symm,
    show vN _ _ = val_main_v13 (F := Ideal) x0 x3 (ix3 0 r l) from (v13 x0 x3 r l).symm]
  pointwise [val_main_v26, val_main_v25, val_main_v24, val_main_v23, val_main_v22, val_main_v21, val_main_v20, val_main_v19, val_main_v18, val_main_v17, val_main_v16, val_main_v15, val_main_v14, val_main_cst_4, val_main_cst_5, val_main_cst_6, val_main_cst_7, val_main_cst_8]

end Cert.Reference23Ideal.AdamGate

namespace Cert.AdamGate

open Idealize.ShloMosaic Idealize.SL.Sem

/-- The reference's frame: its run writes no argument, and it declares no semaphore. -/
theorem frame_reference : Cert.quiescent_Reference23Ideal (hReference23Ideal := Cert.Reference23Ideal.Gen.facts) := fun m ρ _ =>
  (θ_run (Cert.Reference23Ideal.defs (F := Ideal)) _ _).mono
    (fun r h => ⟨fun c => (h c).2.2.2.2, sem_eq_zero_of_no_sems (by decide) r.2⟩)
    (Cert.Reference23Ideal.Value.run (F := Ideal) m ρ)

theorem algebraic : Cert.algebraic_Kernel23Ideal_Reference23Ideal
    (hKernel23Ideal := Cert.Kernel23Ideal.Gen.facts) (hReference23Ideal := Cert.Reference23Ideal.Gen.facts) := by
  pair_intro
  · run_from Cert.Kernel23Ideal.Value.run_blocks m g
  · refine (θ_run (Cert.Reference23Ideal.defs (F := Ideal)) _ _).mono (fun r h c => ?_)
      (Cert.Reference23Ideal.Value.run (F := Ideal) m' g')
    obtain ⟨a0, a1, a2, a3, hf⟩ := h c
    obtain ⟨e0, e1, e2, e3⟩ := hagree c
    refine ⟨a0.trans ?_, a1.trans ?_, a2.trans ?_, a3.trans ?_, hf⟩
    · refine (Cert.Reference23Ideal.Read.val_main_v2_eq _).trans ?_
      rw [e0, Cert.Kernel23Ideal.AdamGate.final4]
      funext i; idx_vars i
      exact (by rw [Fin.fin_one_eq_zero i0]; exact Cert.Reference23Ideal.AdamGate.v2 _ i1 i2)
    · refine (Cert.Reference23Ideal.Read.val_main_v26_eq _ _ _ _).trans ?_
      rw [e0, e1, e2, e3, Cert.Kernel23Ideal.AdamGate.final5]
      funext i; idx_vars i
      exact (by rw [Fin.fin_one_eq_zero i0]; exact Cert.Reference23Ideal.AdamGate.v26 _ _ _ _ i1 i2)
    · refine (Cert.Reference23Ideal.Read.val_main_v7_eq _ _).trans ?_
      rw [e0, e2, Cert.Kernel23Ideal.AdamGate.final6]
      funext i; idx_vars i
      exact (by rw [Fin.fin_one_eq_zero i0]; exact Cert.Reference23Ideal.AdamGate.v7 _ _ i1 i2)
    · refine (Cert.Reference23Ideal.Read.val_main_v13_eq _ _).trans ?_
      rw [e0, e3, Cert.Kernel23Ideal.AdamGate.final7]
      funext i; idx_vars i
      exact (by rw [Fin.fin_one_eq_zero i0]; exact Cert.Reference23Ideal.AdamGate.v13 _ _ i1 i2)

end Cert.AdamGate
-- ==== Proof.AdamSmallKernel.lean ====
/-
  WHAT THE OPTIMISER of the small weights LEAVES IN ITS FOUR RESULTS: the gradient, the weight's change and the two moments, each index
  from the same index of the arguments. The one point of 16 rows.
-/
module

public import proofs.«01_k».proof.Proof.AdamMath
public import proofs.«01_k».proof.Proof.Gen.Kernel24Ideal.Value

@[expose] public section

set_option maxRecDepth 16384

noncomputable section

namespace Cert.Kernel24Ideal.AdamSmall

open Cert.Kernel24Ideal Cert.Kernel24Ideal.Gen Cert.Adam
open Idealize.ShloMosaic Idealize.ShloMosaic.TcCoe Idealize.SL.Sem
open Idealize.ShloMosaic.Pipeline (Dat)

/-! ### The results from the whole arrays -/

def gF (x0 : FVec Ideal ⟨3, ![1, 16, 1024]⟩ .f32) (r : Fin 16) (l : Fin 1024) : EReal := x0 (ix3 0 r l)
def dF (x0 : FVec Ideal ⟨3, ![1, 16, 1024]⟩ .f32) (x1 : FVec Ideal ⟨3, ![1, 16, 1024]⟩ .f32) (x2 : FVec Ideal ⟨3, ![1, 16, 1024]⟩ .f32) (x3 : FVec Ideal ⟨3, ![1, 16, 1024]⟩ .f32) (r : Fin 16) (l : Fin 1024) : EReal := dN (x0 (ix3 0 r l)) (x1 (ix3 0 r l)) (x2 (ix3 0 r l)) (x3 (ix3 0 r l))
def mF (x0 : FVec Ideal ⟨3, ![1, 16, 1024]⟩ .f32) (x2 : FVec Ideal ⟨3, ![1, 16, 1024]⟩ .f32) (r : Fin 16) (l : Fin 1024) : EReal := mN (x0 (ix3 0 r l)) (x2 (ix3 0 r l))
def vF (x0 : FVec Ideal ⟨3, ![1, 16, 1024]⟩ .f32) (x3 : FVec Ideal ⟨3, ![1, 16, 1024]⟩ .f32) (r : Fin 16) (l : Fin 1024) : EReal := vN (x0 (ix3 0 r l)) (x3 (ix3 0 r l))

/-! ### The body at one index of a block -/

section
variable (x0 : Vec Ideal S1x16x1024 .f32) (x1 x2 x3 : Vec Ideal S1x16x1024 .f32) (r : Fin 16) (l : Fin 1024)

theorem out4 : out0_4 x0 x1 x2 x3 (ix3 0 r l) = x0 (ix3 0 r l) := by
  skip
  frame_out
  pointwise [k0_pay1, k0_pay2, k0_pay3, k0_pay4, k0_pay5, k0_pay6, k0_pay7, k0_pay8, k0_pay9, View.ld]

theorem out6 : out0_6 x0 x1 x2 x3 (ix3 0 r l) = mN (x0 (ix3 0 r l)) (x2 (ix3 0 r l)) := by
  unfold mN
  frame_out
  pointwise [k0_pay1, k0_pay2, k0_pay3, k0_pay4, k0_pay5, k0_pay6, k0_pay7, k0_pay8, k0_pay9, View.ld]

theorem out7 : out0_7 x0 x1 x2 x3 (ix3 0 r l) = vN (x0 (ix3 0 r l)) (x3 (ix3 0 r l)) := by
  unfold vN
  frame_out
  pointwise [k0_pay1, k0_pay2, k0_pay3, k0_pay4, k0_pay5, k0_pay6, k0_pay7, k0_pay8, k0_pay9, View.ld]

theorem out5 : out0_5 x0 x1 x2 x3 (ix3 0 r l) = dN (x0 (ix3 0 r l)) (x1 (ix3 0 r l)) (x2 (ix3 0 r l)) (x3 (ix3 0 r l)) := by
  unfold dN mN vN
  frame_out
  pointwise [k0_pay1, k0_pay2, k0_pay3, k0_pay4, k0_pay5, k0_pay6, k0_pay7, k0_pay8, k0_pay9, View.ld]

end

/-! ### The result arrays -/

variable (m : (ℓ : Loc nD τ sig) → Buf (Elt Ideal) ℓ)

theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ t.val < 1 :=
  (by decide +kernel : ∀ t : Fin grid0.N, _)

/-- The row of the whole array that row `r` of point `t`'s block is. -/
abbrev row (t : Fin cfg0.N) (r : Fin 16) : Fin 16 := r

section
variable (c : Dev nD) (t : Fin cfg0.N) (r : Fin 16) (l : Fin 1024)

theorem i0_apply (q : Fin 1) : iblk m c 0 t (ix3 q r l) = m (c.tc.loc main_arg0) (ix3 q (row t r) l) := by blk_ext [iblk, V, idx t]
theorem i1_apply : iblk m c 1 t (ix3 0 r l) = m (c.tc.loc main_arg1) (ix3 0 (row t r) l) := by blk_ext [iblk, V, idx t]
theorem i2_apply : iblk m c 2 t (ix3 0 r l) = m (c.tc.loc main_arg2) (ix3 0 (row t r) l) := by blk_ext [iblk, V, idx t]
theorem i3_apply : iblk m c 3 t (ix3 0 r l) = m (c.tc.loc main_arg3) (ix3 0 (row t r) l) := by blk_ext [iblk, V, idx t]

end

theorem final4 (c : Dev nD) : (dats m 0 c).arrAt 4 cfg0.N = fun i => gF (m (c.tc.loc main_arg0)) (i 1) (i 2) := by
  refine (dats m 0 c).arrAt_eq_of_covers 4 _ (by decide +kernel) fun t _ y => ?_
  idx_vars y
  blk_simp
  rw [after0_4, Fin.fin_one_eq_zero y0, out4]
  simp only [i0_apply]
  refine Eq.trans (b := gF _ (row t y1) y2) rfl (congrArg₂ _ (Fin.ext ?_) (Fin.ext ?_)) <;> blk_simp [idx t]

theorem final5 (c : Dev nD) : (dats m 0 c).arrAt 5 cfg0.N = fun i => dF (m (c.tc.loc main_arg0)) (m (c.tc.loc main_arg1)) (m (c.tc.loc main_arg2)) (m (c.tc.loc main_arg3)) (i 1) (i 2) := by
  refine (dats m 0 c).arrAt_eq_of_covers 5 _ (by decide +kernel) fun t _ y => ?_
  idx_vars y
  blk_simp
  rw [after0_5, Fin.fin_one_eq_zero y0, out5]
  simp only [i0_apply, i1_apply, i2_apply, i3_apply]
  refine Eq.trans (b := dF _ _ _ _ (row t y1) y2) rfl (congrArg₂ _ (Fin.ext ?_) (Fin.ext ?_)) <;> blk_simp [idx t]

theorem final6 (c : Dev nD) : (dats m 0 c).arrAt 6 cfg0.N = fun i => mF (m (c.tc.loc main_arg0)) (m (c.tc.loc main_arg2)) (i 1) (i 2) := by
  refine (dats m 0 c).arrAt_eq_of_covers 6 _ (by decide +kernel) fun t _ y => ?_
  idx_vars y
  blk_simp
  rw [after0_6, Fin.fin_one_eq_zero y0, out6]
  simp only [i0_apply, i2_apply]
  refine Eq.trans (b := mF _ _ (row t y1) y2) rfl (congrArg₂ _ (Fin.ext ?_) (Fin.ext ?_)) <;> blk_simp [idx t]

theorem final7 (c : Dev nD) : (dats m 0 c).arrAt 7 cfg0.N = fun i => vF (m (c.tc.loc main_arg0)) (m (c.tc.loc main_arg3)) (i 1) (i 2) := by
  refine (dats m 0 c).arrAt_eq_of_covers 7 _ (by decide +kernel) fun t _ y => ?_
  idx_vars y
  blk_simp
  rw [after0_7, Fin.fin_one_eq_zero y0, out7]
  simp only [i0_apply, i3_apply]
  refine Eq.trans (b := vF _ _ (row t y1) y2) rfl (congrArg₂ _ (Fin.ext ?_) (Fin.ext ?_)) <;> blk_simp [idx t]

end Cert.Kernel24Ideal.AdamSmall
-- ==== Proof.AdamSmallClaim.lean ====
/-
  THE CLAIM: the optimiser of the small weights. The reference's results are read at an index and are the kernel's, for
  all argument arrays.
-/
module

public import proofs.«01_k».proof.Defs
public import proofs.«01_k».proof.Proof.AdamSmallKernel
public import proofs.«01_k».proof.Proof.Gen.Reference24Ideal.Run
public import proofs.«01_k».proof.Proof.Gen.Reference24Ideal.Read
public import Idealize.ShloMosaic.Adequacy
public import Idealize.ShloMosaic.Init
public import Idealize.ShloMosaic.Lib.Claim

@[expose] public section

set_option maxRecDepth 16384

noncomputable section

namespace Cert.Reference24Ideal.AdamSmall

open Cert.Reference24Ideal Cert.Reference24Ideal.Gen Cert.Reference24Ideal.Read Cert.Adam
open Idealize.ShloMosaic Idealize.ShloMosaic.TcCoe

variable (x0 : FVec Ideal ⟨3, ![1, 16, 1024]⟩ .f32) (x1 x2 x3 : FVec Ideal ⟨3, ![1, 16, 1024]⟩ .f32) (r : Fin 16) (l : Fin 1024)

open Cert.Kernel24Ideal.AdamSmall (gF dF mF vF)

theorem v4 : val_main_v4 (F := Ideal) x0 x2 (ix3 0 r l) = mF x0 x2 r l := by
  unfold mF mN
  pointwise [val_main_v4, val_main_v3, val_main_v2, val_main_v1, val_main_v0, val_main_cst, val_main_cst_0]

theorem v10 : val_main_v10 (F := Ideal) x0 x3 (ix3 0 r l) = vF x0 x3 r l := by
  unfold vF vN
  pointwise [val_main_v10, val_main_v9, val_main_v8, val_main_v7, val_main_v6, val_main_v5, val_main_cst_1, val_main_cst_2]

theorem v23 : val_main_v23 (F := Ideal) x0 x1 x2 x3 (ix3 0 r l) = dF x0 x1 x2 x3 r l := by
  unfold dF dN
  rw [show mN _ _ = val_main_v4 (F := Ideal) x0 x2 (ix3 0 r l) from (v4 x0 x2 r l).symm,
    show vN _ _ = val_main_v10 (F := Ideal) x0 x3 (ix3 0 r l) from (v10 x0 x3 r l).symm]
  pointwise [val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]

end Cert.Reference24Ideal.AdamSmall

namespace Cert.AdamSmall

open Idealize.ShloMosaic Idealize.SL.Sem

/-- The reference's frame: its run writes no argument, and it declares no semaphore. -/
theorem frame_reference : Cert.quiescent_Reference24Ideal (hReference24Ideal := Cert.Reference24Ideal.Gen.facts) := fun m ρ _ =>
  (θ_run (Cert.Reference24Ideal.defs (F := Ideal)) _ _).mono
    (fun r h => ⟨fun c => (h c).2.2.2.2, sem_eq_zero_of_no_sems (by decide) r.2⟩)
    (Cert.Reference24Ideal.Value.run (F := Ideal) m ρ)

theorem algebraic : Cert.algebraic_Kernel24Ideal_Reference24Ideal
    (hKernel24Ideal := Cert.Kernel24Ideal.Gen.facts) (hReference24Ideal := Cert.Reference24Ideal.Gen.facts) := by
  pair_intro
  · run_from Cert.Kernel24Ideal.Value.run_blocks m g
  · refine (θ_run (Cert.Reference24Ideal.defs (F := Ideal)) _ _).mono (fun r h c => ?_)
      (Cert.Reference24Ideal.Value.run (F := Ideal) m' g')
    obtain ⟨ag, a0, a1, a2, hf⟩ := h c
    obtain ⟨e0, e1, e2, e3⟩ := hagree c
    refine ⟨ag.trans ?_, a0.trans ?_, a1.trans ?_, a2.trans ?_, hf⟩
    · rw [e0, Cert.Kernel24Ideal.AdamSmall.final4]
      funext i; idx_vars i
      rw [Fin.fin_one_eq_zero i0]; rfl
    · refine (Cert.Reference24Ideal.Read.val_main_v23_eq _ _ _ _).trans ?_
      rw [e0, e1, e2, e3, Cert.Kernel24Ideal.AdamSmall.final5]
      funext i; idx_vars i
      exact (by rw [Fin.fin_one_eq_zero i0]; exact Cert.Reference24Ideal.AdamSmall.v23 _ _ _ _ i1 i2)
    · refine (Cert.Reference24Ideal.Read.val_main_v4_eq _ _).trans ?_
      rw [e0, e2, Cert.Kernel24Ideal.AdamSmall.final6]
      funext i; idx_vars i
      exact (by rw [Fin.fin_one_eq_zero i0]; exact Cert.Reference24Ideal.AdamSmall.v4 _ _ i1 i2)
    · refine (Cert.Reference24Ideal.Read.val_main_v10_eq _ _).trans ?_
      rw [e0, e3, Cert.Kernel24Ideal.AdamSmall.final7]
      funext i; idx_vars i
      exact (by rw [Fin.fin_one_eq_zero i0]; exact Cert.Reference24Ideal.AdamSmall.v10 _ _ i1 i2)

end Cert.AdamSmall
-- ==== Proof.SumSmallKernel.lean ====
/-
  WHAT THE SUM OVER THE DEVICES LEAVES: at each index the sum of the eight devices' rows. One point, one block.
-/
module

public import proofs.«01_k».proof.Proof.AdamMath
public import proofs.«01_k».proof.Proof.Gen.Kernel25Ideal.Value

@[expose] public section

set_option maxRecDepth 16384

noncomputable section

namespace Cert.Kernel25Ideal.SumSmall

open Cert.Kernel25Ideal Cert.Kernel25Ideal.Gen Cert.Adam
open Idealize.ShloMosaic Idealize.ShloMosaic.TcCoe Idealize.SL.Sem
open Idealize.ShloMosaic.Pipeline (Dat)

/-- The sum from the whole array. -/
def sF (x0 : FVec Ideal ⟨3, ![8, 16, 1024]⟩ .f32) (r : Fin 16) (l : Fin 1024) : EReal := sum8 (fun q => x0 (ix3 q r l))

theorem out1 (x0 : Vec Ideal S8x16x1024 .f32) (r : Fin 16) (l : Fin 1024) : out0_1 x0 (ix2 r l) = sF x0 r l := by
  unfold sF sum8
  frame_out
  pointwise [k0_pay1, View.ld]

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

theorem i0_apply (c : Dev nD) (t : Fin cfg0.N) (q : Fin 8) (r : Fin 16) (l : Fin 1024) :
    iblk m c 0 t (ix3 q r l) = m (c.tc.loc main_arg0) (ix3 q r l) := by blk_ext [iblk, V, idx t]

theorem final1 (c : Dev nD) : (dats m 0 c).arrAt 1 cfg0.N = fun i => sF (m (c.tc.loc main_arg0)) (i 0) (i 1) := by
  refine (dats m 0 c).arrAt_eq_of_covers 1 _ (by decide +kernel) fun t _ y => ?_
  idx_vars y
  blk_simp
  rw [after0_1, out1]
  unfold sF
  simp only [i0_apply]
  refine Eq.trans (b := sF _ y0 y1) rfl (congrArg₂ _ (Fin.ext ?_) (Fin.ext ?_)) <;> blk_simp [idx t]

end Cert.Kernel25Ideal.SumSmall
-- ==== Proof.SumSmallClaim.lean ====
/-
  THE CLAIM: the sum over the devices of the loss and the small gradients. The reference's sum is read at an index and is the
  kernel's, for all argument arrays.
-/
module

public import proofs.«01_k».proof.Defs
public import proofs.«01_k».proof.Proof.SumSmallKernel
public import proofs.«01_k».proof.Proof.Gen.Reference25Ideal.Run
public import proofs.«01_k».proof.Proof.Gen.Reference25Ideal.Read
public import Idealize.ShloMosaic.Adequacy
public import Idealize.ShloMosaic.Init
public import Idealize.ShloMosaic.Lib.Claim

@[expose] public section

set_option maxRecDepth 16384

noncomputable section

namespace Cert.Reference25Ideal.SumSmall

open Cert.Reference25Ideal Cert.Reference25Ideal.Gen Cert.Reference25Ideal.Read Cert.Adam
open Idealize.ShloMosaic Idealize.ShloMosaic.TcCoe
open Cert.Kernel25Ideal.SumSmall (sF)

theorem v0 (x0 : FVec Ideal ⟨3, ![8, 16, 1024]⟩ .f32) (r : Fin 16) (l : Fin 1024) : val_main_v0 (F := Ideal) x0 (ix2 r l) = sF x0 r l := by
  unfold sF
  rw [← sum8_eq]
  pointwise [val_main_v0, val_main_cst]

end Cert.Reference25Ideal.SumSmall

namespace Cert.SumSmall

open Idealize.ShloMosaic Idealize.SL.Sem

/-- The reference's frame: its run writes no argument, and it declares no semaphore. -/
theorem frame_reference : Cert.quiescent_Reference25Ideal (hReference25Ideal := Cert.Reference25Ideal.Gen.facts) := fun m ρ _ =>
  (θ_run (Cert.Reference25Ideal.defs (F := Ideal)) _ _).mono
    (fun r h => ⟨fun c => (h c).2, sem_eq_zero_of_no_sems (by decide) r.2⟩)
    (Cert.Reference25Ideal.Value.run (F := Ideal) m ρ)

theorem algebraic : Cert.algebraic_Kernel25Ideal_Reference25Ideal
    (hKernel25Ideal := Cert.Kernel25Ideal.Gen.facts) (hReference25Ideal := Cert.Reference25Ideal.Gen.facts) := by
  pair_intro
  · run_from Cert.Kernel25Ideal.Value.run_blocks m g
  · refine (θ_run (Cert.Reference25Ideal.defs (F := Ideal)) _ _).mono (fun r h c => ?_)
      (Cert.Reference25Ideal.Value.run (F := Ideal) m' g')
    obtain ⟨a0, hf⟩ := h c
    have e0 := hagree c
    refine ⟨a0.trans ?_, hf⟩
    · refine (Cert.Reference25Ideal.Read.val_main_v0_eq _).trans ?_
      rw [e0, Cert.Kernel25Ideal.SumSmall.final1]
      funext i; idx_vars i
      exact Cert.Reference25Ideal.SumSmall.v0 _ i0 i1

end Cert.SumSmall
-- ==== Proof.lean ====
/-
  The proof of `Cert.Claim`, assembled from one module per kernel call, each of which proves that call's value claim and
  its reference's frame:
    GateClaim: the gradient of the gated merge of the two branches.
    FfnClaim: the channel mixer’s second half, the loss and their gradient.
    FfnInClaim: the gradient of the channel mixer’s first norm and product.
    InProjClaim: the gradient of the first norm and product.
    DwFfnOutClaim: the gradient of w_ffn_out.
    DwFfnGateClaim: the gradient of w_ffn_in, gate half.
    DwFfnUpClaim: the gradient of w_ffn_in, other half.
    DwOutClaim: the gradient of w_out.
    DwInUClaim: the gradient of w_in, first rows.
    DwInGClaim: the gradient of w_in, second rows.
    DwInQClaim: the gradient of w_in, third rows.
    DwInKvClaim: the gradient of w_in, fourth rows.
    DwInZClaim: the gradient of w_in, last rows.
    FNormClaim: the first norm.
    FProjClaim: the input projection.
    FMergeClaim: the gated merge, its projection and the residual.
    FFfnInClaim: the channel mixer’s norm and first product.
    ConvClaim: the gradient of the temporal convolution.
    FConvClaim: the temporal convolution.
    AdamInClaim: the optimiser of w_in and w_ffn_in.
    AdamOutClaim: the optimiser of w_out.
    AdamFfnClaim: the optimiser of w_ffn_out.
    AdamGateClaim: the optimiser of lru_wa and lru_wx.
    AdamSmallClaim: the optimiser of the small weights.
    SumSmallClaim: the sum over the devices of the loss and the small gradients.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.GateClaim
public import proofs.«01_k».proof.Proof.Gen.Pre_whole_gate
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.FfnClaim
public import proofs.«01_k».proof.Proof.Gen.Pre_whole_loss
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.FfnInClaim
public import proofs.«01_k».proof.Proof.Gen.Pre_whole_ffn
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.InProjClaim
public import proofs.«01_k».proof.Proof.Gen.Pre_whole_in
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.DwFfnOutClaim
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.DwFfnGateClaim
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.DwFfnUpClaim
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.DwOutClaim
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.DwInUClaim
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.DwInGClaim
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.DwInQClaim
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.DwInKvClaim
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.DwInZClaim
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.FNormClaim
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.FProjClaim
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.FMergeClaim
public import proofs.«01_k».proof.Proof.Gen.Kernel11.Frame
public import proofs.«01_k».proof.Proof.Gen.Kernel11Ideal.Frame
public import proofs.«01_k».proof.Proof.FFfnInFloat
public import proofs.«01_k».proof.Proof.FFfnInFrame
public import proofs.«01_k».proof.Proof.Gen.Reference11Ideal.Run
public import proofs.«01_k».proof.Proof.Gen.Reference11Ideal.Read
public import proofs.«01_k».proof.Proof.FFfnInClaim
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.ConvClaim
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.FConvClaim
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.AdamInClaim
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.AdamOutClaim
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.AdamFfnClaim
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.AdamGateClaim
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.AdamSmallClaim
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.SumSmallClaim

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel12.Gen.facts, Cert.Kernel12Ideal.Gen.facts, Cert.Reference12Ideal.Gen.facts,
    Cert.Kernel11.Gen.facts, Cert.Kernel11Ideal.Gen.facts, Cert.Reference11Ideal.Gen.facts,
    Cert.Kernel2.Gen.facts, Cert.Kernel2Ideal.Gen.facts, Cert.Reference2Ideal.Gen.facts,
    Cert.Kernel13.Gen.facts, Cert.Kernel13Ideal.Gen.facts, Cert.Reference13Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Pre_whole_gate.Gen.facts,
    Cert.Pre_whole_loss.Gen.facts,
    Cert.Pre_whole_ffn.Gen.facts,
    Cert.Pre_whole_in.Gen.facts,
    fun m ρ _ => Cert.Kernel.Gen.frame m ρ,
    fun m ρ _ => Cert.KernelIdeal.Gen.frame m ρ,
    fun m ρ _ => Cert.KernelIdeal.Gen.frame m ρ,
    fun m ρ _ => Cert.Gate.frame_reference m ρ trivial,
    fun m ρ _ => Cert.Gate.frame_reference m ρ trivial,
    fun m ρ _ => Cert.Kernel3.Gen.frame m ρ,
    fun m ρ _ => Cert.Kernel3Ideal.Gen.frame m ρ,
    fun m ρ _ => Cert.Kernel3Ideal.Gen.frame m ρ,
    fun m ρ _ => Cert.Ffn.frame_reference m ρ trivial,
    fun m ρ _ => Cert.Ffn.frame_reference m ρ trivial,
    fun m ρ _ => Cert.Kernel4.Gen.frame m ρ,
    fun m ρ _ => Cert.Kernel4Ideal.Gen.frame m ρ,
    fun m ρ _ => Cert.Kernel4Ideal.Gen.frame m ρ,
    fun m ρ _ => Cert.FfnIn.frame_reference m ρ trivial,
    fun m ρ _ => Cert.FfnIn.frame_reference m ρ trivial,
    fun m ρ _ => Cert.Kernel5.Gen.frame m ρ,
    fun m ρ _ => Cert.Kernel5Ideal.Gen.frame m ρ,
    fun m ρ _ => Cert.Kernel5Ideal.Gen.frame m ρ,
    fun m ρ _ => Cert.InProj.frame_reference m ρ trivial,
    fun m ρ _ => Cert.InProj.frame_reference m ρ trivial,
    fun m ρ _ => Cert.Kernel6.Gen.frame m ρ,
    fun m ρ _ => Cert.Kernel6Ideal.Gen.frame m ρ,
    fun m ρ _ => Cert.DwFfnOut.frame_reference m ρ trivial,
    fun m ρ _ => Cert.Kernel7.Gen.frame m ρ,
    fun m ρ _ => Cert.Kernel7Ideal.Gen.frame m ρ,
    fun m ρ _ => Cert.DwFfnGate.frame_reference m ρ trivial,
    fun m ρ _ => Cert.Kernel8.Gen.frame m ρ,
    fun m ρ _ => Cert.Kernel8Ideal.Gen.frame m ρ,
    fun m ρ _ => Cert.DwFfnUp.frame_reference m ρ trivial,
    fun m ρ _ => Cert.Kernel14.Gen.frame m ρ,
    fun m ρ _ => Cert.Kernel14Ideal.Gen.frame m ρ,
    fun m ρ _ => Cert.DwOut.frame_reference m ρ trivial,
    fun m ρ _ => Cert.Kernel15.Gen.frame m ρ,
    fun m ρ _ => Cert.Kernel15Ideal.Gen.frame m ρ,
    fun m ρ _ => Cert.DwInU.frame_reference m ρ trivial,
    fun m ρ _ => Cert.Kernel16.Gen.frame m ρ,
    fun m ρ _ => Cert.Kernel16Ideal.Gen.frame m ρ,
    fun m ρ _ => Cert.DwInG.frame_reference m ρ trivial,
    fun m ρ _ => Cert.Kernel17.Gen.frame m ρ,
    fun m ρ _ => Cert.Kernel17Ideal.Gen.frame m ρ,
    fun m ρ _ => Cert.DwInQ.frame_reference m ρ trivial,
    fun m ρ _ => Cert.Kernel18.Gen.frame m ρ,
    fun m ρ _ => Cert.Kernel18Ideal.Gen.frame m ρ,
    fun m ρ _ => Cert.DwInKv.frame_reference m ρ trivial,
    fun m ρ _ => Cert.Kernel19.Gen.frame m ρ,
    fun m ρ _ => Cert.Kernel19Ideal.Gen.frame m ρ,
    fun m ρ _ => Cert.DwInZ.frame_reference m ρ trivial,
    fun m ρ _ => Cert.Kernel9.Gen.frame m ρ,
    fun m ρ _ => Cert.Kernel9Ideal.Gen.frame m ρ,
    fun m ρ _ => Cert.FNorm.frame_reference m ρ trivial,
    fun m ρ _ => Cert.Kernel10.Gen.frame m ρ,
    fun m ρ _ => Cert.Kernel10Ideal.Gen.frame m ρ,
    fun m ρ _ => Cert.FProj.frame_reference m ρ trivial,
    fun m ρ _ => Cert.Kernel12.Gen.frame m ρ,
    fun m ρ _ => Cert.Kernel12Ideal.Gen.frame m ρ,
    fun m ρ _ => Cert.FMerge.frame_reference m ρ trivial,
    fun m ρ _ => Cert.FFfnIn.frame_kernel m ρ trivial,
    fun m ρ _ => Cert.Kernel11Ideal.FFfnIn.frame m ρ,
    fun m ρ _ => Cert.FFfnIn.frame_reference m ρ trivial,
    fun m ρ _ => Cert.Kernel2.Gen.frame m ρ,
    fun m ρ _ => Cert.Kernel2Ideal.Gen.frame m ρ,
    fun m ρ _ => Cert.Conv.frame_reference m ρ trivial,
    fun m ρ _ => Cert.Kernel13.Gen.frame m ρ,
    fun m ρ _ => Cert.Kernel13Ideal.Gen.frame m ρ,
    fun m ρ _ => Cert.FConv.frame_reference m ρ trivial,
    fun m ρ _ => Cert.Kernel20.Gen.frame m ρ,
    fun m ρ _ => Cert.Kernel20Ideal.Gen.frame m ρ,
    fun m ρ _ => Cert.AdamIn.frame_reference m ρ trivial,
    fun m ρ _ => Cert.Kernel21.Gen.frame m ρ,
    fun m ρ _ => Cert.Kernel21Ideal.Gen.frame m ρ,
    fun m ρ _ => Cert.AdamOut.frame_reference m ρ trivial,
    fun m ρ _ => Cert.Kernel22.Gen.frame m ρ,
    fun m ρ _ => Cert.Kernel22Ideal.Gen.frame m ρ,
    fun m ρ _ => Cert.AdamFfn.frame_reference m ρ trivial,
    fun m ρ _ => Cert.Kernel23.Gen.frame m ρ,
    fun m ρ _ => Cert.Kernel23Ideal.Gen.frame m ρ,
    fun m ρ _ => Cert.AdamGate.frame_reference m ρ trivial,
    fun m ρ _ => Cert.Kernel24.Gen.frame m ρ,
    fun m ρ _ => Cert.Kernel24Ideal.Gen.frame m ρ,
    fun m ρ _ => Cert.AdamSmall.frame_reference m ρ trivial,
    fun m ρ _ => Cert.Kernel25.Gen.frame m ρ,
    fun m ρ _ => Cert.Kernel25Ideal.Gen.frame m ρ,
    fun m ρ _ => Cert.SumSmall.frame_reference m ρ trivial,
    ⟨IdealRules.named_const.statement Cert.KernelIdeal.κ "gelu_a" .bf16 0x3D37#16 _ rfl,
      IdealRules.named_const.statement Cert.KernelIdeal.κ "gelu_c" .bf16 0x3F4C#16 _ rfl,
      IdealRules.named_const.statement Cert.KernelIdeal.κ "gelu_3a" .bf16 0x3E09#16 _ rfl⟩,
    Cert.Gate.algebraic,
    trivial,
    Cert.Ffn.algebraic,
    trivial,
    Cert.FfnIn.algebraic,
    trivial,
    Cert.InProj.algebraic,
    trivial,
    Cert.DwFfnOut.algebraic,
    trivial,
    Cert.DwFfnGate.algebraic,
    trivial,
    Cert.DwFfnUp.algebraic,
    trivial,
    Cert.DwOut.algebraic,
    trivial,
    Cert.DwInU.algebraic,
    trivial,
    Cert.DwInG.algebraic,
    trivial,
    Cert.DwInQ.algebraic,
    trivial,
    Cert.DwInKv.algebraic,
    trivial,
    Cert.DwInZ.algebraic,
    trivial,
    Cert.FNorm.algebraic,
    trivial,
    Cert.FProj.algebraic,
    ⟨IdealRules.named_const.statement Cert.Kernel12Ideal.κ "gelu_a" .bf16 0x3D37#16 _ rfl,
      IdealRules.named_const.statement Cert.Kernel12Ideal.κ "gelu_c" .bf16 0x3F4C#16 _ rfl⟩,
    Cert.FMerge.algebraic,
    trivial,
    Cert.FFfnIn.algebraic,
    trivial,
    Cert.Conv.algebraic,
    trivial,
    Cert.FConv.algebraic,
    trivial,
    Cert.AdamIn.algebraic,
    trivial,
    Cert.AdamOut.algebraic,
    trivial,
    Cert.AdamFfn.algebraic,
    trivial,
    Cert.AdamGate.algebraic,
    trivial,
    Cert.AdamSmall.algebraic,
    trivial,
    Cert.SumSmall.algebraic⟩

end Cert.Proof

end
